-- ==== Defs.lean ====
def Pre_Kernel [hPre_groups_ok : Cert.Pre_groups_ok.Facts] (m : (ℓ : Loc Cert.Kernel.nD Cert.Kernel.τ Cert.Kernel.sig) → Buf (Elt Bits) ℓ) : Prop :=
  ∀ c : Dev Cert.Kernel.nD,
    (Cert.Pre_groups_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_ok : Cert.Pre_groups_ok.Facts] (m : (ℓ : Loc Cert.KernelIdeal.nD Cert.KernelIdeal.τ Cert.KernelIdeal.sig) → Buf (Elt Ideal) ℓ) : Prop :=
  ∀ c : Dev Cert.KernelIdeal.nD,
    (Cert.Pre_groups_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_ok : Cert.Pre_groups_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_ok : Cert.Pre_groups_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_ok : Cert.Pre_groups_ok.Facts) (hPre_inputs_ok : Cert.Pre_inputs_ok.Facts),
    quiescent_Kernel (hKernel := hKernel) (hPre_groups_ok := hPre_groups_ok)
    ∧ quiescent_KernelIdeal (hKernelIdeal := hKernelIdeal) (hPre_groups_ok := hPre_groups_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_groups_ok.lean ====
abbrev S32768x2048 : Shape := ⟨2, ![32768, 2048]⟩
abbrev S8 : Shape := ⟨1, ![8]⟩
abbrev S8x1024x6144 : Shape := ⟨3, ![8, 1024, 6144]⟩
abbrev S8x64x6144 : Shape := ⟨3, ![8, 64, 6144]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S32768x2048 .bf16) (main_arg1 : IVec S8 32) (main_arg2 : IVec S8x1024x6144 8) (main_arg3 : IVec S8x64x6144 8) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 32768#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 32768#32
  let main_v7 : IVec S_ 1 := cmpi .eq main_v6 main_c_3
  let main_v8 : IVec S_ 1 := andi main_v5 main_v7
  main_v8
-- ==== Pre_inputs_ok.lean ====
abbrev S32768x2048 : Shape := ⟨2, ![32768, 2048]⟩
abbrev S8 : Shape := ⟨1, ![8]⟩
abbrev S8x1024x6144 : Shape := ⟨3, ![8, 1024, 6144]⟩
abbrev S8x64x6144 : Shape := ⟨3, ![8, 64, 6144]⟩
abbrev S_ : Shape := ⟨0, ![]⟩

class Facts : Prop where
  natLt_8_32 : 8 < 32
  bcast_S_S8 : S_.BroadcastsInDim S8 (![] : Fin 0 → Fin S8.rank)
  reducesTo_S8_S_d0 : S8.ReducesTo [0] S_
  h_S_ : 0 < S_.numel
  bcast_S_S8x64x6144 : S_.BroadcastsInDim S8x64x6144 (![] : Fin 0 → Fin S8x64x6144.rank)
  reducesTo_S8x64x6144_S_d0_1_2 : S8x64x6144.ReducesTo [0, 1, 2] S_
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_

variable [Facts]

def fn_part1 {F : FTy → Type} [FloatOps F] (main_arg0 : FVec F S32768x2048 .bf16) (main_v9 : IVec S_ 1) (main_v15 : IVec S_ 1) : IVec S_ 1 :=
  let main_v16 : IVec S_ 1 := andi main_v9 main_v15
  let main_v17 : FVec F S32768x2048 .f32 := (extf .f32 · bitsLt_bf16_f32) main_arg0
  let main_v18 : FVec F S32768x2048 .f32 := Host.absf main_v17
  let main_cst : FVec F S_ .f32 := constant S_ .f32 0x7F800000#32
  let main_v19 : FVec F S32768x2048 .f32 := broadcastInDim S32768x2048 ![] bcast_S_S32768x2048 main_cst
  let main_v20 : IVec S32768x2048 1 := cmpf .olt main_v18 main_v19
  let main_c_7 : IVec S_ 1 := constantI S_ 1 1#1
  let main_v21 : IVec S_ 1 := (fun x v => Host.reduce IntOp.andi x v reducesTo_S32768x2048_S_d0_1 h_S_) main_v20 main_c_7
  let main_v22 : IVec S_ 1 := andi main_v16 main_v21
  main_v22

def fn {F : FTy → Type} [FloatOps F] (main_arg0 : FVec F S32768x2048 .bf16) (main_arg1 : IVec S8 32) (main_arg2 : IVec S8x1024x6144 8) (main_arg3 : IVec S8x64x6144 8) : IVec S_ 1 :=
  let main_v0 : IVec S8x64x6144 32 := (extui 32 · natLt_8_32) main_arg3
  let main_c : IVec S_ 32 := constantI S_ 32 0#32
  let main_v1 : IVec S8 32 := broadcastInDim S8 ![] bcast_S_S8 main_c
  let main_v2 : IVec S8 1 := cmpi .sge main_arg1 main_v1
  let main_c_0 : IVec S_ 32 := constantI S_ 32 32768#32
  let main_v3 : IVec S8 32 := broadcastInDim S8 ![] bcast_S_S8 main_c_0
  let main_v4 : IVec S8 1 := cmpi .sle main_arg1 main_v3
  let main_v5 : IVec S8 1 := andi main_v2 main_v4
  let main_c_1 : IVec S_ 1 := constantI S_ 1 1#1
  let main_v6 : IVec S_ 1 := (fun x v => Host.reduce IntOp.andi x v reducesTo_S8_S_d0 h_S_) main_v5 main_c_1
  let main_c_2 : IVec S_ 32 := constantI S_ 32 0#32
  let main_v7 : IVec S_ 32 := (fun x v => Host.reduce IntOp.addi x v reducesTo_S8_S_d0 h_S_) main_arg1 main_c_2
  let main_c_3 : IVec S_ 32 := constantI S_ 32 32768#32
  let main_v8 : IVec S_ 1 := cmpi .eq main_v7 main_c_3
  let main_v9 : IVec S_ 1 := andi main_v6 main_v8
  let main_c_4 : IVec S_ 32 := constantI S_ 32 1#32
  let main_v10 : IVec S8x64x6144 32 := broadcastInDim S8x64x6144 ![] bcast_S_S8x64x6144 main_c_4
  let main_v11 : IVec S8x64x6144 1 := cmpi .sge main_v0 main_v10
  let main_c_5 : IVec S_ 32 := constantI S_ 32 254#32
  let main_v12 : IVec S8x64x6144 32 := broadcastInDim S8x64x6144 ![] bcast_S_S8x64x6144 main_c_5
  let main_v13 : IVec S8x64x6144 1 := cmpi .sle main_v0 main_v12
  let main_v14 : IVec S8x64x6144 1 := andi main_v11 main_v13
  let main_c_6 : IVec S_ 1 := constantI S_ 1 1#1
  let main_v15 : IVec S_ 1 := (fun x v => Host.reduce IntOp.andi x v reducesTo_S8x64x6144_S_d0_1_2 h_S_) main_v14 main_c_6
  fn_part1 (F := F) main_arg0 main_v9 main_v15
-- ==== Kernel.lean ====
abbrev S32768x2048 : Shape := ⟨2, ![32768, 2048]⟩
abbrev S8 : Shape := ⟨1, ![8]⟩
abbrev S8x1024x6144 : Shape := ⟨3, ![8, 1024, 6144]⟩
abbrev S8x64x6144 : Shape := ⟨3, ![8, 64, 6144]⟩
abbrev S_ : Shape := ⟨0, ![]⟩
abbrev S71 : Shape := ⟨1, ![71]⟩
abbrev S71x1 : Shape := ⟨2, ![71, 1]⟩
abbrev S1x8 : Shape := ⟨2, ![1, 8]⟩
abbrev S71x8 : Shape := ⟨2, ![71, 8]⟩
abbrev S32768x6144 : Shape := ⟨2, ![32768, 6144]⟩
abbrev S512x2048 : Shape := ⟨2, ![512, 2048]⟩
abbrev S1 : Shape := ⟨1, ![1]⟩
abbrev S1x1024x6144 : Shape := ⟨3, ![1, 1024, 6144]⟩
abbrev S1x64x6144 : Shape := ⟨3, ![1, 64, 6144]⟩
abbrev S512x6144 : Shape := ⟨2, ![512, 6144]⟩
abbrev S2048x6144 : Shape := ⟨2, ![2048, 6144]⟩
abbrev S64x6144 : Shape := ⟨2, ![64, 6144]⟩
abbrev S1x64x128 : Shape := ⟨3, ![1, 64, 128]⟩
abbrev S64x128 : Shape := ⟨2, ![64, 128]⟩
abbrev S1x32x6144 : Shape := ⟨3, ![1, 32, 6144]⟩
abbrev S32x6144 : Shape := ⟨2, ![32, 6144]⟩
abbrev S8x6144 : Shape := ⟨2, ![8, 6144]⟩
abbrev S1x6144 : Shape := ⟨2, ![1, 6144]⟩
abbrev S16x6144 : Shape := ⟨2, ![16, 6144]⟩
abbrev S16x128 : Shape := ⟨2, ![16, 128]⟩
abbrev S16x128x1 : Shape := ⟨3, ![16, 128, 1]⟩
abbrev S512x1024 : Shape := ⟨2, ![512, 1024]⟩
abbrev S2048x1024 : Shape := ⟨2, ![2048, 1024]⟩

abbrev nBuf : Space → Nat
  | .hbm => 115
  | .vmem => 11
  | .smem => 4
  | _ => 0

abbrev bufTy : (tb : Table) → Fin (tcTables nBuf tb) → BufTy
  | .hbm, ⟨0, _⟩ => ⟨S32768x2048, .bf16⟩
  | .hbm, ⟨1, _⟩ => ⟨S8, .i32⟩
  | .hbm, ⟨2, _⟩ => ⟨S8x1024x6144, .i8⟩
  | .hbm, ⟨3, _⟩ => ⟨S8x64x6144, .i8⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S8, .i32⟩
  | .hbm, ⟨44, _⟩ => ⟨S8, .i1⟩
  | .hbm, ⟨45, _⟩ => ⟨S8, .i1⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S8, .i32⟩
  | .hbm, ⟨63, _⟩ => ⟨S71, .i32⟩
  | .hbm, ⟨64, _⟩ => ⟨S_, .i32⟩
  | .hbm, ⟨65, _⟩ => ⟨S_, .i32⟩
  | .hbm, ⟨66, _⟩ => ⟨S71, .i32⟩
  | .hbm, ⟨67, _⟩ => ⟨S71, .i32⟩
  | .hbm, ⟨68, _⟩ => ⟨S71x1, .i32⟩
  | .hbm, ⟨69, _⟩ => ⟨S1x8, .i32⟩
  | .hbm, ⟨70, _⟩ => ⟨S71x8, .i32⟩
  | .hbm, ⟨71, _⟩ => ⟨S71x8, .i32⟩
  | .hbm, ⟨72, _⟩ => ⟨S71x8, .i1⟩
  | .hbm, ⟨73, _⟩ => ⟨S71x8, .i32⟩
  | .hbm, ⟨74, _⟩ => ⟨S_, .i32⟩
  | .hbm, ⟨75, _⟩ => ⟨S_, .i32⟩
  | .hbm, ⟨76, _⟩ => ⟨S71, .i32⟩
  | .hbm, ⟨77, _⟩ => ⟨S71, .i1⟩
  | .hbm, ⟨78, _⟩ => ⟨S_, .i32⟩
  | .hbm, ⟨79, _⟩ => ⟨S71, .i32⟩
  | .hbm, ⟨80, _⟩ => ⟨S71, .i32⟩
  | .hbm, ⟨81, _⟩ => ⟨S71, .i32⟩
  | .hbm, ⟨82, _⟩ => ⟨S71x1, .i32⟩
  | .hbm, ⟨83, _⟩ => ⟨S71, .i32⟩
  | .hbm, ⟨84, _⟩ => ⟨S71, .i32⟩
  | .hbm, ⟨85, _⟩ => ⟨S8, .i32⟩
  | .hbm, ⟨86, _⟩ => ⟨S_, .i32⟩
  | .hbm, ⟨87, _⟩ => ⟨S71, .i32⟩
  | .hbm, ⟨88, _⟩ => ⟨S71, .i1⟩
  | .hbm, ⟨89, _⟩ => ⟨S_, .i32⟩
  | .hbm, ⟨90, _⟩ => ⟨S71, .i32⟩
  | .hbm, ⟨91, _⟩ => ⟨S71, .i32⟩
  | .hbm, ⟨92, _⟩ => ⟨S71, .i32⟩
  | .hbm, ⟨93, _⟩ => ⟨S71x1, .i32⟩
  | .hbm, ⟨94, _⟩ => ⟨S71, .i32⟩
  | .hbm, ⟨95, _⟩ => ⟨S_, .i32⟩
  | .hbm, ⟨96, _⟩ => ⟨S71, .i32⟩
  | .hbm, ⟨97, _⟩ => ⟨S71, .i1⟩
  | .hbm, ⟨98, _⟩ => ⟨S_, .i32⟩
  | .hbm, ⟨99, _⟩ => ⟨S71, .i32⟩
  | .hbm, ⟨100, _⟩ => ⟨S71, .i32⟩
  | .hbm, ⟨101, _⟩ => ⟨S71, .i32⟩
  | .hbm, ⟨102, _⟩ => ⟨S71x1, .i32⟩
  | .hbm, ⟨103, _⟩ => ⟨S71, .i32⟩
  | .hbm, ⟨104, _⟩ => ⟨S71, .i1⟩
  | .hbm, ⟨105, _⟩ => ⟨S_, .i32⟩
  | .hbm, ⟨106, _⟩ => ⟨S71, .i32⟩
  | .hbm, ⟨107, _⟩ => ⟨S71, .i1⟩
  | .hbm, ⟨108, _⟩ => ⟨S_, .i32⟩
  | .hbm, ⟨109, _⟩ => ⟨S71, .i32⟩
  | .hbm, ⟨110, _⟩ => ⟨S71, .i32⟩
  | .hbm, ⟨111, _⟩ => ⟨S71, .i32⟩
  | .hbm, ⟨112, _⟩ => ⟨S71x1, .i32⟩
  | .hbm, ⟨113, _⟩ => ⟨S71, .i32⟩
  | .hbm, ⟨114, _⟩ => ⟨S32768x6144, .bf16⟩
  | .local _ .vmem, ⟨0, _⟩ => ⟨S512x2048, .bf16⟩
  | .local _ .vmem, ⟨1, _⟩ => ⟨S512x2048, .bf16⟩
  | .local _ .vmem, ⟨2, _⟩ => ⟨S1x1024x6144, .i8⟩
  | .local _ .vmem, ⟨3, _⟩ => ⟨S1x1024x6144, .i8⟩
  | .local _ .vmem, ⟨4, _⟩ => ⟨S1x64x6144, .i8⟩
  | .local _ .vmem, ⟨5, _⟩ => ⟨S1x64x6144, .i8⟩
  | .local _ .vmem, ⟨6, _⟩ => ⟨S512x6144, .bf16⟩
  | .local _ .vmem, ⟨7, _⟩ => ⟨S512x6144, .bf16⟩
  | .local _ .vmem, ⟨8, _⟩ => ⟨S2048x6144, .bf16⟩
  | .local _ .vmem, ⟨9, _⟩ => ⟨S512x2048, .bf16⟩
  | .local _ .vmem, ⟨10, _⟩ => ⟨S64x6144, .i32⟩
  | .local _ .smem, ⟨0, _⟩ => ⟨S71, .i32⟩
  | .local _ .smem, ⟨1, _⟩ => ⟨S71, .i32⟩
  | .local _ .smem, ⟨2, _⟩ => ⟨S71, .i32⟩
  | .local _ .smem, ⟨3, _⟩ => ⟨S71, .i32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_c_5 : Ref sig .tc := ⟨.hbm, 58, rfl⟩
abbrev main_v12 : Ref sig .tc := ⟨.hbm, 59, rfl⟩
abbrev main_call4_call0_c : Ref sig .tc := ⟨.hbm, 60, rfl⟩
abbrev main_call4_call0_v0 : Ref sig .tc := ⟨.hbm, 61, rfl⟩
abbrev main_v13 : Ref sig .tc := ⟨.hbm, 62, rfl⟩
abbrev main_v14 : Ref sig .tc := ⟨.hbm, 63, rfl⟩
abbrev main_c_6 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_7 : Ref sig .tc := ⟨.hbm, 74, rfl⟩
abbrev main_c_8 : Ref sig .tc := ⟨.hbm, 75, rfl⟩
abbrev main_v25 : Ref sig .tc := ⟨.hbm, 76, rfl⟩
abbrev main_v26 : Ref sig .tc := ⟨.hbm, 77, rfl⟩
abbrev main_c_9 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_10 : Ref sig .tc := ⟨.hbm, 86, rfl⟩
abbrev main_v34 : Ref sig .tc := ⟨.hbm, 87, rfl⟩
abbrev main_v35 : Ref sig .tc := ⟨.hbm, 88, rfl⟩
abbrev main_c_11 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_c_12 : Ref sig .tc := ⟨.hbm, 95, rfl⟩
abbrev main_v42 : Ref sig .tc := ⟨.hbm, 96, rfl⟩
abbrev main_v43 : Ref sig .tc := ⟨.hbm, 97, rfl⟩
abbrev main_c_13 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v49 : Ref sig .tc := ⟨.hbm, 103, rfl⟩
abbrev main_v50 : Ref sig .tc := ⟨.hbm, 104, rfl⟩
abbrev main_c_14 : Ref sig .tc := ⟨.hbm, 105, rfl⟩
abbrev main_v51 : Ref sig .tc := ⟨.hbm, 106, rfl⟩
abbrev main_v52 : Ref sig .tc := ⟨.hbm, 107, rfl⟩
abbrev main_c_15 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v59 : Ref sig .tc := ⟨.hbm, 114, rfl⟩
abbrev main_v41 : Ref sig .tc := ⟨.smem, 0, rfl⟩
abbrev main_v24 : Ref sig .tc := ⟨.smem, 1, rfl⟩
abbrev main_v48 : Ref sig .tc := ⟨.smem, 2, rfl⟩
abbrev main_v58 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![71], ![false]⟩

abbrev pre0 : Pipeline.Prefetch sig := ⟨4, ![main_v41.idx, main_v24.idx, main_v48.idx, main_v58.idx], fun | 0 => main_v41.names | 1 => main_v24.names | 2 => main_v48.names | 3 => main_v58.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v10 : Index := Scalar.indexCast v1
  ![v10.toNat]
@[reducible] def k0_t1_loop : Scf.Loop 32 :=
  let c0_i32_5 : BitVec 32 := 0#32
  let c48_i32 : BitVec 32 := 48#32
  let v29 : BitVec 32 := Scalar.addi c0_i32_5 c48_i32
  let c1_i32_6 : BitVec 32 := 1#32
  ⟨c0_i32_5, v29, c1_i32_6⟩
def k0_off3 (k0_t1 : Fin k0_t1_loop.trips) : Fin 3 → Nat :=
  let c0 : Index := 0#32
  let c0_11 : Index := 0#32
  let c0_i32_5 : BitVec 32 := 0#32
  let c1_i32_6 : BitVec 32 := 1#32
  let arg12 : BitVec 32 := Scf.iv c0_i32_5 c1_i32_6 k0_t1
  let c128_i32 : BitVec 32 := 128#32
  let v31 : BitVec 32 := Scalar.muli arg12 c128_i32
  let v32 : Index := Scalar.indexCast v31
  ![0, 0, v32.toNat]
def k0_off4 (k0_t1 : Fin k0_t1_loop.trips) : Fin 2 → Nat :=
  let c0_12 : Index := 0#32
  let c0_i32_5 : BitVec 32 := 0#32
  let c1_i32_6 : BitVec 32 := 1#32
  let arg12 : BitVec 32 := Scf.iv c0_i32_5 c1_i32_6 k0_t1
  let c128_i32 : BitVec 32 := 128#32
  let v31 : BitVec 32 := Scalar.muli arg12 c128_i32
  let v41 : Index := Scalar.indexCast v31
  ![0, v41.toNat]
@[reducible] def k0_t2_loop : Scf.Loop 32 :=
  let c0_i32_8 : BitVec 32 := 0#32
  let c32_i32 : BitVec 32 := 32#32
  let v30 : BitVec 32 := Scalar.addi c0_i32_8 c32_i32
  let c1_i32_9 : BitVec 32 := 1#32
  ⟨c0_i32_8, v30, c1_i32_9⟩
def k0_mult1 (k0_t2 : Fin k0_t2_loop.trips) : BitVec 32 :=
  let c0_i32_8 : BitVec 32 := 0#32
  let c1_i32_9 : BitVec 32 := 1#32
  let arg12 : BitVec 32 := Scf.iv c0_i32_8 c1_i32_9 k0_t2
  let c32_i32_11 : BitVec 32 := 32#32
  let v31 : BitVec 32 := Scalar.muli arg12 c32_i32_11
  v31
def k0_off5 (k0_t2 : Fin k0_t2_loop.trips) : Fin 3 → Nat :=
  let c0 : Index := 0#32
  let c0_i32_8 : BitVec 32 := 0#32
  let c1_i32_9 : BitVec 32 := 1#32
  let arg12 : BitVec 32 := Scf.iv c0_i32_8 c1_i32_9 k0_t2
  let c32_i32_11 : BitVec 32 := 32#32
  let v31 : BitVec 32 := Scalar.muli arg12 c32_i32_11
  let v32 : BitVec 32 := v31
  let v33 : Index := Scalar.indexCast v32
  let c0_12 : Index := 0#32
  ![0, v33.toNat, 0]
def k0_off6 (k0_t2 : Fin k0_t2_loop.trips) : Fin 2 → Nat :=
  let c0_i32_8 : BitVec 32 := 0#32
  let c1_i32_9 : BitVec 32 := 1#32
  let arg12 : BitVec 32 := Scf.iv c0_i32_8 c1_i32_9 k0_t2
  let v55 : Index := Scalar.indexCast arg12
  let c0_17 : Index := 0#32
  ![v55.toNat, 0]
def k0_mult2 (k0_t2 : Fin k0_t2_loop.trips) : BitVec 32 :=
  let c0_i32_8 : BitVec 32 := 0#32
  let c1_i32_9 : BitVec 32 := 1#32
  let arg12 : BitVec 32 := Scf.iv c0_i32_8 c1_i32_9 k0_t2
  let c32_i32_11 : BitVec 32 := 32#32
  let v31 : BitVec 32 := Scalar.muli arg12 c32_i32_11
  let v32 : BitVec 32 := v31
  v32
def k0_off7 (k0_t2 : Fin k0_t2_loop.trips) : Fin 2 → Nat :=
  let c0_i32_8 : BitVec 32 := 0#32
  let c1_i32_9 : BitVec 32 := 1#32
  let arg12 : BitVec 32 := Scf.iv c0_i32_8 c1_i32_9 k0_t2
  let c32_i32_11 : BitVec 32 := 32#32
  let v31 : BitVec 32 := Scalar.muli arg12 c32_i32_11
  let v32 : BitVec 32 := v31
  let v65 : BitVec 32 := v32
  let v66 : Index := Scalar.indexCast v65
  let c0_18 : Index := 0#32
  ![v66.toNat, 0]
def k0_off8 (k0_t2 : Fin k0_t2_loop.trips) : Fin 2 → Nat :=
  let c0_i32_8 : BitVec 32 := 0#32
  let c1_i32_9 : BitVec 32 := 1#32
  let arg12 : BitVec 32 := Scf.iv c0_i32_8 c1_i32_9 k0_t2
  let c32_i32_16 : BitVec 32 := 32#32
  let v53 : BitVec 32 := Scalar.addi arg12 c32_i32_16
  let v70 : Index := Scalar.indexCast v53
  let c0_19 : Index := 0#32
  ![v70.toNat, 0]
def k0_mult3 (k0_t2 : Fin k0_t2_loop.trips) : BitVec 32 :=
  let c0_i32_8 : BitVec 32 := 0#32
  let c1_i32_9 : BitVec 32 := 1#32
  let arg12 : BitVec 32 := Scf.iv c0_i32_8 c1_i32_9 k0_t2
  let c32_i32_11 : BitVec 32 := 32#32
  let v31 : BitVec 32 := Scalar.muli arg12 c32_i32_11
  let v32 : BitVec 32 := v31
  let c1024_i32 : BitVec 32 := 1024#32
  let v54 : BitVec 32 := Scalar.addi v32 c1024_i32
  v54
def k0_off9 (k0_t2 : Fin k0_t2_loop.trips) : Fin 2 → Nat :=
  let c0_i32_8 : BitVec 32 := 0#32
  let c1_i32_9 : BitVec 32 := 1#32
  let arg12 : BitVec 32 := Scf.iv c0_i32_8 c1_i32_9 k0_t2
  let c32_i32_11 : BitVec 32 := 32#32
  let v31 : BitVec 32 := Scalar.muli arg12 c32_i32_11
  let v32 : BitVec 32 := v31
  let c1024_i32 : BitVec 32 := 1024#32
  let v54 : BitVec 32 := Scalar.addi v32 c1024_i32
  let v80 : BitVec 32 := v54
  let v81 : Index := Scalar.indexCast v80
  let c0_21 : Index := 0#32
  ![v81.toNat, 0]
@[reducible] def k0_t3_loop : Scf.Loop 32 :=
  let c0_i32_5 : BitVec 32 := 0#32
  let c32_i32 : BitVec 32 := 32#32
  let v32 : BitVec 32 := Scalar.addi c0_i32_5 c32_i32
  let c1_i32_6 : BitVec 32 := 1#32
  ⟨c0_i32_5, v32, c1_i32_6⟩
def k0_mult4 (k0_t3 : Fin k0_t3_loop.trips) : BitVec 32 :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  v33
def k0_off10 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v35 : Index := Scalar.indexCast v34
  let c0 : Index := 0#32
  ![v35.toNat, 0]
def k0_off11 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v130 : Index := Scalar.indexCast v34
  let c128 : Index := 128#32
  ![v130.toNat, 128]
def k0_off12 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v225 : Index := Scalar.indexCast v34
  let c256 : Index := 256#32
  ![v225.toNat, 256]
def k0_off13 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v320 : Index := Scalar.indexCast v34
  let c384 : Index := 384#32
  ![v320.toNat, 384]
def k0_off14 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v415 : Index := Scalar.indexCast v34
  let c512 : Index := 512#32
  ![v415.toNat, 512]
def k0_off15 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v510 : Index := Scalar.indexCast v34
  let c640 : Index := 640#32
  ![v510.toNat, 640]
def k0_off16 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v605 : Index := Scalar.indexCast v34
  let c768 : Index := 768#32
  ![v605.toNat, 768]
def k0_off17 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v700 : Index := Scalar.indexCast v34
  let c896 : Index := 896#32
  ![v700.toNat, 896]
def k0_off18 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v795 : Index := Scalar.indexCast v34
  let c1024 : Index := 1024#32
  ![v795.toNat, 1024]
def k0_off19 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v890 : Index := Scalar.indexCast v34
  let c1152 : Index := 1152#32
  ![v890.toNat, 1152]
def k0_off20 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v985 : Index := Scalar.indexCast v34
  let c1280 : Index := 1280#32
  ![v985.toNat, 1280]
def k0_off21 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v1080 : Index := Scalar.indexCast v34
  let c1408 : Index := 1408#32
  ![v1080.toNat, 1408]
def k0_off22 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v1175 : Index := Scalar.indexCast v34
  let c1536 : Index := 1536#32
  ![v1175.toNat, 1536]
def k0_off23 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v1270 : Index := Scalar.indexCast v34
  let c1664 : Index := 1664#32
  ![v1270.toNat, 1664]
def k0_off24 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v1365 : Index := Scalar.indexCast v34
  let c1792 : Index := 1792#32
  ![v1365.toNat, 1792]
def k0_off25 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c16_i32 : BitVec 32 := 16#32
  let v33 : BitVec 32 := Scalar.muli arg12 c16_i32
  let v34 : BitVec 32 := v33
  let v1460 : Index := Scalar.indexCast v34
  let c1920 : Index := 1920#32
  ![v1460.toNat, 1920]
def k0_off26 (i : grid0.Coords) : Fin 1 → Nat :=
  let arg0 : BitVec 32 := BitVec.ofNat 32 (i 0).val
  let v30 : Index := Scalar.indexCast arg0
  ![v30.toNat]
def k0_cond3 (v3 : BitVec 32) (v5 : BitVec 32) : BitVec 1 :=
  let v6 : BitVec 1 := Scalar.cmpi .sgt v5 v3
  let v27 : BitVec 32 := Scalar.extui v6
  let c0_i32_4 : BitVec 32 := 0#32
  let v28 : BitVec 1 := Scalar.cmpi .ne v27 c0_i32_4
  v28

def cc0_transform_0 (k0_off1_inb : ∀ i : grid0.Coords, ∀ a, (k0_off1 i) a + S1.size a ≤ S71.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S71.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x6144 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x2048 : Shape := ⟨2, ![32768, 2048]⟩
abbrev S8 : Shape := ⟨1, ![8]⟩
abbrev S8x1024x6144 : Shape := ⟨3, ![8, 1024, 6144]⟩
abbrev S8x64x6144 : Shape := ⟨3, ![8, 64, 6144]⟩
abbrev S32768x64x32 : Shape := ⟨3, ![32768, 64, 32]⟩
abbrev S_ : Shape := ⟨0, ![]⟩
abbrev S32768x64 : Shape := ⟨2, ![32768, 64]⟩
abbrev S32768x64x1 : Shape := ⟨3, ![32768, 64, 1]⟩
abbrev S8x1x1024x6144 : Shape := ⟨4, ![8, 1, 1024, 6144]⟩
abbrev S8x2x1024x6144 : Shape := ⟨4, ![8, 2, 1024, 6144]⟩
abbrev S8x2048x6144 : Shape := ⟨3, ![8, 2048, 6144]⟩
abbrev S8x64x32x6144 : Shape := ⟨4, ![8, 64, 32, 6144]⟩
abbrev S8x64x1x6144 : Shape := ⟨4, ![8, 64, 1, 6144]⟩
abbrev S32768 : Shape := ⟨1, ![32768]⟩
abbrev S32768x1 : Shape := ⟨2, ![32768, 1]⟩
abbrev S32768x6144 : Shape := ⟨2, ![32768, 6144]⟩
abbrev S1 : Shape := ⟨1, ![1]⟩
abbrev S1x2048x6144 : Shape := ⟨3, ![1, 2048, 6144]⟩
abbrev S2048x6144 : Shape := ⟨2, ![2048, 6144]⟩

abbrev nBuf : Space → Nat
  | .hbm => 279
  | .vmem => 0
  | .smem => 0
  | _ => 0

abbrev hbmTy0_0 (i : Nat) : BufTy := match i % 128 with
  | 0 => ⟨S32768x2048, .bf16⟩
  | 1 => ⟨S8, .i32⟩
  | 2 => ⟨S8x1024x6144, .i8⟩
  | 3 => ⟨S8x64x6144, .i8⟩
  | 4 => ⟨S32768x2048, .f32⟩
  | 5 => ⟨S32768x64x32, .f32⟩
  | 6 => ⟨S32768x64x32, .f32⟩
  | 7 => ⟨S_, .f32⟩
  | 8 => ⟨S32768x64, .f32⟩
  | 9 => ⟨S_, .f32⟩
  | 10 => ⟨S32768x64, .f32⟩
  | 11 => ⟨S32768x64, .f32⟩
  | 12 => ⟨S32768x64, .f32⟩
  | 13 => ⟨S_, .f32⟩
  | 14 => ⟨S_, .f32⟩
  | 15 => ⟨S32768x64, .f32⟩
  | 16 => ⟨S32768x64, .f32⟩
  | 17 => ⟨S32768x64, .f32⟩
  | 18 => ⟨S_, .f32⟩
  | 19 => ⟨S32768x64, .f32⟩
  | 20 => ⟨S32768x64, .f32⟩
  | 21 => ⟨S_, .f32⟩
  | 22 => ⟨S32768x64, .f32⟩
  | 23 => ⟨S32768x64, .i1⟩
  | 24 => ⟨S_, .f32⟩
  | 25 => ⟨S_, .f32⟩
  | 26 => ⟨S32768x64, .f32⟩
  | 27 => ⟨S32768x64, .f32⟩
  | 28 => ⟨S32768x64, .f32⟩
  | 29 => ⟨S_, .f32⟩
  | 30 => ⟨S32768x64, .f32⟩
  | 31 => ⟨S32768x64, .f32⟩
  | 32 => ⟨S32768x64x1, .f32⟩
  | 33 => ⟨S32768x64x32, .f32⟩
  | 34 => ⟨S32768x64x32, .f32⟩
  | 35 => ⟨S_, .f32⟩
  | 36 => ⟨S_, .f32⟩
  | 37 => ⟨S_, .f32⟩
  | 38 => ⟨S32768x64x32, .f32⟩
  | 39 => ⟨S32768x64x32, .f32⟩
  | 40 => ⟨S_, .f32⟩
  | 41 => ⟨S32768x64x32, .f32⟩
  | 42 => ⟨S32768x64x32, .f32⟩
  | 43 => ⟨S_, .f32⟩
  | 44 => ⟨S32768x64, .f32⟩
  | 45 => ⟨S32768x64, .f32⟩
  | 46 => ⟨S32768x64, .bf16⟩
  | 47 => ⟨S32768x64x32, .bf16⟩
  | 48 => ⟨S32768x64x1, .bf16⟩
  | 49 => ⟨S32768x64x32, .bf16⟩
  | 50 => ⟨S32768x64x32, .bf16⟩
  | 51 => ⟨S32768x2048, .bf16⟩
  | 52 => ⟨S8x1024x6144, .i32⟩
  | 53 => ⟨S_, .i32⟩
  | 54 => ⟨S8x1024x6144, .i32⟩
  | 55 => ⟨S8x1024x6144, .i32⟩
  | 56 => ⟨S_, .i32⟩
  | 57 => ⟨S8x1024x6144, .i32⟩
  | 58 => ⟨S8x1024x6144, .i32⟩
  | 59 => ⟨S8x1x1024x6144, .i32⟩
  | 60 => ⟨S8x1x1024x6144, .i32⟩
  | 61 => ⟨S8x2x1024x6144, .i32⟩
  | 62 => ⟨S8x2048x6144, .i32⟩
  | 63 => ⟨S_, .i32⟩
  | 64 => ⟨S8x2048x6144, .i32⟩
  | 65 => ⟨S8x2048x6144, .i32⟩
  | 66 => ⟨S_, .i32⟩
  | 67 => ⟨S8x2048x6144, .i32⟩
  | 68 => ⟨S8x2048x6144, .i1⟩
  | 69 => ⟨S_, .i32⟩
  | 70 => ⟨S8x2048x6144, .i32⟩
  | 71 => ⟨S8x2048x6144, .i32⟩
  | 72 => ⟨S_, .i32⟩
  | 73 => ⟨S8x2048x6144, .i32⟩
  | 74 => ⟨S8x2048x6144, .i32⟩
  | 75 => ⟨S_, .i32⟩
  | 76 => ⟨S8x2048x6144, .i32⟩
  | 77 => ⟨S8x2048x6144, .i1⟩
  | 78 => ⟨S_, .i32⟩
  | 79 => ⟨S8x2048x6144, .i32⟩
  | 80 => ⟨S8x2048x6144, .i32⟩
  | 81 => ⟨S_, .i32⟩
  | 82 => ⟨S8x2048x6144, .i32⟩
  | 83 => ⟨S8x2048x6144, .i32⟩
  | 84 => ⟨S_, .i32⟩
  | 85 => ⟨S8x2048x6144, .i32⟩
  | 86 => ⟨S8x2048x6144, .i1⟩
  | 87 => ⟨S_, .i32⟩
  | 88 => ⟨S8x2048x6144, .i32⟩
  | 89 => ⟨S8x2048x6144, .i32⟩
  | 90 => ⟨S_, .i32⟩
  | 91 => ⟨S8x2048x6144, .i32⟩
  | 92 => ⟨S8x2048x6144, .i32⟩
  | 93 => ⟨S_, .i32⟩
  | 94 => ⟨S8x2048x6144, .i32⟩
  | 95 => ⟨S8x2048x6144, .i1⟩
  | 96 => ⟨S_, .bf16⟩
  | 97 => ⟨S_, .bf16⟩
  | 98 => ⟨S8x2048x6144, .bf16⟩
  | 99 => ⟨S8x2048x6144, .bf16⟩
  | 100 => ⟨S8x2048x6144, .bf16⟩
  | 101 => ⟨S_, .bf16⟩
  | 102 => ⟨S_, .bf16⟩
  | 103 => ⟨S8x2048x6144, .bf16⟩
  | 104 => ⟨S8x2048x6144, .bf16⟩
  | 105 => ⟨S8x2048x6144, .bf16⟩
  | 106 => ⟨S8x2048x6144, .bf16⟩
  | 107 => ⟨S_, .bf16⟩
  | 108 => ⟨S_, .bf16⟩
  | 109 => ⟨S8x2048x6144, .bf16⟩
  | 110 => ⟨S8x2048x6144, .bf16⟩
  | 111 => ⟨S8x2048x6144, .bf16⟩
  | 112 => ⟨S_, .bf16⟩
  | 113 => ⟨S_, .bf16⟩
  | 114 => ⟨S8x2048x6144, .bf16⟩
  | 115 => ⟨S8x2048x6144, .bf16⟩
  | 116 => ⟨S8x2048x6144, .bf16⟩
  | 117 => ⟨S8x2048x6144, .bf16⟩
  | 118 => ⟨S8x2048x6144, .bf16⟩
  | 119 => ⟨S8x2048x6144, .bf16⟩
  | 120 => ⟨S8x2048x6144, .bf16⟩
  | 121 => ⟨S8x64x32x6144, .bf16⟩
  | 122 => ⟨S8x64x6144, .i32⟩
  | 123 => ⟨S_, .i32⟩
  | 124 => ⟨S8x64x6144, .i32⟩
  | 125 => ⟨S8x64x6144, .i32⟩
  | 126 => ⟨S8x64x6144, .f32⟩
  | 127 => ⟨S_, .f32⟩
  | _ => ⟨S32768x2048, .bf16⟩

abbrev hbmTy0_1 (i : Nat) : BufTy := match i % 128 with
  | 0 => ⟨S8x64x6144, .f32⟩
  | 1 => ⟨S8x64x6144, .f32⟩
  | 2 => ⟨S8x64x6144, .bf16⟩
  | 3 => ⟨S8x64x1x6144, .bf16⟩
  | 4 => ⟨S8x64x32x6144, .bf16⟩
  | 5 => ⟨S8x64x32x6144, .bf16⟩
  | 6 => ⟨S8x2048x6144, .bf16⟩
  | 7 => ⟨S_, .i32⟩
  | 8 => ⟨S_, .i32⟩
  | 9 => ⟨S8, .i32⟩
  | 10 => ⟨S32768, .i32⟩
  | 11 => ⟨S32768x1, .i32⟩
  | 12 => ⟨S_, .f32⟩
  | 13 => ⟨S32768x6144, .f32⟩
  | 14 => ⟨S1, .i32⟩
  | 15 => ⟨S_, .i32⟩
  | 16 => ⟨S1, .i32⟩
  | 17 => ⟨S_, .i32⟩
  | 18 => ⟨S_, .i32⟩
  | 19 => ⟨S32768x1, .i32⟩
  | 20 => ⟨S32768x1, .i1⟩
  | 21 => ⟨S1, .i32⟩
  | 22 => ⟨S_, .i32⟩
  | 23 => ⟨S32768x1, .i32⟩
  | 24 => ⟨S32768x1, .i1⟩
  | 25 => ⟨S32768x1, .i1⟩
  | 26 => ⟨S1x2048x6144, .bf16⟩
  | 27 => ⟨S2048x6144, .bf16⟩
  | 28 => ⟨S32768x6144, .f32⟩
  | 29 => ⟨S32768x6144, .i1⟩
  | 30 => ⟨S32768x6144, .f32⟩
  | 31 => ⟨S1, .i32⟩
  | 32 => ⟨S_, .i32⟩
  | 33 => ⟨S1, .i32⟩
  | 34 => ⟨S_, .i32⟩
  | 35 => ⟨S_, .i32⟩
  | 36 => ⟨S32768x1, .i32⟩
  | 37 => ⟨S32768x1, .i1⟩
  | 38 => ⟨S1, .i32⟩
  | 39 => ⟨S_, .i32⟩
  | 40 => ⟨S32768x1, .i32⟩
  | 41 => ⟨S32768x1, .i1⟩
  | 42 => ⟨S32768x1, .i1⟩
  | 43 => ⟨S1x2048x6144, .bf16⟩
  | 44 => ⟨S2048x6144, .bf16⟩
  | 45 => ⟨S32768x6144, .f32⟩
  | 46 => ⟨S32768x6144, .i1⟩
  | 47 => ⟨S32768x6144, .f32⟩
  | 48 => ⟨S1, .i32⟩
  | 49 => ⟨S_, .i32⟩
  | 50 => ⟨S1, .i32⟩
  | 51 => ⟨S_, .i32⟩
  | 52 => ⟨S_, .i32⟩
  | 53 => ⟨S32768x1, .i32⟩
  | 54 => ⟨S32768x1, .i1⟩
  | 55 => ⟨S1, .i32⟩
  | 56 => ⟨S_, .i32⟩
  | 57 => ⟨S32768x1, .i32⟩
  | 58 => ⟨S32768x1, .i1⟩
  | 59 => ⟨S32768x1, .i1⟩
  | 60 => ⟨S1x2048x6144, .bf16⟩
  | 61 => ⟨S2048x6144, .bf16⟩
  | 62 => ⟨S32768x6144, .f32⟩
  | 63 => ⟨S32768x6144, .i1⟩
  | 64 => ⟨S32768x6144, .f32⟩
  | 65 => ⟨S1, .i32⟩
  | 66 => ⟨S_, .i32⟩
  | 67 => ⟨S1, .i32⟩
  | 68 => ⟨S_, .i32⟩
  | 69 => ⟨S_, .i32⟩
  | 70 => ⟨S32768x1, .i32⟩
  | 71 => ⟨S32768x1, .i1⟩
  | 72 => ⟨S1, .i32⟩
  | 73 => ⟨S_, .i32⟩
  | 74 => ⟨S32768x1, .i32⟩
  | 75 => ⟨S32768x1, .i1⟩
  | 76 => ⟨S32768x1, .i1⟩
  | 77 => ⟨S1x2048x6144, .bf16⟩
  | 78 => ⟨S2048x6144, .bf16⟩
  | 79 => ⟨S32768x6144, .f32⟩
  | 80 => ⟨S32768x6144, .i1⟩
  | 81 => ⟨S32768x6144, .f32⟩
  | 82 => ⟨S1, .i32⟩
  | 83 => ⟨S_, .i32⟩
  | 84 => ⟨S1, .i32⟩
  | 85 => ⟨S_, .i32⟩
  | 86 => ⟨S_, .i32⟩
  | 87 => ⟨S32768x1, .i32⟩
  | 88 => ⟨S32768x1, .i1⟩
  | 89 => ⟨S1, .i32⟩
  | 90 => ⟨S_, .i32⟩
  | 91 => ⟨S32768x1, .i32⟩
  | 92 => ⟨S32768x1, .i1⟩
  | 93 => ⟨S32768x1, .i1⟩
  | 94 => ⟨S1x2048x6144, .bf16⟩
  | 95 => ⟨S2048x6144, .bf16⟩
  | 96 => ⟨S32768x6144, .f32⟩
  | 97 => ⟨S32768x6144, .i1⟩
  | 98 => ⟨S32768x6144, .f32⟩
  | 99 => ⟨S1, .i32⟩
  | 100 => ⟨S_, .i32⟩
  | 101 => ⟨S1, .i32⟩
  | 102 => ⟨S_, .i32⟩
  | 103 => ⟨S_, .i32⟩
  | 104 => ⟨S32768x1, .i32⟩
  | 105 => ⟨S32768x1, .i1⟩
  | 106 => ⟨S1, .i32⟩
  | 107 => ⟨S_, .i32⟩
  | 108 => ⟨S32768x1, .i32⟩
  | 109 => ⟨S32768x1, .i1⟩
  | 110 => ⟨S32768x1, .i1⟩
  | 111 => ⟨S1x2048x6144, .bf16⟩
  | 112 => ⟨S2048x6144, .bf16⟩
  | 113 => ⟨S32768x6144, .f32⟩
  | 114 => ⟨S32768x6144, .i1⟩
  | 115 => ⟨S32768x6144, .f32⟩
  | 116 => ⟨S1, .i32⟩
  | 117 => ⟨S_, .i32⟩
  | 118 => ⟨S1, .i32⟩
  | 119 => ⟨S_, .i32⟩
  | 120 => ⟨S_, .i32⟩
  | 121 => ⟨S32768x1, .i32⟩
  | 122 => ⟨S32768x1, .i1⟩
  | 123 => ⟨S1, .i32⟩
  | 124 => ⟨S_, .i32⟩
  | 125 => ⟨S32768x1, .i32⟩
  | 126 => ⟨S32768x1, .i1⟩
  | 127 => ⟨S32768x1, .i1⟩
  | _ => ⟨S32768x2048, .bf16⟩

abbrev hbmTy0_2 (i : Nat) : BufTy := match i % 128 with
  | 0 => ⟨S1x2048x6144, .bf16⟩
  | 1 => ⟨S2048x6144, .bf16⟩
  | 2 => ⟨S32768x6144, .f32⟩
  | 3 => ⟨S32768x6144, .i1⟩
  | 4 => ⟨S32768x6144, .f32⟩
  | 5 => ⟨S1, .i32⟩
  | 6 => ⟨S_, .i32⟩
  | 7 => ⟨S1, .i32⟩
  | 8 => ⟨S_, .i32⟩
  | 9 => ⟨S_, .i32⟩
  | 10 => ⟨S32768x1, .i32⟩
  | 11 => ⟨S32768x1, .i1⟩
  | 12 => ⟨S1, .i32⟩
  | 13 => ⟨S_, .i32⟩
  | 14 => ⟨S32768x1, .i32⟩
  | 15 => ⟨S32768x1, .i1⟩
  | 16 => ⟨S32768x1, .i1⟩
  | 17 => ⟨S1x2048x6144, .bf16⟩
  | 18 => ⟨S2048x6144, .bf16⟩
  | 19 => ⟨S32768x6144, .f32⟩
  | 20 => ⟨S32768x6144, .i1⟩
  | 21 => ⟨S32768x6144, .f32⟩
  | 22 => ⟨S32768x6144, .bf16⟩
  | _ => ⟨S32768x2048, .bf16⟩

abbrev hbmTy (i : Nat) : BufTy := match i / 128 with
  | 0 => hbmTy0_0 i
  | 1 => hbmTy0_1 i
  | 2 => hbmTy0_2 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_v46 : Ref sig .tc := ⟨.hbm, 73, rfl⟩
abbrev main_v47 : Ref sig .tc := ⟨.hbm, 74, rfl⟩
abbrev main_c_14 : Ref sig .tc := ⟨.hbm, 75, rfl⟩
abbrev main_v48 : Ref sig .tc := ⟨.hbm, 76, rfl⟩
abbrev main_v49 : Ref sig .tc := ⟨.hbm, 77, rfl⟩
abbrev main_c_15 : Ref sig .tc := ⟨.hbm, 78, rfl⟩
abbrev main_v50 : Ref sig .tc := ⟨.hbm, 79, rfl⟩
abbrev main_v51 : Ref sig .tc := ⟨.hbm, 80, rfl⟩
abbrev main_c_16 : Ref sig .tc := ⟨.hbm, 81, rfl⟩
abbrev main_v52 : Ref sig .tc := ⟨.hbm, 82, rfl⟩
abbrev main_v53 : Ref sig .tc := ⟨.hbm, 83, rfl⟩
abbrev main_c_17 : Ref sig .tc := ⟨.hbm, 84, rfl⟩
abbrev main_v54 : Ref sig .tc := ⟨.hbm, 85, rfl⟩
abbrev main_v55 : Ref sig .tc := ⟨.hbm, 86, rfl⟩
abbrev main_c_18 : Ref sig .tc := ⟨.hbm, 87, rfl⟩
abbrev main_v56 : Ref sig .tc := ⟨.hbm, 88, rfl⟩
abbrev main_v57 : Ref sig .tc := ⟨.hbm, 89, rfl⟩
abbrev main_c_19 : Ref sig .tc := ⟨.hbm, 90, rfl⟩
abbrev main_v58 : Ref sig .tc := ⟨.hbm, 91, rfl⟩
abbrev main_v59 : Ref sig .tc := ⟨.hbm, 92, rfl⟩
abbrev main_c_20 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_cst_22 : Ref sig .tc := ⟨.hbm, 97, rfl⟩
abbrev main_call2_v0 : Ref sig .tc := ⟨.hbm, 98, rfl⟩
abbrev main_call2_v1 : Ref sig .tc := ⟨.hbm, 99, rfl⟩
abbrev main_v62 : Ref sig .tc := ⟨.hbm, 100, rfl⟩
abbrev main_cst_23 : Ref sig .tc := ⟨.hbm, 101, rfl⟩
abbrev main_cst_24 : Ref sig .tc := ⟨.hbm, 102, rfl⟩
abbrev main_call3_v0 : Ref sig .tc := ⟨.hbm, 103, rfl⟩
abbrev main_call3_v1 : Ref sig .tc := ⟨.hbm, 104, rfl⟩
abbrev main_v63 : Ref sig .tc := ⟨.hbm, 105, rfl⟩
abbrev main_v64 : Ref sig .tc := ⟨.hbm, 106, rfl⟩
abbrev main_cst_25 : Ref sig .tc := ⟨.hbm, 107, rfl⟩
abbrev main_cst_26 : Ref sig .tc := ⟨.hbm, 108, rfl⟩
abbrev main_call5_v0 : Ref sig .tc := ⟨.hbm, 109, rfl⟩
abbrev main_call5_v1 : Ref sig .tc := ⟨.hbm, 110, rfl⟩
abbrev main_v65 : Ref sig .tc := ⟨.hbm, 111, rfl⟩
abbrev main_cst_27 : Ref sig .tc := ⟨.hbm, 112, rfl⟩
abbrev main_cst_28 : Ref sig .tc := ⟨.hbm, 113, rfl⟩
abbrev main_call6_v0 : Ref sig .tc := ⟨.hbm, 114, rfl⟩
abbrev main_call6_v1 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_29 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_30 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call10_call0_c : Ref sig .tc := ⟨.hbm, 135, rfl⟩
abbrev main_call10_call0_v0 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_31 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_call11_v0 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_call12_v0 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_call13_v0 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_call14_v0 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_call15_v0 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_call16_v0 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_call17_v0 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_call18_v0 : Ref sig .tc := ⟨.hbm, 276, rfl⟩
abbrev main_v214 : Ref sig .tc := ⟨.hbm, 277, rfl⟩
abbrev main_v215 : Ref sig .tc := ⟨.hbm, 278, rfl⟩

abbrev nD : Nat := 1
abbrev τ : Topo := Topo.v7x

variable {F : FTy → Type} [FloatOps F]
-- ==== Proof.BodyIdeal.lean ====
module

public import proofs.«01_k».proof.Proof.Gen.KernelIdeal.Loops
public import Idealize.ShloMosaic.Lib.Tactic.Stretches

/-! The kernel body at one grid point, run once: from the tables, the three input blocks, the output
block and the three scratch buffers at any contents to what it leaves in each of them. The decoded
weights are rewritten only where the expert changes, the scaled rows only where the row tile changes,
and the output block only where the visit is a real one. -/

@[expose] public section

set_option maxRecDepth 100000
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts

variable {F : FTy → Type} [FloatOps F]
local notation "𝕄G" => MT nD τ sig Unit (Elt F) ℕ (UR sig nD τ) ℕ

/-- The word a table holds at an offset, as the body's scalar load reads it. -/
def wordAt (M : Memref sig .tc .smem S71 .i32) (X : BufTy.Contents (Elt F) M.view.ty) (off : Fin 1 → Nat)
    (h : ∀ a, off a + S1.size a ≤ S71.size a) : BitVec 32 :=
  View.readAt (Elt F) M.view (Rect.unit (s := S71) off S1.size h).toLoadRect X (Shape.Idx.first numel1_S1.ge)

/-- The visit is a real one: its row range is not empty. -/
def condV (i : grid0.Coords) (arg3 arg4 : Memref sig .tc .smem S71 .i32) (X3 : BufTy.Contents (Elt F) arg3.view.ty) (X4 : BufTy.Contents (Elt F) arg4.view.ty) : BitVec 1 :=
  Scalar.cmpi .sgt (wordAt arg4 X4 (k0_off1 i) (k0_off1_inb i)) (wordAt arg3 X3 (k0_off1 i) (k0_off1_inb i))

/-- The visit is a real one and the first, or the table's entry differs from the previous visit's. -/
def condN (i : grid0.Coords) (arg2 arg3 arg4 : Memref sig .tc .smem S71 .i32) (X2 : BufTy.Contents (Elt F) arg2.view.ty) (X3 : BufTy.Contents (Elt F) arg3.view.ty) (X4 : BufTy.Contents (Elt F) arg4.view.ty) : BitVec 1 :=
  Scalar.andi (condV i arg3 arg4 X3 X4) (Scalar.ori (Scalar.cmpi .eq (BitVec.ofNat 32 (i 0).val) 0#32)
    (Scalar.cmpi .ne (wordAt arg2 X2 (k0_off1 i) (k0_off1_inb i)) (wordAt arg2 X2 (k0_off2 i) (k0_off2_inb i))))

/-- A visit's rewrite of a column chunk of the output block: the product where the row is in the visit's
range, the chunk's earlier words elsewhere. -/
def outL (i : grid0.Coords) (arg1 arg3 arg4 : Memref sig .tc .smem S71 .i32) (arg8 : Memref sig .tc .vmem S512x6144 .bf16) (arg9 : Memref sig .tc .vmem S2048x6144 .bf16)
    (arg10 : Memref sig .tc .vmem S512x2048 .bf16) (X1 : BufTy.Contents (Elt F) arg1.view.ty) (X3 : BufTy.Contents (Elt F) arg3.view.ty) (X4 : BufTy.Contents (Elt F) arg4.view.ty) (X8 : BufTy.Contents (Elt F) arg8.view.ty) (X9 : BufTy.Contents (Elt F) arg9.view.ty) (X10 : BufTy.Contents (Elt F) arg10.view.ty) : List (View.Piece (Elt F) S512x6144 .bf16) :=
  [⟨Rect.unit (s := S512x6144) ![0, 5120] S512x1024.size inb_S512x6144_S512x1024_0_5120, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 5120] S2048x1024.size inb_S2048x6144_S2048x1024_0_5120).toLoadRect X9) (View.readAt (Elt F) arg8.view (Rect.unit (s := S512x6144) ![0, 5120] S512x1024.size inb_S512x6144_S512x1024_0_5120).toLoadRect X8)⟩,
   ⟨Rect.unit (s := S512x6144) ![0, 4096] S512x1024.size inb_S512x6144_S512x1024_0_4096, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 4096] S2048x1024.size inb_S2048x6144_S2048x1024_0_4096).toLoadRect X9) (View.readAt (Elt F) arg8.view (Rect.unit (s := S512x6144) ![0, 4096] S512x1024.size inb_S512x6144_S512x1024_0_4096).toLoadRect X8)⟩,
   ⟨Rect.unit (s := S512x6144) ![0, 3072] S512x1024.size inb_S512x6144_S512x1024_0_3072, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 3072] S2048x1024.size inb_S2048x6144_S2048x1024_0_3072).toLoadRect X9) (View.readAt (Elt F) arg8.view (Rect.unit (s := S512x6144) ![0, 3072] S512x1024.size inb_S512x6144_S512x1024_0_3072).toLoadRect X8)⟩,
   ⟨Rect.unit (s := S512x6144) ![0, 2048] S512x1024.size inb_S512x6144_S512x1024_0_2048, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 2048] S2048x1024.size inb_S2048x6144_S2048x1024_0_2048).toLoadRect X9) (View.readAt (Elt F) arg8.view (Rect.unit (s := S512x6144) ![0, 2048] S512x1024.size inb_S512x6144_S512x1024_0_2048).toLoadRect X8)⟩,
   ⟨Rect.unit (s := S512x6144) ![0, 1024] S512x1024.size inb_S512x6144_S512x1024_0_1024, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 1024] S2048x1024.size inb_S2048x6144_S2048x1024_0_1024).toLoadRect X9) (View.readAt (Elt F) arg8.view (Rect.unit (s := S512x6144) ![0, 1024] S512x1024.size inb_S512x6144_S512x1024_0_1024).toLoadRect X8)⟩,
   ⟨Rect.unit (s := S512x6144) ![0, 0] S512x1024.size inb_S512x6144_S512x1024_0_0, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 0] S2048x1024.size inb_S2048x6144_S2048x1024_0_0).toLoadRect X9) (View.readAt (Elt F) arg8.view (Rect.unit (s := S512x6144) ![0, 0] S512x1024.size inb_S512x6144_S512x1024_0_0).toLoadRect X8)⟩]

/-- The scale words after the rewrite. -/
def newS (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X7 : BufTy.Contents (Elt F) arg7.view.ty) (X11 : BufTy.Contents (Elt F) arg11.view.ty) :=
  arg11.view.writes (Elt F) X11 (pb_k0_t1 𝒱 c bd i arg1 harg1 arg2 harg2 arg3 harg3 arg4 harg4 arg5 harg5 arg6 harg6 arg7 harg7 arg8 harg8 arg9 harg9 arg10 harg10 arg11 harg11 X7 (Scf.trips k0_t1_loop.lb k0_t1_loop.ub k0_t1_loop.st))
/-- The decoded weights after the rewrite, from the packed block and the scale words `S`. -/
def newW (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X6 : BufTy.Contents (Elt F) arg6.view.ty) (X9 : BufTy.Contents (Elt F) arg9.view.ty) (S : BufTy.Contents (Elt F) arg11.view.ty) :=
  arg9.view.writes (Elt F) X9 (pb_k0_t2 𝒱 c bd i arg1 harg1 arg2 harg2 arg3 harg3 arg4 harg4 arg5 harg5 arg6 harg6 arg7 harg7 arg8 harg8 arg9 harg9 arg10 harg10 arg11 harg11 X6 S (Scf.trips k0_t2_loop.lb k0_t2_loop.ub k0_t2_loop.st))
/-- The scaled rows after the rewrite. -/
def newX (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X5 : BufTy.Contents (Elt F) arg5.view.ty) (X10 : BufTy.Contents (Elt F) arg10.view.ty) :=
  arg10.view.writes (Elt F) X10 (pb_k0_t3 𝒱 c bd i arg1 harg1 arg2 harg2 arg3 harg3 arg4 harg4 arg5 harg5 arg6 harg6 arg7 harg7 arg8 harg8 arg9 harg9 arg10 harg10 arg11 harg11 X5 (Scf.trips k0_t3_loop.lb k0_t3_loop.ub k0_t3_loop.st))

/-- What the body leaves in the output block (`W8`) and the three scratch buffers (`W9`, `W10`, `W11`), from what it
    found in the tables, the staged blocks and the scratch buffers. -/
def BodyRel (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (W8 : BufTy.Contents (Elt F) arg8.view.ty) (W9 : BufTy.Contents (Elt F) arg9.view.ty) (W10 : BufTy.Contents (Elt F) arg10.view.ty) (W11 : BufTy.Contents (Elt F) arg11.view.ty) : Prop :=
        (condN i arg2 arg3 arg4 X2 X3 X4 = 1#1 → W9 = newW 𝒱 c bd i arg1 harg1 arg2 harg2 arg3 harg3 arg4 harg4 arg5 harg5 arg6 harg6 arg7 harg7 arg8 harg8 arg9 harg9 arg10 harg10 arg11 harg11 X6 X9 (newS 𝒱 c bd i arg1 harg1 arg2 harg2 arg3 harg3 arg4 harg4 arg5 harg5 arg6 harg6 arg7 harg7 arg8 harg8 arg9 harg9 arg10 harg10 arg11 harg11 X7 X11))
      ∧ (¬ condN i arg2 arg3 arg4 X2 X3 X4 = 1#1 → W9 = X9)
      ∧ (condN i arg2 arg3 arg4 X2 X3 X4 = 1#1 → W11 = newS 𝒱 c bd i arg1 harg1 arg2 harg2 arg3 harg3 arg4 harg4 arg5 harg5 arg6 harg6 arg7 harg7 arg8 harg8 arg9 harg9 arg10 harg10 arg11 harg11 X7 X11)
      ∧ (¬ condN i arg2 arg3 arg4 X2 X3 X4 = 1#1 → W11 = X11)
      ∧ (condN i arg1 arg3 arg4 X1 X3 X4 = 1#1 → W10 = newX 𝒱 c bd i arg1 harg1 arg2 harg2 arg3 harg3 arg4 harg4 arg5 harg5 arg6 harg6 arg7 harg7 arg8 harg8 arg9 harg9 arg10 harg10 arg11 harg11 X5 X10)
      ∧ (¬ condN i arg1 arg3 arg4 X1 X3 X4 = 1#1 → W10 = X10)
      ∧ (condV i arg3 arg4 X3 X4 = 1#1 → W8 = arg8.view.writes (Elt F) X8 (outL i arg1 arg3 arg4 arg8 arg9 arg10 X1 X3 X4 X8 W9 W10))
      ∧ (¬ condV i arg3 arg4 X3 X4 = 1#1 → W8 = X8)

set_option maxHeartbeats 8000000 in
/-- The body's run: what each buffer holds after it, by the visit's conditions. -/
theorem bodyrun (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (q : PosShare TreeShare) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) :
  (iprop((arg1.view.loc (c : Thread nD τ) ↦[arg1.view.set]{q} X1) ∗ (arg2.view.loc (c : Thread nD τ) ↦[arg2.view.set]{q} X2) ∗ (arg3.view.loc (c : Thread nD τ) ↦[arg3.view.set]{q} X3) ∗ (arg4.view.loc (c : Thread nD τ) ↦[arg4.view.set]{q} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄G) ⊢ wp frame (wpE (defs₀ (F := F)) 𝒱 (c : Thread nD τ) bd) E (cc0_grouped_mx_matmul (F := F) i arg1 harg1 arg2 harg2 arg3 harg3 arg4 harg4 arg5 harg5 arg6 harg6 arg7 harg7 arg8 harg8 arg9 harg9 arg10 harg10 arg11 harg11)
    (fun _ => iprop(∃ W8 W9 W10 W11, ⌜BodyRel 𝒱 c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 W8 W9 W10 W11⌝ ∗ (arg1.view.loc (c : Thread nD τ) ↦[arg1.view.set]{q} X1) ∗ (arg2.view.loc (c : Thread nD τ) ↦[arg2.view.set]{q} X2) ∗ (arg3.view.loc (c : Thread nD τ) ↦[arg3.view.set]{q} X3) ∗ (arg4.view.loc (c : Thread nD τ) ↦[arg4.view.set]{q} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} W8) ∗ (arg9.view.loc (c : Thread nD τ) ↦[arg9.view.set]{fullShare} W9) ∗ (arg10.view.loc (c : Thread nD τ) ↦[arg10.view.set]{fullShare} W10) ∗ (arg11.view.loc (c : Thread nD τ) ↦[arg11.view.set]{fullShare} W11))) := by
  rw [cc0_grouped_mx_matmul_eq_skeleton]
  unfold cc0_grouped_mx_matmul_skel
  have key : ∀ b : BitVec 1, (Scalar.cmpi .ne (Scalar.extui b : BitVec 32) 0#32 = 1#1) ↔ b = 1#1 := by decide
  iintro ⟨H1, H2, H3, H4, H5, H6, H7, H8, H9, H10, H11⟩
  have keyV : ∀ a b : BitVec 32, (Scalar.cmpi .ne (Scalar.extui (Scalar.cmpi .sgt b a) : BitVec 32) 0#32 = 1#1) ↔ Scalar.cmpi .sgt b a = 1#1 := fun a b => key _
  sl_exec
  by_cases h1 : condN i arg2 arg3 arg4 X2 X3 X4 = 1#1
  · have h1' : bodyrun.sl.v24 i arg2 arg3 arg4 X2 X3 X4 = 1#1 := (key _).mpr h1
    sl_exec
    by_cases h2 : condN i arg1 arg3 arg4 X1 X3 X4 = 1#1
    · have h2' : bodyrun.sl.v26 i arg1 arg3 arg4 X1 X3 X4 = 1#1 := (key _).mpr h2
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun _ => rfl, fun h => absurd h1 h, fun _ => rfl, fun h => absurd h1 h, fun _ => rfl, fun h => absurd h2 h, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun _ => rfl, fun h => absurd h1 h, fun _ => rfl, fun h => absurd h1 h, fun _ => rfl, fun h => absurd h2 h, fun h => absurd h h3, fun _ => rfl⟩
        sl_close
    · have h2' : ¬ bodyrun.sl.v26 i arg1 arg3 arg4 X1 X3 X4 = 1#1 := fun h => h2 ((key _).mp h)
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun _ => rfl, fun h => absurd h1 h, fun _ => rfl, fun h => absurd h1 h, fun h => absurd h h2, fun _ => rfl, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun _ => rfl, fun h => absurd h1 h, fun _ => rfl, fun h => absurd h1 h, fun h => absurd h h2, fun _ => rfl, fun h => absurd h h3, fun _ => rfl⟩
        sl_close
  · have h1' : ¬ bodyrun.sl.v24 i arg2 arg3 arg4 X2 X3 X4 = 1#1 := fun h => h1 ((key _).mp h)
    sl_exec
    by_cases h2 : condN i arg1 arg3 arg4 X1 X3 X4 = 1#1
    · have h2' : bodyrun.sl.v26_1 i arg1 arg3 arg4 X1 X3 X4 = 1#1 := (key _).mpr h2
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun h => absurd h h1, fun _ => rfl, fun h => absurd h h1, fun _ => rfl, fun _ => rfl, fun h => absurd h2 h, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun h => absurd h h1, fun _ => rfl, fun h => absurd h h1, fun _ => rfl, fun _ => rfl, fun h => absurd h2 h, fun h => absurd h h3, fun _ => rfl⟩
        sl_close
    · have h2' : ¬ bodyrun.sl.v26_1 i arg1 arg3 arg4 X1 X3 X4 = 1#1 := fun h => h2 ((key _).mp h)
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun h => absurd h h1, fun _ => rfl, fun h => absurd h h1, fun _ => rfl, fun h => absurd h h2, fun _ => rfl, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun h => absurd h h1, fun _ => rfl, fun h => absurd h h1, fun _ => rfl, fun h => absurd h h2, fun _ => rfl, fun h => absurd h h3, fun _ => rfl⟩
        sl_close

end Cert.KernelIdeal.Gen
-- ==== Proof.RunIdeal.lean ====
module

public import proofs.«01_k».proof.Proof.Gen.KernelIdeal.Launch
public import proofs.«01_k».proof.Proof.BodyIdeal
public import Idealize.ShloMosaic.Lib.Pipeline.Frame

/-! The launch: the whole grid run from the body's run. A certificate states what it keeps of the scratch
buffers between visits (`J`) and of the output block a visit leaves (`R`); one visit's step of the two is
what it proves, and it gets back what the whole run leaves in every buffer. -/

@[expose] public section

set_option maxRecDepth 100000
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Facts₀ Facts

variable {F : FTy → Type} [FloatOps F]
local notation "𝕄G" => MT nD τ sig Unit (Elt F) ℕ (UR sig nD τ) ℕ

abbrev C9 (F : FTy → Type) [FloatOps F] := BufTy.Contents (Elt F) (Memref.whole cc0_scratch0 : Memref sig .tc .vmem S2048x6144 .bf16).view.ty
abbrev C10 (F : FTy → Type) [FloatOps F] := BufTy.Contents (Elt F) (Memref.whole cc0_scratch1 : Memref sig .tc .vmem S512x2048 .bf16).view.ty
abbrev C11 (F : FTy → Type) [FloatOps F] := BufTy.Contents (Elt F) (Memref.whole cc0_scratch2 : Memref sig .tc .vmem S64x6144 .i32).view.ty

/-- Admissible contents of the tables. -/
def adm (pf : pre0.Contents (Elt F)) (hok : ok0 pf) : (p : Fin 1) → ((pcfgs (F := F)) p).Adm := fun _ => ⟨pf, hok⟩

/-- What the body keeps between visits: the tables, and the scratch buffers in the relation `J`. -/
def Phi (c : Dev nD) (pf : pre0.Contents (Elt F)) (J : C9 F → C10 F → C11 F → Prop) : sProp 𝕄G :=
  iprop(Pipeline.ΦT (U := UR sig nD τ) pre0 pf c ∗ (∃ W9 W10 W11, ⌜J W9 W10 W11⌝
    ∗ (((c : Thread nD τ).loc cc0_scratch0) ↦{fullShare} W9) ∗ (((c : Thread nD τ).loc cc0_scratch1) ↦{fullShare} W10)
    ∗ (((c : Thread nD τ).loc cc0_scratch2) ↦{fullShare} W11)) ∗ ∃ r, prngReg c r)

/-- The run's relational data: input blocks are left as found, the output block in the relation `R`. -/
def rdat (pf : pre0.Contents (Elt F)) (hok : ok0 pf) (c : Dev nD)
    (A : (w : Fin 4) → Buf (Elt F) ((((cfg0 ⟨pf, hok⟩).win w).arr.view.loc (c.tc : Thread nD τ))))
    (J : Fin (grid0.N + 1) → C9 F → C10 F → C11 F → Prop)
    (R : Fin grid0.N → (Y X : S512x6144.Idx → Elt F .bf16) → Prop) :
    Pipeline.RDat τ (Elt F) Unit ℕ (UR sig nD τ) ℕ (Pipeline.pin pcfgs (adm pf hok) 0) c where
  A := A
  after := fun | 0 => fun _ Y X => X = Y | 1 => fun _ Y X => X = Y | 2 => fun _ Y X => X = Y | 3 => fun t Y X => R t Y X
               | ⟨_ + 4, h⟩ => absurd h (Nat.not_lt.2 (Nat.le_add_left _ _))
  Φ := fun t => Phi c pf (J t)
  q := fun _ => fullShare
  owed := fun _ => 0

omit [FloatOps F] in
theorem bigSep_T (Φ : Fin 4 → sProp 𝕄G) : bigSep Finset.univ Φ = iprop(Φ (0 : Fin 4) ∗ Φ (1 : Fin 4) ∗ Φ (2 : Fin 4) ∗ Φ (3 : Fin 4)) :=
  bigSep_univ_eq_bigSepL [0, 1, 2, 3] (by decide) (by decide) Φ

/-- One visit's step: from what the visit finds, to `J` and `R` of what it leaves. -/
def StepOK (𝒱 : Variants) (c : Dev nD) (pf : pre0.Contents (Elt F)) (J : Fin (grid0.N + 1) → C9 F → C10 F → C11 F → Prop)
    (R : Fin grid0.N → (Y X : S512x6144.Idx → Elt F .bf16) → Prop) (Fd0 : Fin grid0.N → (S512x2048.Idx → Elt F .bf16) → Prop)
    (Fd1 : Fin grid0.N → (S1x1024x6144.Idx → Elt F .i8) → Prop) (Fd2 : Fin grid0.N → (S1x64x6144.Idx → Elt F .i8) → Prop)
    (Fd3 : Fin grid0.N → (S512x6144.Idx → Elt F .bf16) → Prop) : Prop :=
  ∀ (t : Fin grid0.N) (M5 : Memref sig .tc .vmem S512x2048 .bf16) (h5 : M5.IsWhole) (M6 : Memref sig .tc .vmem S1x1024x6144 .i8) (h6 : M6.IsWhole)
    (M7 : Memref sig .tc .vmem S1x64x6144 .i8) (h7 : M7.IsWhole) (M8 : Memref sig .tc .vmem S512x6144 .bf16) (h8 : M8.IsWhole)
    (X5 : BufTy.Contents (Elt F) M5.view.ty) (X6 : BufTy.Contents (Elt F) M6.view.ty) (X7 : BufTy.Contents (Elt F) M7.view.ty)
    (X8 W8 : BufTy.Contents (Elt F) M8.view.ty) (X9 W9 : C9 F) (X10 W10 : C10 F) (X11 W11 : C11 F),
    Fd0 t (M5.view.read (Elt F) X5) → Fd1 t (M6.view.read (Elt F) X6) → Fd2 t (M7.view.read (Elt F) X7) → Fd3 t (M8.view.read (Elt F) X8) → J t.castSucc X9 X10 X11 →
    BodyRel 𝒱 c none (grid0.coords t) (Memref.whole main_v41) (Memref.isWhole_whole _) (Memref.whole main_v24) (Memref.isWhole_whole _) (Memref.whole main_v48) (Memref.isWhole_whole _) (Memref.whole main_v58) (Memref.isWhole_whole _)
      M5 h5 M6 h6 M7 h7 M8 h8 (Memref.whole cc0_scratch0) (Memref.isWhole_whole _) (Memref.whole cc0_scratch1) (Memref.isWhole_whole _) (Memref.whole cc0_scratch2) (Memref.isWhole_whole _)
      (pf 0) (pf 1) (pf 2) (pf 3) X5 X6 X7 X8 X9 X10 X11 W8 W9 W10 W11 →
    J t.succ W9 W10 W11 ∧ R t (M8.view.read (Elt F) X8) (M8.view.read (Elt F) W8)

set_option maxHeartbeats 4000000 in
theorem body_obligation (𝒱 : Variants) (c : Dev nD) (pf : pre0.Contents (Elt F)) (hok : ok0 pf)
    (A : (w : Fin 4) → Buf (Elt F) ((((cfg0 ⟨pf, hok⟩).win w).arr.view.loc (c.tc : Thread nD τ))))
    (J : Fin (grid0.N + 1) → C9 F → C10 F → C11 F → Prop) (R : Fin grid0.N → (Y X : S512x6144.Idx → Elt F .bf16) → Prop)
    (hstep : StepOK 𝒱 c pf J R (fun t X => (rdat pf hok c A J R).Finds 0 t X) (fun t X => (rdat pf hok c A J R).Finds 1 t X) (fun t X => (rdat pf hok c A J R).Finds 2 t X) (fun t X => (rdat pf hok c A J R).Finds 3 t X)) :
    (rdat pf hok c A J R).BodyObligation (defs₀ (F := F)) 𝒱 () Set.univ := by
  intro t Y hY
  rw [show ∀ Ψ : Fin 4 → sProp 𝕄G, bigSep Finset.univ Ψ = iprop(Ψ 0 ∗ Ψ 1 ∗ Ψ 2 ∗ Ψ 3) from bigSep_T]
  rw [show ∀ Ψ : Fin 4 → sProp 𝕄G, bigSep Finset.univ Ψ = iprop(Ψ 0 ∗ Ψ 1 ∗ Ψ 2 ∗ Ψ 3) from bigSep_T]
  show iprop(Phi c pf (J t.castSucc) ∗ _) ⊢ wp _ _ _ (cc0_grouped_mx_matmul (grid0.coords t) _ _ _ _ _ _ _ _ _ _ _ _ _ _ _ _ _ _ _ _ _ _) _
  rw [show (rdat pf hok c A J R).Φ t.succ = Phi c pf (J t.succ) from rfl]
  unfold Phi Pipeline.ΦT Pipeline.prefHeld owns
  rw [bigSep_T]
  iintro ⟨⟨⟨HT1, HT2, HT3, HT4⟩, ⟨%X9, %X10, %X11, %hJ, H9, H10, H11⟩, Hr⟩, HO, ⟨⟨%X5, %e5, H5⟩, ⟨%X6, %e6, H6⟩, ⟨%X7, %e7, H7⟩, ⟨%X8, %e8, H8⟩⟩⟩
  iapply (wp_wand_r Idealize.ShloMosaic.frame (wpE (defs₀ (F := F)) 𝒱 (c : Thread nD τ) none) Set.univ)
  isplitl [HT1 HT2 HT3 HT4 H5 H6 H7 H8 H9 H10 H11]
  · have hb := bodyrun 𝒱 c none (grid0.coords t) (Memref.whole main_v41) (Memref.isWhole_whole _) (Memref.whole main_v24) (Memref.isWhole_whole _) (Memref.whole main_v48) (Memref.isWhole_whole _) (Memref.whole main_v58) (Memref.isWhole_whole _)
      _ (hstage0_0 _) _ (hstage0_1 _) _ (hstage0_2 _) _ (hstage0_3 _) (Memref.whole cc0_scratch0) (Memref.isWhole_whole _) (Memref.whole cc0_scratch1) (Memref.isWhole_whole _) (Memref.whole cc0_scratch2) (Memref.isWhole_whole _)
      fullShare.right (pf 0) (pf 1) (pf 2) (pf 3) X5 X6 X7 X8 X9 X10 X11 Set.univ
    simp only [Memref.view_whole, View.set_whole] at hb
    iapply hb
    isplitl [HT1]; · iexact HT1
    isplitl [HT2]; · iexact HT2
    isplitl [HT3]; · iexact HT3
    isplitl [HT4]; · iexact HT4
    isplitl [H5]; · iexact H5
    isplitl [H6]; · iexact H6
    isplitl [H7]; · iexact H7
    isplitl [H8]; · iexact H8
    isplitl [H9]; · iexact H9
    isplitl [H10]; · iexact H10
    iexact H11
  · iintro %_ ⟨%W8, %W9, %W10, %W11, %hrel, HT1, HT2, HT3, HT4, H5, H6, H7, H8, H9, H10, H11⟩
    have hs := hstep t _ (hstage0_0 _) _ (hstage0_1 _) _ (hstage0_2 _) _ (hstage0_3 _) X5 X6 X7 X8 W8 X9 W9 X10 W10 X11 W11
      (e5 ▸ hY 0) (e6 ▸ hY 1) (e7 ▸ hY 2) (e8 ▸ hY 3) hJ hrel
    isplitl [HT1 HT2 HT3 HT4 H9 H10 H11 Hr]
    · isplitl [HT1 HT2 HT3 HT4]
      · isplitl [HT1]; · iexact HT1
        isplitl [HT2]; · iexact HT2
        isplitl [HT3]; · iexact HT3
        iexact HT4
      isplitr [Hr]
      · iexists W9, W10, W11
        isplitr; · ipureintro; exact hs.1
        isplitl [H9]; · iexact H9
        isplitl [H10]; · iexact H10
        iexact H11
      iexact Hr
    isplitl [HO]; · iexact HO
    isplitl [H5]
    · iexists _; isplitr; · ipureintro; exact rfl
      iexists X5; isplitr; · ipureintro; exact e5
      iexact H5
    isplitl [H6]
    · iexists _; isplitr; · ipureintro; exact rfl
      iexists X6; isplitr; · ipureintro; exact e6
      iexact H6
    isplitl [H7]
    · iexists _; isplitr; · ipureintro; exact rfl
      iexists X7; isplitr; · ipureintro; exact e7
      iexact H7
    iexists _; isplitr
    swap
    · iexists W8; isplitr; · ipureintro; exact rfl
      iexact H8
    · ipureintro; rw [← e8]; exact hs.2

/-- The host operations before the kernel, stretch by stretch. -/
abbrev opss : List (List (HloOp τ sig (Elt F))) := [hostOps0, hostOps0_1, hostOps0_2, hostOps0_3, hostOps0_4, hostOps0_5, hostOps0_6, hostOps0_7, hostOps0_8, hostOps0_9, hostOps0_10]

/-- The contents of a buffer when the kernel starts. -/
def V (m : (ℓ : Loc nD τ sig) → Buf (Elt F) ℓ) (c : Dev nD) (b : Ref sig .tc) : Buf (Elt F) ((c.tc : Thread nD τ).loc b) :=
  StableHlo.after (opss (F := F)).flatten (fun b => m (c, b)) b

theorem opss_sub : (opss (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem opss_fresh : (opss (F := F)).Forall fun ops => ops.Forall fun op => op.fresh = ∅ := by
  simp only [List.Forall]
  repeat' apply And.intro
  all_goals rfl

set_option maxHeartbeats 2000000 in
/-- The whole run, from one visit's step: every output block as the relation `R` leaves it, every other buffer as
the kernel found it, no semaphore left raised. -/
theorem run_launch (𝒱 : Variants) (m : (ℓ : Loc nD τ sig) → Buf (Elt F) ℓ) (g : Dev nD → PrngReg) (pf : pre0.Contents (Elt F)) (hok : ok0 pf)
    (hpf : ∀ c k, V m c (pre0.ref k) = pf k)
    (J : Fin (grid0.N + 1) → C9 F → C10 F → C11 F → Prop) (hJ : ∀ a b d, J 0 a b d)
    (R : Fin grid0.N → (Y X : S512x6144.Idx → Elt F .bf16) → Prop)
    (hstep : ∀ c, let D := rdat pf hok c (fun w => V m c (Pipeline.arrRef spec0 w)) J R
      StepOK 𝒱 c pf J R (fun t X => D.Finds 0 t X) (fun t X => D.Finds 1 t X) (fun t X => D.Finds 2 t X) (fun t X => D.Finds 3 t X)) :
    θ_run (Pipeline.defs (pcfgs (F := F)) defs₀) (onTc main) (s₀ m g) fun r =>
      Pipeline.RDat.FramePost (Pipeline.pin pcfgs (adm pf hok) 0) (fun c => rdat pf hok c (fun w => V m c (Pipeline.arrRef spec0 w)) J R) (V m) r
        ∧ r.2.sem = fun _ => 0 := by
  have hmain := Pipeline.hmainP_prefixes (Ix := Unit) (Name := ℕ) (U := UR sig nD τ) (Lvl := ℕ) (pcfgs (F := F)) 0 (defs₀ (F := F)) 𝒱 m main opss opss_sub opss_fresh fun c => main_chain c
  have hbody : ∀ c, (rdat pf hok c (fun w => V m c (Pipeline.arrRef spec0 w)) J R).BodyObligation (defs₀ (F := F)) 𝒱 () Set.univ := fun c => body_obligation _ c pf hok _ J R (hstep c)
  have hshare : ∀ c w, (rdat pf hok c (fun w => V m c (Pipeline.arrRef spec0 w)) J R).share w = fullShare := fun c w => by
    unfold Pipeline.RDat.share; split <;> rfl
  have hA : ∀ c w, (rdat pf hok c (fun w => V m c (Pipeline.arrRef spec0 w)) J R).A w = V m c (Pipeline.arrRef spec0 w) := fun c w => rfl
  have hin : ∀ c, iprop(Pipeline.ΦA (U := UR sig nD τ) (Val := Elt F) spec0 c ∗ Pipeline.ΦT (U := UR sig nD τ) pre0 pf c) ⊢ Phi c pf (J 0) := fun c => by
    unfold Pipeline.ΦA Phi; rw [scopedRest0_eq]
    iintro ⟨⟨⟨⟨%f9, H9⟩, ⟨%f10, H10⟩, ⟨%f11, H11⟩⟩, Hr⟩, HT⟩
    isplitl [HT]; · iexact HT
    isplitr [Hr]
    · iexists f9, f10, f11
      isplitr; · ipureintro; exact hJ _ _ _
      isplitl [H9]; · iexact H9
      isplitl [H10]; · iexact H10
      iexact H11
    iexact Hr
  have hout : ∀ c (J' : C9 F → C10 F → C11 F → Prop), Phi c pf J' ⊢ Pipeline.ΦA (U := UR sig nD τ) (Val := Elt F) spec0 c := fun c J' => by
    unfold Pipeline.ΦA Phi; rw [scopedRest0_eq]
    iintro ⟨HT, ⟨%W9, %W10, %W11, %h, H9, H10, H11⟩, Hr⟩
    isplitr [Hr]
    · isplitl [H9]; · iexists W9; iexact H9
      isplitl [H10]; · iexists W10; iexact H10
      iexists W11; iexact H11
    iexact Hr
  exact Pipeline.RDat.θ_run_frameP_track (pcfgs (F := F)) (adm pf hok) 0 launch0 (defs₀ (F := F)) 𝒱
    (fun c => rdat pf hok c (fun w => V m c (Pipeline.arrRef spec0 w)) J R) m g (main (F := F))
    hbody hshare (fun c t => rfl) (V m) hmain hA hpf hin (fun c => hout c _) _ (fun r h => h)
end Cert.KernelIdeal.Gen
-- ==== Proof.Visits.lean ====
module

public import Idealize.ShloMosaic.Lib.Routing.OpsSearch

/-! The visits, as arithmetic. Eight groups of rows lie one after another on 32768 rows cut into tiles of 512;
a visit is a pair of a tile and a group that meets it. `ti`, `ex`, `lo`, `hi` are the four tables over the 71
places, as natural numbers; the theorems say which rows the visits cover, and in which order. -/

@[expose] public section

namespace Cert.Visits

/-- The end of group `i`: the sum of the sizes up to it. -/
def E (G : Nat → Nat) (i : Nat) : Nat := ((List.range (i + 1)).map G).sum
/-- The start of group `i`. -/
def S (G : Nat → Nat) (i : Nat) : Nat := E G i - G i
/-- The tiles group `i` meets. -/
def cnt (G : Nat → Nat) (i : Nat) : Nat := if 0 < G i then (E G i - 1) / 512 - S G i / 512 + 1 else 0
/-- The visits up to group `i`. -/
def V (G : Nat → Nat) (i : Nat) : Nat := ((List.range (i + 1)).map (cnt G)).sum
/-- All the visits. -/
def tot (G : Nat → Nat) : Nat := ((List.range 8).map (cnt G)).sum
def idc (G : Nat → Nat) (p : Nat) : Nat := min p (tot G - 1)
/-- The group of the visit at place `p`. -/
def ex (G : Nat → Nat) (p : Nat) : Nat := Nat.count (fun q => V G q ≤ idc G p) 8
/-- The tile of the visit at place `p`. -/
def ti (G : Nat → Nat) (p : Nat) : Nat := S G (ex G p) / 512 + idc G p - (V G (ex G p) - cnt G (ex G p))
def lo (G : Nat → Nat) (p : Nat) : Nat := S G (ex G p)
def hi (G : Nat → Nat) (p : Nat) : Nat := if p < tot G then E G (ex G p) else lo G p

variable {G : Nat → Nat}

theorem E_succ (i : Nat) : E G (i + 1) = E G i + G (i + 1) := by
  unfold E; rw [List.range_succ, List.map_append, List.sum_append]; simp
theorem E_zero : E G 0 = G 0 := by simp [E]
theorem S_succ (i : Nat) : S G (i + 1) = E G i := by unfold S; rw [E_succ]; omega
theorem S_zero : S G 0 = 0 := by unfold S; rw [E_zero]; omega
theorem E_eq (i : Nat) : E G i = S G i + G i := by
  cases i with
  | zero => rw [E_zero, S_zero]; omega
  | succ i => rw [E_succ, S_succ]
theorem V_succ (i : Nat) : V G (i + 1) = V G i + cnt G (i + 1) := by
  unfold V; rw [List.range_succ, List.map_append, List.sum_append]; simp
theorem V_zero : V G 0 = cnt G 0 := by simp [V]
theorem V_seven : V G 7 = tot G := rfl
theorem E_mono {i k : Nat} (h : i ≤ k) : E G i ≤ E G k := by
  induction h with
  | refl => exact le_rfl
  | step _ ih => rw [E_succ]; omega
theorem V_mono {i k : Nat} (h : i ≤ k) : V G i ≤ V G k := by
  induction h with
  | refl => exact le_rfl
  | step _ ih => rw [V_succ]; omega
theorem cnt_pos_iff (i : Nat) : 0 < cnt G i ↔ 0 < G i := by unfold cnt; split <;> omega
/-- No visits between two groups: no rows between them. -/
theorem E_eq_of_V_eq {i k : Nat} (h : i ≤ k) (hv : V G i = V G k) : E G i = E G k := by
  induction h with
  | refl => rfl
  | @step m hm ih =>
    have h1 := V_mono (G := G) hm
    rw [V_succ] at hv
    have h2 : ¬ 0 < G (m + 1) := fun h => by have := (cnt_pos_iff (m + 1)).mpr h; omega
    rw [E_succ, ih (by omega)]; omega
theorem E_zero_of_V_zero {k : Nat} (hv : V G k = 0) : E G k = 0 := by
  have h0 : V G 0 = V G k := by have := V_mono (G := G) (Nat.zero_le k); omega
  rw [← E_eq_of_V_eq (Nat.zero_le k) h0, E_zero]
  rw [V_zero] at h0
  have := cnt_pos_iff (G := G) 0
  omega

theorem V_le (i : Nat) : V G i ≤ (E G i + 511) / 512 + i := by
  induction i with
  | zero => rw [V_zero, E_zero]; unfold cnt; rw [S_zero, E_zero]; split <;> omega
  | succ i ih =>
    rw [V_succ]; unfold cnt; rw [S_succ]
    have := E_succ (G := G) i
    split <;> omega

variable (hG : E G 7 = 32768)

include hG in
theorem tot_le : tot G ≤ 71 := by rw [← V_seven]; have := V_le (G := G) 7; omega
include hG in
theorem tot_pos : 0 < tot G := by
  rcases Nat.eq_zero_or_pos (tot G) with h | h
  · rw [← V_seven] at h; have := E_zero_of_V_zero h; omega
  · exact h

theorem count_lt (P : Nat → Prop) [DecidablePred P] (e : Nat) (he : e ≤ 8) (h : ∀ q < 8, P q ↔ q < e) : Nat.count P 8 = e := by
  have h' : Nat.count P 8 = Nat.count (· < e) 8 := by
    rw [Nat.count_eq_card_filter_range, Nat.count_eq_card_filter_range]
    exact congrArg _ (Finset.filter_congr fun q hq => h q (Finset.mem_range.mp hq))
  rw [h']
  interval_cases e <;> decide

/-- A place among group `e`'s visits is of group `e`. -/
theorem ex_eq {p e : Nat} (he : e < 8) (h1 : V G e - cnt G e ≤ idc G p) (h2 : idc G p < V G e) : ex G p = e := by
  unfold ex
  refine count_lt _ e (by omega) fun q hq => ⟨fun h => ?_, fun h => ?_⟩
  · by_contra hc; have := V_mono (G := G) (show e ≤ q by omega); omega
  · obtain ⟨e', rfl⟩ : ∃ e', e = e' + 1 := ⟨e - 1, by omega⟩
    have := V_mono (G := G) (show q ≤ e' by omega)
    rw [V_succ] at h1; omega

include hG in
theorem idc_lt (p : Nat) : idc G p < tot G := by have := tot_pos hG; unfold idc; omega

include hG in
/-- The group of a place, and the place among the group's visits. -/
theorem ex_spec (p : Nat) : ex G p < 8 ∧ V G (ex G p) - cnt G (ex G p) ≤ idc G p ∧ idc G p < V G (ex G p) := by
  have hx := idc_lt hG p
  have hex : ∃ e, idc G p < V G e := ⟨7, by rw [V_seven]; exact hx⟩
  obtain ⟨e, he, hmin⟩ : ∃ e, idc G p < V G e ∧ ∀ q < e, V G q ≤ idc G p := by
    classical
    exact ⟨Nat.find hex, Nat.find_spec hex, fun q hq => by have := Nat.find_min hex hq; omega⟩
  have h8 : e < 8 := by
    by_contra h; have := hmin 7 (by omega); rw [V_seven] at this; omega
  have h1 : V G e - cnt G e ≤ idc G p := by
    cases e with
    | zero => rw [V_zero]; omega
    | succ e => have := hmin e (by omega); rw [V_succ]; omega
  rw [ex_eq h8 h1 he]
  exact ⟨h8, h1, he⟩

theorem cnt_le_V (i : Nat) : cnt G i ≤ V G i := by
  cases i with
  | zero => rw [V_zero]
  | succ i => rw [V_succ]; omega

include hG in
/-- A place's tile, from its place `j` among its group's visits. -/
theorem ti_spec (p : Nat) : ∃ j, idc G p = V G (ex G p) - cnt G (ex G p) + j ∧ j < cnt G (ex G p) ∧ ti G p = S G (ex G p) / 512 + j
    ∧ 0 < G (ex G p) ∧ cnt G (ex G p) = (E G (ex G p) - 1) / 512 - S G (ex G p) / 512 + 1 := by
  obtain ⟨h8, h1, h2⟩ := ex_spec hG p
  have hc := cnt_le_V (G := G) (ex G p)
  have hp : 0 < G (ex G p) := (cnt_pos_iff _).mp (by omega)
  refine ⟨idc G p - (V G (ex G p) - cnt G (ex G p)), by omega, by omega, by unfold ti; omega, hp, ?_⟩
  rw [cnt, if_pos hp]

theorem E_le {i : Nat} (h : i < 8) (hG : E G 7 = 32768) : E G i ≤ 32768 := by have := E_mono (G := G) (show i ≤ 7 by omega); omega

include hG in
theorem ti_lt (p : Nat) : ti G p < 64 := by
  obtain ⟨j, -, hj, ht, hp, hc⟩ := ti_spec hG p
  have := E_le (ex_spec hG p).1 hG
  have := E_eq (G := G) (ex G p)
  omega

include hG in
theorem lo_lt_hi {p : Nat} (h : p < tot G) : lo G p < hi G p := by
  obtain ⟨j, -, hj, ht, hp, hc⟩ := ti_spec hG p
  have := E_eq (G := G) (ex G p)
  unfold hi lo; rw [if_pos h]; omega
theorem hi_eq_lo {p : Nat} (h : ¬ p < tot G) : hi G p = lo G p := by unfold hi; rw [if_neg h]

/-- Past the last visit a place repeats the one before. -/
theorem idc_past {p : Nat} (h : ¬ p < tot G) (h1 : 1 ≤ p) : idc G p = idc G (p - 1) := by unfold idc; omega
theorem ex_past {p : Nat} (h : ¬ p < tot G) (h1 : 1 ≤ p) : ex G p = ex G (p - 1) := by unfold ex; rw [idc_past h h1]
theorem ti_past {p : Nat} (h : ¬ p < tot G) (h1 : 1 ≤ p) : ti G p = ti G (p - 1) := by unfold ti; rw [ex_past h h1, idc_past h h1]

include hG in
theorem past_pos {p : Nat} (h : ¬ p < tot G) : 1 ≤ p := by have := tot_pos hG; omega

include hG in
/-- Two visits in a row are of one group, or the second starts where the first's group ends. -/
theorem next_visit {p : Nat} (h : p + 1 < tot G) :
    (ex G (p + 1) = ex G p ∧ ti G (p + 1) = ti G p + 1) ∨
    (S G (ex G (p + 1)) = E G (ex G p) ∧ ti G p = (E G (ex G p) - 1) / 512 ∧ ti G (p + 1) = S G (ex G (p + 1)) / 512) := by
  have hp : idc G p = p := by unfold idc; omega
  have hp1 : idc G (p + 1) = p + 1 := by unfold idc; omega
  obtain ⟨h8, h1, h2⟩ := ex_spec hG p
  obtain ⟨j, ej, hj, ht, hg, hc⟩ := ti_spec hG p
  obtain ⟨h8', h1', h2'⟩ := ex_spec hG (p + 1)
  obtain ⟨j', ej', hj', ht', hg', hc'⟩ := ti_spec hG (p + 1)
  have hcv := cnt_le_V (G := G) (ex G p)
  have hcv' := cnt_le_V (G := G) (ex G (p + 1))
  rw [hp] at h1 h2 ej; rw [hp1] at h1' h2' ej'
  by_cases hlt : p + 1 < V G (ex G p)
  · left
    have e : ex G (p + 1) = ex G p := ex_eq h8 (by rw [hp1]; omega) (by rw [hp1]; exact hlt)
    rw [e] at ej' ht' hc' ⊢
    exact ⟨rfl, by omega⟩
  · right
    have hv : V G (ex G p) = p + 1 := by omega
    have hne : ex G p < ex G (p + 1) := by
      by_contra hc; have := V_mono (G := G) (show ex G (p + 1) ≤ ex G p by omega); omega
    obtain ⟨e', ee⟩ : ∃ e', ex G (p + 1) = e' + 1 := ⟨ex G (p + 1) - 1, by omega⟩
    rw [ee] at ej' ht' hj' hc' h1' h2' hne hcv' ⊢
    have hm := V_mono (G := G) (show ex G p ≤ e' by omega)
    have hvs := V_succ (G := G) e'
    have hve : V G (ex G p) = V G e' := by omega
    have hE := E_eq_of_V_eq (show ex G p ≤ e' by omega) hve
    rw [S_succ] at ht' hc' ⊢
    have := E_eq (G := G) (ex G p)
    refine ⟨by omega, by omega, by omega⟩

include hG in
/-- On a tile's first visit no row of the tile lies before the visit's group. -/
theorem first_visit {p : Nat} (h : p = 0 ∨ ti G p ≠ ti G (p - 1)) : S G (ex G p) ≤ 512 * ti G p := by
  by_cases hv : p < tot G
  · cases p with
    | zero =>
      obtain ⟨j, ej, hj, ht, hg, hc⟩ := ti_spec hG 0
      have h0 : idc G 0 = 0 := by unfold idc; omega
      have hs : S G (ex G 0) = 0 := by
        rcases hh : ex G 0 with _ | e
        · exact S_zero
        · rw [hh, V_succ] at ej
          rw [S_succ]; exact E_zero_of_V_zero (by omega)
      omega
    | succ p =>
      obtain ⟨j, ej, hj, ht, hg, hc⟩ := ti_spec hG (p + 1)
      rcases next_visit hG hv with ⟨e, t⟩ | ⟨e, t, t'⟩
      · obtain ⟨j0, ej0, hj0, ht0, hg0, hc0⟩ := ti_spec hG p
        rw [e, t, ht0]; omega
      · rcases h with h | h
        · omega
        · simp only [Nat.add_sub_cancel] at h; omega
  · have h1 := past_pos hG hv
    rcases h with h | h
    · omega
    · exact absurd (ti_past hv h1) h

include hG in
/-- Two visits in a row of one tile leave no row between their groups. -/
theorem same_tile {p : Nat} (hv : p < tot G) (h1 : 1 ≤ p) (_h : ti G p = ti G (p - 1)) : S G (ex G p) ≤ E G (ex G (p - 1)) := by
  obtain ⟨p, rfl⟩ : ∃ q, p = q + 1 := ⟨p - 1, by omega⟩
  simp only [Nat.add_sub_cancel]
  rcases next_visit hG hv with ⟨e, -⟩ | ⟨e, -⟩
  · rw [e, E_eq]; omega
  · omega

include hG in
/-- On a tile's last visit the visit's group reaches the tile's end. -/
theorem last_visit {p : Nat} (h : p = 70 ∨ ti G (p + 1) ≠ ti G p) : 512 * (ti G p + 1) ≤ E G (ex G p) := by
  have htot := tot_le hG
  obtain ⟨h8, h1, h2⟩ := ex_spec hG p
  obtain ⟨j, ej, hj, ht, hg, hc⟩ := ti_spec hG p
  have hcv := cnt_le_V (G := G) (ex G p)
  have hE := E_eq (G := G) (ex G p)
  by_cases hn : p + 1 < tot G
  · rcases next_visit hG hn with ⟨e, t⟩ | ⟨e, t, t'⟩
    · obtain ⟨j0, ej0, hj0, ht0, hg0, hc0⟩ := ti_spec hG (p + 1)
      rw [e] at ht0 hj0 hc0; omega
    · rcases h with h | h <;> omega
  · have hi : idc G p = tot G - 1 := by unfold idc; omega
    have hm := V_mono (G := G) (show ex G p ≤ 7 by omega)
    rw [V_seven] at hm
    have hve : V G (ex G p) = V G 7 := by rw [V_seven]; omega
    have := E_eq_of_V_eq (show ex G p ≤ 7 by omega) hve
    omega

include hG in
/-- Every tile has a visit. -/
theorem visited {T : Nat} (hT : T < 64) : ∃ p, p < 71 ∧ p < tot G ∧ ti G p = T := by
  have hex : ∃ e, 512 * T < E G e := ⟨7, by omega⟩
  obtain ⟨e, he, hmin⟩ : ∃ e, 512 * T < E G e ∧ ∀ q < e, E G q ≤ 512 * T := by
    classical
    exact ⟨Nat.find hex, Nat.find_spec hex, fun q hq => by have := Nat.find_min hex hq; omega⟩
  have h8 : e < 8 := by
    by_contra h; have := hmin 7 (by omega); omega
  have hS : S G e ≤ 512 * T := by
    cases e with
    | zero => rw [S_zero]; omega
    | succ e => rw [S_succ]; exact hmin e (by omega)
  have hE := E_eq (G := G) e
  have hc : cnt G e = (E G e - 1) / 512 - S G e / 512 + 1 := by rw [cnt, if_pos (by omega)]
  have hcv := cnt_le_V (G := G) e
  have hm := V_mono (G := G) (show e ≤ 7 by omega)
  rw [V_seven] at hm
  have htot := tot_le hG
  refine ⟨V G e - cnt G e + (T - S G e / 512), by omega, by omega, ?_⟩
  have hid : idc G (V G e - cnt G e + (T - S G e / 512)) = V G e - cnt G e + (T - S G e / 512) := by unfold idc; omega
  have hexe := ex_eq (p := V G e - cnt G e + (T - S G e / 512)) h8 (by rw [hid]; omega) (by rw [hid]; omega)
  unfold ti; rw [hexe, hid]; omega

end Cert.Visits
-- ==== Proof.Terms.lean ====
module

public import proofs.«01_k».proof.Proof.Gen.KernelIdeal
public import proofs.«01_k».proof.Proof.Visits
public import Idealize.ShloMosaic.Lib.Routing.OpsSearch
public import Idealize.ShloMosaic.Lib.Routing.Words

/-! The four tables as the host computes them, as terms of the group sizes, and read back: entry `p` of each is
the word of the natural number `Visits` says. -/

@[expose] public section

noncomputable section
namespace Cert.Terms

open Idealize.ShloMosaic Idealize.ShloMosaic.Routing Idealize.ShloMosaic.ValueIdx Idealize.ShloMosaic.WordCmp
open Cert.KernelIdeal Cert.KernelIdeal.Gen

abbrev c32 (n : BitVec 32) : IVec S_ 32 := constantI S_ 32 n
abbrev b8 (v : IVec S_ 32) : IVec S8 32 := broadcastInDim S8 ![] bcast_S_S8 v
abbrev b71 (v : IVec S_ 32) : IVec S71 32 := broadcastInDim S71 ![] bcast_S_S71 v

theorem b8_ap (v : IVec S_ 32) (i : S8.Idx) : b8 v i = v ix0 := bc0 bcast_S_S8 v i
theorem b71_ap (v : IVec S_ 32) (i : S71.Idx) : b71 v i = v ix0 := bc0 bcast_S_S71 v i

def tE (gs : IVec S8 32) : IVec S8 32 := Host.reduceWindow IntOp.addi ![8] ![1] ![7] ![0] gs (broadcastInDim S_ ![] bcast_S_S_ (c32 0#32)) reduceWindows_S8_S8_w8s1p7_0 h_S_
def tS (gs : IVec S8 32) : IVec S8 32 := subi (tE gs) gs
def tF (gs : IVec S8 32) : IVec S8 32 := pyDiv bcast_S_S8 (tS gs) (c32 512#32)
def tL (gs : IVec S8 32) : IVec S8 32 := pyDiv bcast_S_S8 (subi (tE gs) (b8 (c32 1#32))) (c32 512#32)
def tCnt (gs : IVec S8 32) : IVec S8 32 := select (cmpi .sgt gs (b8 (c32 0#32))) (addi (subi (tL gs) (tF gs)) (b8 (c32 1#32))) (b8 (c32 0#32))
def tTot (gs : IVec S8 32) : IVec S_ 32 := Host.reduce IntOp.addi (tCnt gs) (c32 0#32) reducesTo_S8_S_d0 h_S_
def tV (gs : IVec S8 32) : IVec S8 32 := Host.reduceWindow IntOp.addi ![8] ![1] ![7] ![0] (tCnt gs) (broadcastInDim S_ ![] bcast_S_S_ (c32 0#32)) reduceWindows_S8_S8_w8s1p7_0 h_S_
def tId (gs : IVec S8 32) : IVec S71 32 := minsi (iotaInDim S71 32 0) (b71 (subi (tTot gs) (c32 1#32)))
def tEx (gs : IVec S8 32) : IVec S71 32 :=
  Host.reduce IntOp.addi (extui 32 (cmpi .sge (broadcastInDim S71x8 ![0, 1] bcast_S71x1_S71x8_0_1 (broadcastInDim S71x1 ![0] bcast_S71_S71x1_0 (tId gs)))
    (broadcastInDim S71x8 ![0, 1] bcast_S1x8_S71x8_0_1 (broadcastInDim S1x8 ![1] bcast_S8_S1x8_1 (tV gs)))) natLt_1_32) (c32 0#32) reducesTo_S71x8_S71_d1 h_S_
def tIx (gs : IVec S8 32) : IVec S71x1 32 :=
  broadcastInDim S71x1 ![0] bcast_S71_S71x1_0 (select (cmpi .slt (tEx gs) (b71 (c32 0#32))) (addi (tEx gs) (b71 (c32 8#32))) (tEx gs))
def tTile (gs : IVec S8 32) : IVec S71 32 :=
  subi (addi (Host.gather gather_S8_S71x1_S71_n_0_n_n_0_1_1 (tF gs) (tIx gs)) (tId gs)) (Host.gather gather_S8_S71x1_S71_n_0_n_n_0_1_1 (subi (tV gs) (tCnt gs)) (tIx gs))
def tLo (gs : IVec S8 32) : IVec S71 32 := Host.gather gather_S8_S71x1_S71_n_0_n_n_0_1_1 (tS gs) (tIx gs)
abbrev gs (g : IVec S8 32) : IVec S8 32 := g
def tHiE (gs : IVec S8 32) : IVec S71 32 := Host.gather gather_S8_S71x1_S71_n_0_n_n_0_1_1 (tE gs) (tIx gs)
def tIn (gs : IVec S8 32) : IVec S71 1 := cmpi .slt (iotaInDim S71 32 0) (b71 (tTot gs))
def tHi (gs : IVec S8 32) : IVec S71 32 :=
  select (cmpi .slt (iotaInDim S71 32 0) (b71 (tTot gs))) (Host.gather gather_S8_S71x1_S71_n_0_n_n_0_1_1 (tE gs) (tIx gs)) (tLo gs)

variable {gs : IVec S8 32} {G : Nat → Nat} (hg : ∀ i : Fin 8, gs (ix1 i) = BitVec.ofNat 32 (G i.val)) (hG : Visits.E G 7 = 32768)

include hg in
theorem tE_ap (i : Fin 8) : tE gs (ix1 i) = BitVec.ofNat 32 (Visits.E G i.val) :=
  cumsum1 rfl gs G hg _ (bc0 bcast_S_S_ _ _) reduceWindows_S8_S8_w8s1p7_0 h_S_ i
include hg in
theorem tS_ap (i : Fin 8) : tS gs (ix1 i) = BitVec.ofNat 32 (Visits.S G i.val) := by
  unfold tS; rw [subi_ap, tE_ap hg, hg, ofNat32_sub (by rw [Visits.E_eq]; omega)]; rfl

theorem E_le (hG : Visits.E G 7 = 32768) (i : Fin 8) : Visits.E G i.val ≤ 32768 := Visits.E_le i.isLt hG
include hg hG in
theorem tF_ap (i : Fin 8) : tF gs (ix1 i) = BitVec.ofNat 32 (Visits.S G i.val / 512) :=
  pyDiv_ap bcast_S_S8 _ _ _ (tS_ap hg i) rfl (by have := E_le hG i; have := Visits.E_eq (G := G) i.val; omega) (by omega) (by omega)
include hg hG in
theorem tL_ap (i : Fin 8) (h : 0 < G i.val) : tL gs (ix1 i) = BitVec.ofNat 32 ((Visits.E G i.val - 1) / 512) := by
  refine pyDiv_ap bcast_S_S8 _ _ _ (a := Visits.E G i.val - 1) ?_ rfl (by have := E_le hG i; omega) (by omega) (by omega)
  rw [subi_ap, tE_ap hg, b8_ap]
  exact ofNat32_sub (by rw [Visits.E_eq]; omega)
include hg hG in
theorem tCnt_ap (i : Fin 8) : tCnt gs (ix1 i) = BitVec.ofNat 32 (Visits.cnt G i.val) := by
  have hE := E_le hG i
  have hE' := Visits.E_eq (G := G) i.val
  unfold tCnt
  rw [select_at, cmpi_at, b8_ap, hg]
  have hc : IntOp.cmpi .sgt (BitVec.ofNat 32 (G i.val)) (c32 0#32 ix0) = if 0 < G i.val then 1#1 else 0#1 := by
    show BitVec.ofBool ((BitVec.ofNat 32 0).slt (BitVec.ofNat 32 (G i.val))) = _
    rw [slt_ofNat32 (by omega) (by omega)]
    by_cases h : 0 < G i.val <;> simp [h]
  rw [hc]
  by_cases h : 0 < G i.val
  · rw [if_pos h]
    show (addi (subi (tL gs) (tF gs)) (b8 (c32 1#32))) (ix1 i) = _
    rw [addi_ap, subi_ap, tL_ap hg hG i h, tF_ap hg hG, b8_ap, ofNat32_sub (Nat.div_le_div_right (by omega)), Visits.cnt, if_pos h]
    exact BitVec.ofNat_add_ofNat ..
  · rw [if_neg h, Visits.cnt, if_neg h]
    rfl
include hg hG in
theorem tTot_ap : tTot gs ix0 = BitVec.ofNat 32 (Visits.tot G) := reduce_sum _ _ (tCnt_ap hg hG) _ _
include hg hG in
theorem tV_ap (i : Fin 8) : tV gs (ix1 i) = BitVec.ofNat 32 (Visits.V G i.val) :=
  cumsum1 rfl _ _ (tCnt_ap hg hG) _ (bc0 bcast_S_S_ _ _) reduceWindows_S8_S8_w8s1p7_0 h_S_ i
theorem V_le (hG : Visits.E G 7 = 32768) (i : Fin 8) : Visits.V G i.val ≤ 71 := by
  have h1 := Visits.tot_le hG
  have h2 := Visits.V_mono (G := G) (show i.val ≤ 7 by omega)
  rw [Visits.V_seven] at h2; omega
include hg hG in
theorem tId_ap (p : Fin 71) : tId gs (ix1 p) = BitVec.ofNat 32 (Visits.idc G p.val) := by
  have h1 := Visits.tot_le hG
  have h2 := Visits.tot_pos hG
  unfold tId
  show IntOp.minsi (iotaInDim S71 32 0 (ix1 p)) (b71 (subi (tTot gs) (c32 1#32)) (ix1 p)) = _
  rw [iota1_ap, b71_ap, subi_ap, tTot_ap hg hG]
  show IntOp.minsi _ (BitVec.ofNat 32 _ - BitVec.ofNat 32 1) = _
  rw [ofNat32_sub (by omega)]
  unfold IntOp.minsi
  rw [slt_ofNat32 (by omega) (by omega)]
  unfold Visits.idc
  by_cases h : p.val < Visits.tot G - 1
  · rw [if_pos (by simpa using h), Nat.min_eq_left (by omega)]
  · rw [if_neg (by simpa using h), Nat.min_eq_right (by omega)]
include hg hG in
theorem tEx_ap (p : Fin 71) : tEx gs (ix1 p) = BitVec.ofNat 32 (Visits.ex G p.val) := by
  refine reduce_count (by omega) _ _ _ _ p (fun q => Visits.V G q ≤ Visits.idc G p.val) fun q => ?_
  have h1 := Visits.tot_le hG
  have h2 := V_le hG q
  rw [cmpi_at, bcRows bcast_S71_S71x1_0 bcast_S71x1_S71x8_0_1, bcCols bcast_S8_S1x8_1 bcast_S1x8_S71x8_0_1, tId_ap hg hG, tV_ap hg hG]
  show BitVec.ofBool ((BitVec.ofNat 32 (Visits.V G q.val)).sle (BitVec.ofNat 32 (Visits.idc G p.val))) = 1#1 ↔ _
  rw [sle_ofNat32 (by omega) (by unfold Visits.idc; omega)]
  by_cases h : Visits.V G q.val ≤ Visits.idc G p.val <;> simp [h]
include hg hG in
theorem tIx_ap (p : Fin 71) : tIx gs (ix2 p (0 : Fin 1)) = BitVec.ofNat 32 (Visits.ex G p.val) := by
  have he := (Visits.ex_spec hG p.val).1
  unfold tIx
  rw [bcCol bcast_S71_S71x1_0, select_at, cmpi_at, tEx_ap hg hG, b71_ap]
  have hc : IntOp.cmpi .slt (BitVec.ofNat 32 (Visits.ex G p.val)) (c32 0#32 ix0) = 0#1 := by
    show BitVec.ofBool ((BitVec.ofNat 32 _).slt (BitVec.ofNat 32 0)) = _
    rw [slt_ofNat32 (by omega) (by omega)]; simp
  rw [hc]; rfl
include hg hG in
theorem take (x : IVec S8 32) (p : Fin 71) : Host.gather gather_S8_S71x1_S71_n_0_n_n_0_1_1 x (tIx gs) (ix1 p) = x (ix1 ⟨Visits.ex G p.val, (Visits.ex_spec hG p.val).1⟩) :=
  take_ap _ rfl rfl rfl rfl x _ p _ (by have := (Visits.ex_spec hG p.val).1; omega) (tIx_ap hg hG p)
include hg hG in
theorem tLo_ap (p : Fin 71) : tLo gs (ix1 p) = BitVec.ofNat 32 (Visits.lo G p.val) := by
  unfold tLo; rw [take hg hG, tS_ap hg]; rfl
include hg hG in
theorem tHi_ap (p : Fin 71) : tHi gs (ix1 p) = BitVec.ofNat 32 (Visits.hi G p.val) := by
  have h1 := Visits.tot_le hG
  unfold tHi
  rw [select_at, cmpi_at, b71_ap, take hg hG, tE_ap hg, iota1_ap, tTot_ap hg hG, tLo_ap hg hG]
  have hc : IntOp.cmpi .slt (BitVec.ofNat 32 p.val) (BitVec.ofNat 32 (Visits.tot G)) = if p.val < Visits.tot G then 1#1 else 0#1 := by
    show BitVec.ofBool ((BitVec.ofNat 32 _).slt (BitVec.ofNat 32 _)) = _
    rw [slt_ofNat32 (by omega) (by omega)]
    by_cases h : p.val < Visits.tot G <;> simp [h]
  rw [hc]; unfold Visits.hi
  by_cases h : p.val < Visits.tot G
  · rw [if_pos h, if_pos h]; rfl
  · rw [if_neg h, if_neg h]; rfl
include hg hG in
theorem tTile_ap (p : Fin 71) : tTile gs (ix1 p) = BitVec.ofNat 32 (Visits.ti G p.val) := by
  obtain ⟨h8, h1, h2⟩ := Visits.ex_spec hG p.val
  have hc := Visits.cnt_le_V (G := G) (Visits.ex G p.val)
  unfold tTile
  rw [subi_ap, addi_ap, take hg hG, take hg hG, tF_ap hg hG, subi_ap, tV_ap hg hG, tCnt_ap hg hG, tId_ap hg hG, ofNat32_sub hc,
    BitVec.ofNat_add_ofNat, ofNat32_sub (by dsimp only; omega)]
  rfl

end Cert.Terms
-- ==== Proof.HostIdeal.lean ====
module

public import proofs.«01_k».proof.Proof.Gen.KernelIdeal.Launch
public import proofs.«01_k».proof.Proof.Terms
public import Idealize.ShloMosaic.Lib.StableHlo.Run

/-! What the host leaves in the tables, stretch by stretch: each buffer a later stretch reads, as a term of the
group sizes; and the arguments untouched. -/

@[expose] public section

set_option maxRecDepth 16384
noncomputable section
namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The buffers after stretch 0. -/
def val0 (V0 : Valuation τ sig (Elt F)) : Valuation τ sig (Elt F) := after hostOps0 V0
abbrev W0 : List (Ref sig .tc) := [main_call0_call0_c, main_call0_call0_v0, main_v0]
theorem writes0 : (hostOps0 : List (HloOp τ sig (Elt F))).Forall fun op => op.writes ⊆ (W0.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep0 (V0 : Valuation τ sig (Elt F)) (r : Ref sig .tc) (h : r ∉ W0) : val0 V0 (Proc.devRef .tc r) = V0 (Proc.devRef .tc r) :=
  after_of_writes_sub hostOps0 _ writes0 h
theorem val0_main_arg0 (V0 : Valuation τ sig (Elt F)) : val0 V0 (no_index (Proc.devRef .tc main_arg0)) = V0 (Proc.devRef .tc main_arg0) :=
  (keep0 V0 main_arg0 (by decide))
theorem val0_main_arg1 (V0 : Valuation τ sig (Elt F)) : val0 V0 (no_index (Proc.devRef .tc main_arg1)) = V0 (Proc.devRef .tc main_arg1) :=
  (keep0 V0 main_arg1 (by decide))
theorem val0_main_arg2 (V0 : Valuation τ sig (Elt F)) : val0 V0 (no_index (Proc.devRef .tc main_arg2)) = V0 (Proc.devRef .tc main_arg2) :=
  (keep0 V0 main_arg2 (by decide))
theorem val0_main_arg3 (V0 : Valuation τ sig (Elt F)) : val0 V0 (no_index (Proc.devRef .tc main_arg3)) = V0 (Proc.devRef .tc main_arg3) :=
  (keep0 V0 main_arg3 (by decide))
theorem val0_main_v59 (V0 : Valuation τ sig (Elt F)) : val0 V0 (no_index (Proc.devRef .tc main_v59)) = V0 (Proc.devRef .tc main_v59) :=
  (keep0 V0 main_v59 (by decide))
theorem val0_main_v0 (V0 : Valuation τ sig (Elt F)) : val0 V0 (no_index (Proc.devRef .tc main_v0)) = Terms.tE (V0 (Proc.devRef .tc main_arg1)) := by
  unfold val0
  simp only [hostOps0, TRef.nullary, TRef.unary, TRef.binary, TRef.ternary, TRef.toBuf, TRef.ofBuf, cast_eq]
  after_results_simp
  all_goals rfl
/-- The buffers after stretch 1. -/
def val1 (V0 : Valuation τ sig (Elt F)) : Valuation τ sig (Elt F) := after hostOps0_1 (val0 V0)
abbrev W1 : List (Ref sig .tc) := [main_v1, main_c]
theorem writes1 : (hostOps0_1 : List (HloOp τ sig (Elt F))).Forall fun op => op.writes ⊆ (W1.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep1 (V0 : Valuation τ sig (Elt F)) (r : Ref sig .tc) (h : r ∉ W1) : val1 V0 (Proc.devRef .tc r) = (val0 V0) (Proc.devRef .tc r) :=
  after_of_writes_sub hostOps0_1 _ writes1 h
theorem val1_main_arg0 (V0 : Valuation τ sig (Elt F)) : val1 V0 (no_index (Proc.devRef .tc main_arg0)) = V0 (Proc.devRef .tc main_arg0) :=
  (keep1 V0 main_arg0 (by decide)).trans (val0_main_arg0 V0)
theorem val1_main_arg1 (V0 : Valuation τ sig (Elt F)) : val1 V0 (no_index (Proc.devRef .tc main_arg1)) = V0 (Proc.devRef .tc main_arg1) :=
  (keep1 V0 main_arg1 (by decide)).trans (val0_main_arg1 V0)
theorem val1_main_arg2 (V0 : Valuation τ sig (Elt F)) : val1 V0 (no_index (Proc.devRef .tc main_arg2)) = V0 (Proc.devRef .tc main_arg2) :=
  (keep1 V0 main_arg2 (by decide)).trans (val0_main_arg2 V0)
theorem val1_main_arg3 (V0 : Valuation τ sig (Elt F)) : val1 V0 (no_index (Proc.devRef .tc main_arg3)) = V0 (Proc.devRef .tc main_arg3) :=
  (keep1 V0 main_arg3 (by decide)).trans (val0_main_arg3 V0)
theorem val1_main_v59 (V0 : Valuation τ sig (Elt F)) : val1 V0 (no_index (Proc.devRef .tc main_v59)) = V0 (Proc.devRef .tc main_v59) :=
  (keep1 V0 main_v59 (by decide)).trans (val0_main_v59 V0)
theorem val1_main_v0 (V0 : Valuation τ sig (Elt F)) : val1 V0 (no_index (Proc.devRef .tc main_v0)) = Terms.tE (V0 (Proc.devRef .tc main_arg1)) :=
  (keep1 V0 main_v0 (by decide)).trans (val0_main_v0 V0)
theorem val1_main_v1 (V0 : Valuation τ sig (Elt F)) : val1 V0 (no_index (Proc.devRef .tc main_v1)) = Terms.tS (V0 (Proc.devRef .tc main_arg1)) := by
  unfold val1
  simp only [hostOps0_1, TRef.nullary, TRef.unary, TRef.binary, TRef.ternary, TRef.toBuf, TRef.ofBuf, cast_eq]
  after_results_simp
  all_goals (simp only [val0_main_v0, val0_main_arg1] <;> rfl)
theorem val1_main_c (V0 : Valuation τ sig (Elt F)) : val1 V0 (no_index (Proc.devRef .tc main_c)) = constantI S_ 32 512#32 := by
  unfold val1
  simp only [hostOps0_1, TRef.nullary, TRef.unary, TRef.binary, TRef.ternary, TRef.toBuf, TRef.ofBuf, cast_eq]
  after_results_simp
  all_goals (simp only [val0_main_v0, val0_main_arg1] <;> rfl)
/-- The buffers after stretch 2. -/
def val2 (V0 : Valuation τ sig (Elt F)) : Valuation τ sig (Elt F) := after hostOps0_2 (val1 V0)
abbrev W2 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]
theorem writes2 : (hostOps0_2 : List (HloOp τ sig (Elt F))).Forall fun op => op.writes ⊆ (W2.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep2 (V0 : Valuation τ sig (Elt F)) (r : Ref sig .tc) (h : r ∉ W2) : val2 V0 (Proc.devRef .tc r) = (val1 V0) (Proc.devRef .tc r) :=
  after_of_writes_sub hostOps0_2 _ writes2 h
theorem val2_main_arg0 (V0 : Valuation τ sig (Elt F)) : val2 V0 (no_index (Proc.devRef .tc main_arg0)) = V0 (Proc.devRef .tc main_arg0) :=
  (keep2 V0 main_arg0 (by decide)).trans (val1_main_arg0 V0)
theorem val2_main_arg1 (V0 : Valuation τ sig (Elt F)) : val2 V0 (no_index (Proc.devRef .tc main_arg1)) = V0 (Proc.devRef .tc main_arg1) :=
  (keep2 V0 main_arg1 (by decide)).trans (val1_main_arg1 V0)
theorem val2_main_arg2 (V0 : Valuation τ sig (Elt F)) : val2 V0 (no_index (Proc.devRef .tc main_arg2)) = V0 (Proc.devRef .tc main_arg2) :=
  (keep2 V0 main_arg2 (by decide)).trans (val1_main_arg2 V0)
theorem val2_main_arg3 (V0 : Valuation τ sig (Elt F)) : val2 V0 (no_index (Proc.devRef .tc main_arg3)) = V0 (Proc.devRef .tc main_arg3) :=
  (keep2 V0 main_arg3 (by decide)).trans (val1_main_arg3 V0)
theorem val2_main_v59 (V0 : Valuation τ sig (Elt F)) : val2 V0 (no_index (Proc.devRef .tc main_v59)) = V0 (Proc.devRef .tc main_v59) :=
  (keep2 V0 main_v59 (by decide)).trans (val1_main_v59 V0)
theorem val2_main_v0 (V0 : Valuation τ sig (Elt F)) : val2 V0 (no_index (Proc.devRef .tc main_v0)) = Terms.tE (V0 (Proc.devRef .tc main_arg1)) :=
  (keep2 V0 main_v0 (by decide)).trans (val1_main_v0 V0)
theorem val2_main_v1 (V0 : Valuation τ sig (Elt F)) : val2 V0 (no_index (Proc.devRef .tc main_v1)) = Terms.tS (V0 (Proc.devRef .tc main_arg1)) :=
  (keep2 V0 main_v1 (by decide)).trans (val1_main_v1 V0)
theorem val2_main_c (V0 : Valuation τ sig (Elt F)) : val2 V0 (no_index (Proc.devRef .tc main_c)) = constantI S_ 32 512#32 :=
  (keep2 V0 main_c (by decide)).trans (val1_main_c V0)
theorem val2_main_v2 (V0 : Valuation τ sig (Elt F)) : val2 V0 (no_index (Proc.devRef .tc main_v2)) = Terms.tF (V0 (Proc.devRef .tc main_arg1)) := by
  unfold val2
  simp only [hostOps0_2, TRef.nullary, TRef.unary, TRef.binary, TRef.ternary, TRef.toBuf, TRef.ofBuf, cast_eq]
  after_results_simp
  all_goals (simp only [val1_main_v0, val1_main_v1, val1_main_c, val1_main_arg1] <;> rfl)
/-- The buffers after stretch 3. -/
def val3 (V0 : Valuation τ sig (Elt F)) : Valuation τ sig (Elt F) := after hostOps0_3 (val2 V0)
abbrev W3 : List (Ref sig .tc) := [main_c_0, main_v3, main_v4, main_c_1, main_v5, main_v6, main_c_2]
theorem writes3 : (hostOps0_3 : List (HloOp τ sig (Elt F))).Forall fun op => op.writes ⊆ (W3.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep3 (V0 : Valuation τ sig (Elt F)) (r : Ref sig .tc) (h : r ∉ W3) : val3 V0 (Proc.devRef .tc r) = (val2 V0) (Proc.devRef .tc r) :=
  after_of_writes_sub hostOps0_3 _ writes3 h
theorem val3_main_arg0 (V0 : Valuation τ sig (Elt F)) : val3 V0 (no_index (Proc.devRef .tc main_arg0)) = V0 (Proc.devRef .tc main_arg0) :=
  (keep3 V0 main_arg0 (by decide)).trans (val2_main_arg0 V0)
theorem val3_main_arg1 (V0 : Valuation τ sig (Elt F)) : val3 V0 (no_index (Proc.devRef .tc main_arg1)) = V0 (Proc.devRef .tc main_arg1) :=
  (keep3 V0 main_arg1 (by decide)).trans (val2_main_arg1 V0)
theorem val3_main_arg2 (V0 : Valuation τ sig (Elt F)) : val3 V0 (no_index (Proc.devRef .tc main_arg2)) = V0 (Proc.devRef .tc main_arg2) :=
  (keep3 V0 main_arg2 (by decide)).trans (val2_main_arg2 V0)
theorem val3_main_arg3 (V0 : Valuation τ sig (Elt F)) : val3 V0 (no_index (Proc.devRef .tc main_arg3)) = V0 (Proc.devRef .tc main_arg3) :=
  (keep3 V0 main_arg3 (by decide)).trans (val2_main_arg3 V0)
theorem val3_main_v59 (V0 : Valuation τ sig (Elt F)) : val3 V0 (no_index (Proc.devRef .tc main_v59)) = V0 (Proc.devRef .tc main_v59) :=
  (keep3 V0 main_v59 (by decide)).trans (val2_main_v59 V0)
theorem val3_main_v0 (V0 : Valuation τ sig (Elt F)) : val3 V0 (no_index (Proc.devRef .tc main_v0)) = Terms.tE (V0 (Proc.devRef .tc main_arg1)) :=
  (keep3 V0 main_v0 (by decide)).trans (val2_main_v0 V0)
theorem val3_main_v1 (V0 : Valuation τ sig (Elt F)) : val3 V0 (no_index (Proc.devRef .tc main_v1)) = Terms.tS (V0 (Proc.devRef .tc main_arg1)) :=
  (keep3 V0 main_v1 (by decide)).trans (val2_main_v1 V0)
theorem val3_main_c (V0 : Valuation τ sig (Elt F)) : val3 V0 (no_index (Proc.devRef .tc main_c)) = constantI S_ 32 512#32 :=
  (keep3 V0 main_c (by decide)).trans (val2_main_c V0)
theorem val3_main_v2 (V0 : Valuation τ sig (Elt F)) : val3 V0 (no_index (Proc.devRef .tc main_v2)) = Terms.tF (V0 (Proc.devRef .tc main_arg1)) :=
  (keep3 V0 main_v2 (by decide)).trans (val2_main_v2 V0)
theorem val3_main_v4 (V0 : Valuation τ sig (Elt F)) : val3 V0 (no_index (Proc.devRef .tc main_v4)) = cmpi .sgt (Terms.gs (V0 (Proc.devRef .tc main_arg1))) (Terms.b8 (Terms.c32 0#32)) := by
  unfold val3
  simp only [hostOps0_3, TRef.nullary, TRef.unary, TRef.binary, TRef.ternary, TRef.toBuf, TRef.ofBuf, cast_eq]
  after_results_simp
  all_goals (simp only [val2_main_v0, val2_main_v1, val2_main_c, val2_main_v2, val2_main_arg1] <;> rfl)
theorem val3_main_v6 (V0 : Valuation τ sig (Elt F)) : val3 V0 (no_index (Proc.devRef .tc main_v6)) = subi (Terms.tE (V0 (Proc.devRef .tc main_arg1))) (Terms.b8 (Terms.c32 1#32)) := by
  unfold val3
  simp only [hostOps0_3, TRef.nullary, TRef.unary, TRef.binary, TRef.ternary, TRef.toBuf, TRef.ofBuf, cast_eq]
  after_results_simp
  all_goals (simp only [val2_main_v0, val2_main_v1, val2_main_c, val2_main_v2, val2_main_arg1] <;> rfl)
theorem val3_main_c_2 (V0 : Valuation τ sig (Elt F)) : val3 V0 (no_index (Proc.devRef .tc main_c_2)) = constantI S_ 32 512#32 := by
  unfold val3
  simp only [hostOps0_3, TRef.nullary, TRef.unary, TRef.binary, TRef.ternary, TRef.toBuf, TRef.ofBuf, cast_eq]
  after_results_simp
  all_goals (simp only [val2_main_v0, val2_main_v1, val2_main_c, val2_main_v2, val2_main_arg1] <;> rfl)
/-- The buffers after stretch 4. -/
def val4 (V0 : Valuation τ sig (Elt F)) : Valuation τ sig (Elt F) := after hostOps0_4 (val3 V0)
abbrev W4 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7]
theorem writes4 : (hostOps0_4 : List (HloOp τ sig (Elt F))).Forall fun op => op.writes ⊆ (W4.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep4 (V0 : Valuation τ sig (Elt F)) (r : Ref sig .tc) (h : r ∉ W4) : val4 V0 (Proc.devRef .tc r) = (val3 V0) (Proc.devRef .tc r) :=
  after_of_writes_sub hostOps0_4 _ writes4 h
theorem val4_main_arg0 (V0 : Valuation τ sig (Elt F)) : val4 V0 (no_index (Proc.devRef .tc main_arg0)) = V0 (Proc.devRef .tc main_arg0) :=
  (keep4 V0 main_arg0 (by decide)).trans (val3_main_arg0 V0)
theorem val4_main_arg1 (V0 : Valuation τ sig (Elt F)) : val4 V0 (no_index (Proc.devRef .tc main_arg1)) = V0 (Proc.devRef .tc main_arg1) :=
  (keep4 V0 main_arg1 (by decide)).trans (val3_main_arg1 V0)
theorem val4_main_arg2 (V0 : Valuation τ sig (Elt F)) : val4 V0 (no_index (Proc.devRef .tc main_arg2)) = V0 (Proc.devRef .tc main_arg2) :=
  (keep4 V0 main_arg2 (by decide)).trans (val3_main_arg2 V0)
theorem val4_main_arg3 (V0 : Valuation τ sig (Elt F)) : val4 V0 (no_index (Proc.devRef .tc main_arg3)) = V0 (Proc.devRef .tc main_arg3) :=
  (keep4 V0 main_arg3 (by decide)).trans (val3_main_arg3 V0)
theorem val4_main_v59 (V0 : Valuation τ sig (Elt F)) : val4 V0 (no_index (Proc.devRef .tc main_v59)) = V0 (Proc.devRef .tc main_v59) :=
  (keep4 V0 main_v59 (by decide)).trans (val3_main_v59 V0)
theorem val4_main_v0 (V0 : Valuation τ sig (Elt F)) : val4 V0 (no_index (Proc.devRef .tc main_v0)) = Terms.tE (V0 (Proc.devRef .tc main_arg1)) :=
  (keep4 V0 main_v0 (by decide)).trans (val3_main_v0 V0)
theorem val4_main_v1 (V0 : Valuation τ sig (Elt F)) : val4 V0 (no_index (Proc.devRef .tc main_v1)) = Terms.tS (V0 (Proc.devRef .tc main_arg1)) :=
  (keep4 V0 main_v1 (by decide)).trans (val3_main_v1 V0)
theorem val4_main_c (V0 : Valuation τ sig (Elt F)) : val4 V0 (no_index (Proc.devRef .tc main_c)) = constantI S_ 32 512#32 :=
  (keep4 V0 main_c (by decide)).trans (val3_main_c V0)
theorem val4_main_v2 (V0 : Valuation τ sig (Elt F)) : val4 V0 (no_index (Proc.devRef .tc main_v2)) = Terms.tF (V0 (Proc.devRef .tc main_arg1)) :=
  (keep4 V0 main_v2 (by decide)).trans (val3_main_v2 V0)
theorem val4_main_v4 (V0 : Valuation τ sig (Elt F)) : val4 V0 (no_index (Proc.devRef .tc main_v4)) = cmpi .sgt (Terms.gs (V0 (Proc.devRef .tc main_arg1))) (Terms.b8 (Terms.c32 0#32)) :=
  (keep4 V0 main_v4 (by decide)).trans (val3_main_v4 V0)
theorem val4_main_v6 (V0 : Valuation τ sig (Elt F)) : val4 V0 (no_index (Proc.devRef .tc main_v6)) = subi (Terms.tE (V0 (Proc.devRef .tc main_arg1))) (Terms.b8 (Terms.c32 1#32)) :=
  (keep4 V0 main_v6 (by decide)).trans (val3_main_v6 V0)
theorem val4_main_c_2 (V0 : Valuation τ sig (Elt F)) : val4 V0 (no_index (Proc.devRef .tc main_c_2)) = constantI S_ 32 512#32 :=
  (keep4 V0 main_c_2 (by decide)).trans (val3_main_c_2 V0)
theorem val4_main_v7 (V0 : Valuation τ sig (Elt F)) : val4 V0 (no_index (Proc.devRef .tc main_v7)) = Terms.tL (V0 (Proc.devRef .tc main_arg1)) := by
  unfold val4
  simp only [hostOps0_4, TRef.nullary, TRef.unary, TRef.binary, TRef.ternary, TRef.toBuf, TRef.ofBuf, cast_eq]
  after_results_simp
  all_goals (simp only [val3_main_v0, val3_main_v1, val3_main_c, val3_main_v2, val3_main_v4, val3_main_v6, val3_main_c_2, val3_main_arg1] <;> rfl)
/-- The buffers after stretch 5. -/
def val5 (V0 : Valuation τ sig (Elt F)) : Valuation τ sig (Elt F) := after hostOps0_5 (val4 V0)
abbrev W5 : List (Ref sig .tc) := [main_v8, main_c_3, main_v9, main_v10, main_c_4]
theorem writes5 : (hostOps0_5 : List (HloOp τ sig (Elt F))).Forall fun op => op.writes ⊆ (W5.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep5 (V0 : Valuation τ sig (Elt F)) (r : Ref sig .tc) (h : r ∉ W5) : val5 V0 (Proc.devRef .tc r) = (val4 V0) (Proc.devRef .tc r) :=
  after_of_writes_sub hostOps0_5 _ writes5 h
theorem val5_main_arg0 (V0 : Valuation τ sig (Elt F)) : val5 V0 (no_index (Proc.devRef .tc main_arg0)) = V0 (Proc.devRef .tc main_arg0) :=
  (keep5 V0 main_arg0 (by decide)).trans (val4_main_arg0 V0)
theorem val5_main_arg1 (V0 : Valuation τ sig (Elt F)) : val5 V0 (no_index (Proc.devRef .tc main_arg1)) = V0 (Proc.devRef .tc main_arg1) :=
  (keep5 V0 main_arg1 (by decide)).trans (val4_main_arg1 V0)
theorem val5_main_arg2 (V0 : Valuation τ sig (Elt F)) : val5 V0 (no_index (Proc.devRef .tc main_arg2)) = V0 (Proc.devRef .tc main_arg2) :=
  (keep5 V0 main_arg2 (by decide)).trans (val4_main_arg2 V0)
theorem val5_main_arg3 (V0 : Valuation τ sig (Elt F)) : val5 V0 (no_index (Proc.devRef .tc main_arg3)) = V0 (Proc.devRef .tc main_arg3) :=
  (keep5 V0 main_arg3 (by decide)).trans (val4_main_arg3 V0)
theorem val5_main_v59 (V0 : Valuation τ sig (Elt F)) : val5 V0 (no_index (Proc.devRef .tc main_v59)) = V0 (Proc.devRef .tc main_v59) :=
  (keep5 V0 main_v59 (by decide)).trans (val4_main_v59 V0)
theorem val5_main_v0 (V0 : Valuation τ sig (Elt F)) : val5 V0 (no_index (Proc.devRef .tc main_v0)) = Terms.tE (V0 (Proc.devRef .tc main_arg1)) :=
  (keep5 V0 main_v0 (by decide)).trans (val4_main_v0 V0)
theorem val5_main_v1 (V0 : Valuation τ sig (Elt F)) : val5 V0 (no_index (Proc.devRef .tc main_v1)) = Terms.tS (V0 (Proc.devRef .tc main_arg1)) :=
  (keep5 V0 main_v1 (by decide)).trans (val4_main_v1 V0)
theorem val5_main_c (V0 : Valuation τ sig (Elt F)) : val5 V0 (no_index (Proc.devRef .tc main_c)) = constantI S_ 32 512#32 :=
  (keep5 V0 main_c (by decide)).trans (val4_main_c V0)
theorem val5_main_v2 (V0 : Valuation τ sig (Elt F)) : val5 V0 (no_index (Proc.devRef .tc main_v2)) = Terms.tF (V0 (Proc.devRef .tc main_arg1)) :=
  (keep5 V0 main_v2 (by decide)).trans (val4_main_v2 V0)
theorem val5_main_v4 (V0 : Valuation τ sig (Elt F)) : val5 V0 (no_index (Proc.devRef .tc main_v4)) = cmpi .sgt (Terms.gs (V0 (Proc.devRef .tc main_arg1))) (Terms.b8 (Terms.c32 0#32)) :=
  (keep5 V0 main_v4 (by decide)).trans (val4_main_v4 V0)
theorem val5_main_v6 (V0 : Valuation τ sig (Elt F)) : val5 V0 (no_index (Proc.devRef .tc main_v6)) = subi (Terms.tE (V0 (Proc.devRef .tc main_arg1))) (Terms.b8 (Terms.c32 1#32)) :=
  (keep5 V0 main_v6 (by decide)).trans (val4_main_v6 V0)
theorem val5_main_c_2 (V0 : Valuation τ sig (Elt F)) : val5 V0 (no_index (Proc.devRef .tc main_c_2)) = constantI S_ 32 512#32 :=
  (keep5 V0 main_c_2 (by decide)).trans (val4_main_c_2 V0)
theorem val5_main_v7 (V0 : Valuation τ sig (Elt F)) : val5 V0 (no_index (Proc.devRef .tc main_v7)) = Terms.tL (V0 (Proc.devRef .tc main_arg1)) :=
  (keep5 V0 main_v7 (by decide)).trans (val4_main_v7 V0)
theorem val5_main_v10 (V0 : Valuation τ sig (Elt F)) : val5 V0 (no_index (Proc.devRef .tc main_v10)) = addi (subi (Terms.tL (V0 (Proc.devRef .tc main_arg1))) (Terms.tF (V0 (Proc.devRef .tc main_arg1)))) (Terms.b8 (Terms.c32 1#32)) := by
  unfold val5
  simp only [hostOps0_5, TRef.nullary, TRef.unary, TRef.binary, TRef.ternary, TRef.toBuf, TRef.ofBuf, cast_eq]
  after_results_simp
  all_goals (simp only [val4_main_v0, val4_main_v1, val4_main_c, val4_main_v2, val4_main_v4, val4_main_v6, val4_main_c_2, val4_main_v7, val4_main_arg1] <;> rfl)
theorem val5_main_c_4 (V0 : Valuation τ sig (Elt F)) : val5 V0 (no_index (Proc.devRef .tc main_c_4)) = constantI S_ 32 0#32 := by
  unfold val5
  simp only [hostOps0_5, TRef.nullary, TRef.unary, TRef.binary, TRef.ternary, TRef.toBuf, TRef.ofBuf, cast_eq]
  after_results_simp
  all_goals (simp only [val4_main_v0, val4_main_v1, val4_main_c, val4_main_v2, val4_main_v4, val4_main_v6, val4_main_c_2, val4_main_v7, val4_main_arg1] <;> rfl)
/-- The buffers after stretch 6. -/
def val6 (V0 : Valuation τ sig (Elt F)) : Valuation τ sig (Elt F) := after hostOps0_6 (val5 V0)
abbrev W6 : List (Ref sig .tc) := [main_call3_v0, main_call3_v1, main_v11]
theorem writes6 : (hostOps0_6 : List (HloOp τ sig (Elt F))).Forall fun op => op.writes ⊆ (W6.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep6 (V0 : Valuation τ sig (Elt F)) (r : Ref sig .tc) (h : r ∉ W6) : val6 V0 (Proc.devRef .tc r) = (val5 V0) (Proc.devRef .tc r) :=
  after_of_writes_sub hostOps0_6 _ writes6 h
theorem val6_main_arg0 (V0 : Valuation τ sig (Elt F)) : val6 V0 (no_index (Proc.devRef .tc main_arg0)) = V0 (Proc.devRef .tc main_arg0) :=
  (keep6 V0 main_arg0 (by decide)).trans (val5_main_arg0 V0)
theorem val6_main_arg1 (V0 : Valuation τ sig (Elt F)) : val6 V0 (no_index (Proc.devRef .tc main_arg1)) = V0 (Proc.devRef .tc main_arg1) :=
  (keep6 V0 main_arg1 (by decide)).trans (val5_main_arg1 V0)
theorem val6_main_arg2 (V0 : Valuation τ sig (Elt F)) : val6 V0 (no_index (Proc.devRef .tc main_arg2)) = V0 (Proc.devRef .tc main_arg2) :=
  (keep6 V0 main_arg2 (by decide)).trans (val5_main_arg2 V0)
theorem val6_main_arg3 (V0 : Valuation τ sig (Elt F)) : val6 V0 (no_index (Proc.devRef .tc main_arg3)) = V0 (Proc.devRef .tc main_arg3) :=
  (keep6 V0 main_arg3 (by decide)).trans (val5_main_arg3 V0)
theorem val6_main_v59 (V0 : Valuation τ sig (Elt F)) : val6 V0 (no_index (Proc.devRef .tc main_v59)) = V0 (Proc.devRef .tc main_v59) :=
  (keep6 V0 main_v59 (by decide)).trans (val5_main_v59 V0)
theorem val6_main_v0 (V0 : Valuation τ sig (Elt F)) : val6 V0 (no_index (Proc.devRef .tc main_v0)) = Terms.tE (V0 (Proc.devRef .tc main_arg1)) :=
  (keep6 V0 main_v0 (by decide)).trans (val5_main_v0 V0)
theorem val6_main_v1 (V0 : Valuation τ sig (Elt F)) : val6 V0 (no_index (Proc.devRef .tc main_v1)) = Terms.tS (V0 (Proc.devRef .tc main_arg1)) :=
  (keep6 V0 main_v1 (by decide)).trans (val5_main_v1 V0)
theorem val6_main_c (V0 : Valuation τ sig (Elt F)) : val6 V0 (no_index (Proc.devRef .tc main_c)) = constantI S_ 32 512#32 :=
  (keep6 V0 main_c (by decide)).trans (val5_main_c V0)
theorem val6_main_v2 (V0 : Valuation τ sig (Elt F)) : val6 V0 (no_index (Proc.devRef .tc main_v2)) = Terms.tF (V0 (Proc.devRef .tc main_arg1)) :=
  (keep6 V0 main_v2 (by decide)).trans (val5_main_v2 V0)
theorem val6_main_v4 (V0 : Valuation τ sig (Elt F)) : val6 V0 (no_index (Proc.devRef .tc main_v4)) = cmpi .sgt (Terms.gs (V0 (Proc.devRef .tc main_arg1))) (Terms.b8 (Terms.c32 0#32)) :=
  (keep6 V0 main_v4 (by decide)).trans (val5_main_v4 V0)
theorem val6_main_v6 (V0 : Valuation τ sig (Elt F)) : val6 V0 (no_index (Proc.devRef .tc main_v6)) = subi (Terms.tE (V0 (Proc.devRef .tc main_arg1))) (Terms.b8 (Terms.c32 1#32)) :=
  (keep6 V0 main_v6 (by decide)).trans (val5_main_v6 V0)
theorem val6_main_c_2 (V0 : Valuation τ sig (Elt F)) : val6 V0 (no_index (Proc.devRef .tc main_c_2)) = constantI S_ 32 512#32 :=
  (keep6 V0 main_c_2 (by decide)).trans (val5_main_c_2 V0)
theorem val6_main_v7 (V0 : Valuation τ sig (Elt F)) : val6 V0 (no_index (Proc.devRef .tc main_v7)) = Terms.tL (V0 (Proc.devRef .tc main_arg1)) :=
  (keep6 V0 main_v7 (by decide)).trans (val5_main_v7 V0)
theorem val6_main_v10 (V0 : Valuation τ sig (Elt F)) : val6 V0 (no_index (Proc.devRef .tc main_v10)) = addi (subi (Terms.tL (V0 (Proc.devRef .tc main_arg1))) (Terms.tF (V0 (Proc.devRef .tc main_arg1)))) (Terms.b8 (Terms.c32 1#32)) :=
  (keep6 V0 main_v10 (by decide)).trans (val5_main_v10 V0)
theorem val6_main_c_4 (V0 : Valuation τ sig (Elt F)) : val6 V0 (no_index (Proc.devRef .tc main_c_4)) = constantI S_ 32 0#32 :=
  (keep6 V0 main_c_4 (by decide)).trans (val5_main_c_4 V0)
theorem val6_main_v11 (V0 : Valuation τ sig (Elt F)) : val6 V0 (no_index (Proc.devRef .tc main_v11)) = Terms.tCnt (V0 (Proc.devRef .tc main_arg1)) := by
  unfold val6
  simp only [hostOps0_6, TRef.nullary, TRef.unary, TRef.binary, TRef.ternary, TRef.toBuf, TRef.ofBuf, cast_eq]
  after_results_simp
  all_goals (simp only [val5_main_v0, val5_main_v1, val5_main_c, val5_main_v2, val5_main_v4, val5_main_v6, val5_main_c_2, val5_main_v7, val5_main_v10, val5_main_c_4, val5_main_arg1] <;> rfl)
/-- The buffers after stretch 7. -/
def val7 (V0 : Valuation τ sig (Elt F)) : Valuation τ sig (Elt F) := after hostOps0_7 (val6 V0)
abbrev W7 : List (Ref sig .tc) := [main_c_5, main_v12]
theorem writes7 : (hostOps0_7 : List (HloOp τ sig (Elt F))).Forall fun op => op.writes ⊆ (W7.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep7 (V0 : Valuation τ sig (Elt F)) (r : Ref sig .tc) (h : r ∉ W7) : val7 V0 (Proc.devRef .tc r) = (val6 V0) (Proc.devRef .tc r) :=
  after_of_writes_sub hostOps0_7 _ writes7 h
theorem val7_main_arg0 (V0 : Valuation τ sig (Elt F)) : val7 V0 (no_index (Proc.devRef .tc main_arg0)) = V0 (Proc.devRef .tc main_arg0) :=
  (keep7 V0 main_arg0 (by decide)).trans (val6_main_arg0 V0)
theorem val7_main_arg1 (V0 : Valuation τ sig (Elt F)) : val7 V0 (no_index (Proc.devRef .tc main_arg1)) = V0 (Proc.devRef .tc main_arg1) :=
  (keep7 V0 main_arg1 (by decide)).trans (val6_main_arg1 V0)
theorem val7_main_arg2 (V0 : Valuation τ sig (Elt F)) : val7 V0 (no_index (Proc.devRef .tc main_arg2)) = V0 (Proc.devRef .tc main_arg2) :=
  (keep7 V0 main_arg2 (by decide)).trans (val6_main_arg2 V0)
theorem val7_main_arg3 (V0 : Valuation τ sig (Elt F)) : val7 V0 (no_index (Proc.devRef .tc main_arg3)) = V0 (Proc.devRef .tc main_arg3) :=
  (keep7 V0 main_arg3 (by decide)).trans (val6_main_arg3 V0)
theorem val7_main_v59 (V0 : Valuation τ sig (Elt F)) : val7 V0 (no_index (Proc.devRef .tc main_v59)) = V0 (Proc.devRef .tc main_v59) :=
  (keep7 V0 main_v59 (by decide)).trans (val6_main_v59 V0)
theorem val7_main_v0 (V0 : Valuation τ sig (Elt F)) : val7 V0 (no_index (Proc.devRef .tc main_v0)) = Terms.tE (V0 (Proc.devRef .tc main_arg1)) :=
  (keep7 V0 main_v0 (by decide)).trans (val6_main_v0 V0)
theorem val7_main_v1 (V0 : Valuation τ sig (Elt F)) : val7 V0 (no_index (Proc.devRef .tc main_v1)) = Terms.tS (V0 (Proc.devRef .tc main_arg1)) :=
  (keep7 V0 main_v1 (by decide)).trans (val6_main_v1 V0)
theorem val7_main_c (V0 : Valuation τ sig (Elt F)) : val7 V0 (no_index (Proc.devRef .tc main_c)) = constantI S_ 32 512#32 :=
  (keep7 V0 main_c (by decide)).trans (val6_main_c V0)
theorem val7_main_v2 (V0 : Valuation τ sig (Elt F)) : val7 V0 (no_index (Proc.devRef .tc main_v2)) = Terms.tF (V0 (Proc.devRef .tc main_arg1)) :=
  (keep7 V0 main_v2 (by decide)).trans (val6_main_v2 V0)
theorem val7_main_v4 (V0 : Valuation τ sig (Elt F)) : val7 V0 (no_index (Proc.devRef .tc main_v4)) = cmpi .sgt (Terms.gs (V0 (Proc.devRef .tc main_arg1))) (Terms.b8 (Terms.c32 0#32)) :=
  (keep7 V0 main_v4 (by decide)).trans (val6_main_v4 V0)
theorem val7_main_v6 (V0 : Valuation τ sig (Elt F)) : val7 V0 (no_index (Proc.devRef .tc main_v6)) = subi (Terms.tE (V0 (Proc.devRef .tc main_arg1))) (Terms.b8 (Terms.c32 1#32)) :=
  (keep7 V0 main_v6 (by decide)).trans (val6_main_v6 V0)
theorem val7_main_c_2 (V0 : Valuation τ sig (Elt F)) : val7 V0 (no_index (Proc.devRef .tc main_c_2)) = constantI S_ 32 512#32 :=
  (keep7 V0 main_c_2 (by decide)).trans (val6_main_c_2 V0)
theorem val7_main_v7 (V0 : Valuation τ sig (Elt F)) : val7 V0 (no_index (Proc.devRef .tc main_v7)) = Terms.tL (V0 (Proc.devRef .tc main_arg1)) :=
  (keep7 V0 main_v7 (by decide)).trans (val6_main_v7 V0)
theorem val7_main_v10 (V0 : Valuation τ sig (Elt F)) : val7 V0 (no_index (Proc.devRef .tc main_v10)) = addi (subi (Terms.tL (V0 (Proc.devRef .tc main_arg1))) (Terms.tF (V0 (Proc.devRef .tc main_arg1)))) (Terms.b8 (Terms.c32 1#32)) :=
  (keep7 V0 main_v10 (by decide)).trans (val6_main_v10 V0)
theorem val7_main_c_4 (V0 : Valuation τ sig (Elt F)) : val7 V0 (no_index (Proc.devRef .tc main_c_4)) = constantI S_ 32 0#32 :=
  (keep7 V0 main_c_4 (by decide)).trans (val6_main_c_4 V0)
theorem val7_main_v11 (V0 : Valuation τ sig (Elt F)) : val7 V0 (no_index (Proc.devRef .tc main_v11)) = Terms.tCnt (V0 (Proc.devRef .tc main_arg1)) :=
  (keep7 V0 main_v11 (by decide)).trans (val6_main_v11 V0)
theorem val7_main_v12 (V0 : Valuation τ sig (Elt F)) : val7 V0 (no_index (Proc.devRef .tc main_v12)) = Terms.tTot (V0 (Proc.devRef .tc main_arg1)) := by
  unfold val7
  simp only [hostOps0_7, TRef.nullary, TRef.unary, TRef.binary, TRef.ternary, TRef.toBuf, TRef.ofBuf, cast_eq]
  after_results_simp
  all_goals (simp only [val6_main_v0, val6_main_v1, val6_main_c, val6_main_v2, val6_main_v4, val6_main_v6, val6_main_c_2, val6_main_v7, val6_main_v10, val6_main_c_4, val6_main_v11, val6_main_arg1] <;> rfl)
/-- The buffers after stretch 8. -/
def val8 (V0 : Valuation τ sig (Elt F)) : Valuation τ sig (Elt F) := after hostOps0_8 (val7 V0)
abbrev W8 : List (Ref sig .tc) := [main_call4_call0_c, main_call4_call0_v0, main_v13]
theorem writes8 : (hostOps0_8 : List (HloOp τ sig (Elt F))).Forall fun op => op.writes ⊆ (W8.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep8 (V0 : Valuation τ sig (Elt F)) (r : Ref sig .tc) (h : r ∉ W8) : val8 V0 (Proc.devRef .tc r) = (val7 V0) (Proc.devRef .tc r) :=
  after_of_writes_sub hostOps0_8 _ writes8 h
theorem val8_main_arg0 (V0 : Valuation τ sig (Elt F)) : val8 V0 (no_index (Proc.devRef .tc main_arg0)) = V0 (Proc.devRef .tc main_arg0) :=
  (keep8 V0 main_arg0 (by decide)).trans (val7_main_arg0 V0)
theorem val8_main_arg1 (V0 : Valuation τ sig (Elt F)) : val8 V0 (no_index (Proc.devRef .tc main_arg1)) = V0 (Proc.devRef .tc main_arg1) :=
  (keep8 V0 main_arg1 (by decide)).trans (val7_main_arg1 V0)
theorem val8_main_arg2 (V0 : Valuation τ sig (Elt F)) : val8 V0 (no_index (Proc.devRef .tc main_arg2)) = V0 (Proc.devRef .tc main_arg2) :=
  (keep8 V0 main_arg2 (by decide)).trans (val7_main_arg2 V0)
theorem val8_main_arg3 (V0 : Valuation τ sig (Elt F)) : val8 V0 (no_index (Proc.devRef .tc main_arg3)) = V0 (Proc.devRef .tc main_arg3) :=
  (keep8 V0 main_arg3 (by decide)).trans (val7_main_arg3 V0)
theorem val8_main_v59 (V0 : Valuation τ sig (Elt F)) : val8 V0 (no_index (Proc.devRef .tc main_v59)) = V0 (Proc.devRef .tc main_v59) :=
  (keep8 V0 main_v59 (by decide)).trans (val7_main_v59 V0)
theorem val8_main_v0 (V0 : Valuation τ sig (Elt F)) : val8 V0 (no_index (Proc.devRef .tc main_v0)) = Terms.tE (V0 (Proc.devRef .tc main_arg1)) :=
  (keep8 V0 main_v0 (by decide)).trans (val7_main_v0 V0)
theorem val8_main_v1 (V0 : Valuation τ sig (Elt F)) : val8 V0 (no_index (Proc.devRef .tc main_v1)) = Terms.tS (V0 (Proc.devRef .tc main_arg1)) :=
  (keep8 V0 main_v1 (by decide)).trans (val7_main_v1 V0)
theorem val8_main_c (V0 : Valuation τ sig (Elt F)) : val8 V0 (no_index (Proc.devRef .tc main_c)) = constantI S_ 32 512#32 :=
  (keep8 V0 main_c (by decide)).trans (val7_main_c V0)
theorem val8_main_v2 (V0 : Valuation τ sig (Elt F)) : val8 V0 (no_index (Proc.devRef .tc main_v2)) = Terms.tF (V0 (Proc.devRef .tc main_arg1)) :=
  (keep8 V0 main_v2 (by decide)).trans (val7_main_v2 V0)
theorem val8_main_v4 (V0 : Valuation τ sig (Elt F)) : val8 V0 (no_index (Proc.devRef .tc main_v4)) = cmpi .sgt (Terms.gs (V0 (Proc.devRef .tc main_arg1))) (Terms.b8 (Terms.c32 0#32)) :=
  (keep8 V0 main_v4 (by decide)).trans (val7_main_v4 V0)
theorem val8_main_v6 (V0 : Valuation τ sig (Elt F)) : val8 V0 (no_index (Proc.devRef .tc main_v6)) = subi (Terms.tE (V0 (Proc.devRef .tc main_arg1))) (Terms.b8 (Terms.c32 1#32)) :=
  (keep8 V0 main_v6 (by decide)).trans (val7_main_v6 V0)
theorem val8_main_c_2 (V0 : Valuation τ sig (Elt F)) : val8 V0 (no_index (Proc.devRef .tc main_c_2)) = constantI S_ 32 512#32 :=
  (keep8 V0 main_c_2 (by decide)).trans (val7_main_c_2 V0)
theorem val8_main_v7 (V0 : Valuation τ sig (Elt F)) : val8 V0 (no_index (Proc.devRef .tc main_v7)) = Terms.tL (V0 (Proc.devRef .tc main_arg1)) :=
  (keep8 V0 main_v7 (by decide)).trans (val7_main_v7 V0)
theorem val8_main_v10 (V0 : Valuation τ sig (Elt F)) : val8 V0 (no_index (Proc.devRef .tc main_v10)) = addi (subi (Terms.tL (V0 (Proc.devRef .tc main_arg1))) (Terms.tF (V0 (Proc.devRef .tc main_arg1)))) (Terms.b8 (Terms.c32 1#32)) :=
  (keep8 V0 main_v10 (by decide)).trans (val7_main_v10 V0)
theorem val8_main_c_4 (V0 : Valuation τ sig (Elt F)) : val8 V0 (no_index (Proc.devRef .tc main_c_4)) = constantI S_ 32 0#32 :=
  (keep8 V0 main_c_4 (by decide)).trans (val7_main_c_4 V0)
theorem val8_main_v11 (V0 : Valuation τ sig (Elt F)) : val8 V0 (no_index (Proc.devRef .tc main_v11)) = Terms.tCnt (V0 (Proc.devRef .tc main_arg1)) :=
  (keep8 V0 main_v11 (by decide)).trans (val7_main_v11 V0)
theorem val8_main_v12 (V0 : Valuation τ sig (Elt F)) : val8 V0 (no_index (Proc.devRef .tc main_v12)) = Terms.tTot (V0 (Proc.devRef .tc main_arg1)) :=
  (keep8 V0 main_v12 (by decide)).trans (val7_main_v12 V0)
theorem val8_main_v13 (V0 : Valuation τ sig (Elt F)) : val8 V0 (no_index (Proc.devRef .tc main_v13)) = Terms.tV (V0 (Proc.devRef .tc main_arg1)) := by
  unfold val8
  simp only [hostOps0_8, TRef.nullary, TRef.unary, TRef.binary, TRef.ternary, TRef.toBuf, TRef.ofBuf, cast_eq]
  after_results_simp
  all_goals (simp only [val7_main_v0, val7_main_v1, val7_main_c, val7_main_v2, val7_main_v4, val7_main_v6, val7_main_c_2, val7_main_v7, val7_main_v10, val7_main_c_4, val7_main_v11, val7_main_v12, val7_main_arg1] <;> rfl)
/-- The buffers after stretch 9. -/
def val9 (V0 : Valuation τ sig (Elt F)) : Valuation τ sig (Elt F) := after hostOps0_9 (val8 V0)
abbrev W9 : List (Ref sig .tc) := [main_v14, main_c_6, main_v15, main_v16, main_v17, main_v18, main_v19, main_v20, main_v21, main_v22, main_v23, main_c_7, main_v24, main_c_8, main_v25, main_v26, main_c_9, main_v27, main_v28, main_v29, main_v30, main_v31, main_v32, main_v33, main_c_10, main_v34, main_v35, main_c_11, main_v36, main_v37, main_v38, main_v39, main_v40, main_v41, main_c_12, main_v42, main_v43, main_c_13, main_v44, main_v45, main_v46, main_v47, main_v48, main_v49, main_v50, main_c_14, main_v51, main_v52, main_c_15, main_v53, main_v54, main_v55, main_v56, main_v57]
theorem writes9 : (hostOps0_9 : List (HloOp τ sig (Elt F))).Forall fun op => op.writes ⊆ (W9.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep9 (V0 : Valuation τ sig (Elt F)) (r : Ref sig .tc) (h : r ∉ W9) : val9 V0 (Proc.devRef .tc r) = (val8 V0) (Proc.devRef .tc r) :=
  after_of_writes_sub hostOps0_9 _ writes9 h
theorem val9_main_arg0 (V0 : Valuation τ sig (Elt F)) : val9 V0 (no_index (Proc.devRef .tc main_arg0)) = V0 (Proc.devRef .tc main_arg0) :=
  (keep9 V0 main_arg0 (by decide)).trans (val8_main_arg0 V0)
theorem val9_main_arg1 (V0 : Valuation τ sig (Elt F)) : val9 V0 (no_index (Proc.devRef .tc main_arg1)) = V0 (Proc.devRef .tc main_arg1) :=
  (keep9 V0 main_arg1 (by decide)).trans (val8_main_arg1 V0)
theorem val9_main_arg2 (V0 : Valuation τ sig (Elt F)) : val9 V0 (no_index (Proc.devRef .tc main_arg2)) = V0 (Proc.devRef .tc main_arg2) :=
  (keep9 V0 main_arg2 (by decide)).trans (val8_main_arg2 V0)
theorem val9_main_arg3 (V0 : Valuation τ sig (Elt F)) : val9 V0 (no_index (Proc.devRef .tc main_arg3)) = V0 (Proc.devRef .tc main_arg3) :=
  (keep9 V0 main_arg3 (by decide)).trans (val8_main_arg3 V0)
theorem val9_main_v59 (V0 : Valuation τ sig (Elt F)) : val9 V0 (no_index (Proc.devRef .tc main_v59)) = V0 (Proc.devRef .tc main_v59) :=
  (keep9 V0 main_v59 (by decide)).trans (val8_main_v59 V0)
theorem val9_main_v0 (V0 : Valuation τ sig (Elt F)) : val9 V0 (no_index (Proc.devRef .tc main_v0)) = Terms.tE (V0 (Proc.devRef .tc main_arg1)) :=
  (keep9 V0 main_v0 (by decide)).trans (val8_main_v0 V0)
theorem val9_main_v1 (V0 : Valuation τ sig (Elt F)) : val9 V0 (no_index (Proc.devRef .tc main_v1)) = Terms.tS (V0 (Proc.devRef .tc main_arg1)) :=
  (keep9 V0 main_v1 (by decide)).trans (val8_main_v1 V0)
theorem val9_main_c (V0 : Valuation τ sig (Elt F)) : val9 V0 (no_index (Proc.devRef .tc main_c)) = constantI S_ 32 512#32 :=
  (keep9 V0 main_c (by decide)).trans (val8_main_c V0)
theorem val9_main_v2 (V0 : Valuation τ sig (Elt F)) : val9 V0 (no_index (Proc.devRef .tc main_v2)) = Terms.tF (V0 (Proc.devRef .tc main_arg1)) :=
  (keep9 V0 main_v2 (by decide)).trans (val8_main_v2 V0)
theorem val9_main_v4 (V0 : Valuation τ sig (Elt F)) : val9 V0 (no_index (Proc.devRef .tc main_v4)) = cmpi .sgt (Terms.gs (V0 (Proc.devRef .tc main_arg1))) (Terms.b8 (Terms.c32 0#32)) :=
  (keep9 V0 main_v4 (by decide)).trans (val8_main_v4 V0)
theorem val9_main_v6 (V0 : Valuation τ sig (Elt F)) : val9 V0 (no_index (Proc.devRef .tc main_v6)) = subi (Terms.tE (V0 (Proc.devRef .tc main_arg1))) (Terms.b8 (Terms.c32 1#32)) :=
  (keep9 V0 main_v6 (by decide)).trans (val8_main_v6 V0)
theorem val9_main_c_2 (V0 : Valuation τ sig (Elt F)) : val9 V0 (no_index (Proc.devRef .tc main_c_2)) = constantI S_ 32 512#32 :=
  (keep9 V0 main_c_2 (by decide)).trans (val8_main_c_2 V0)
theorem val9_main_v7 (V0 : Valuation τ sig (Elt F)) : val9 V0 (no_index (Proc.devRef .tc main_v7)) = Terms.tL (V0 (Proc.devRef .tc main_arg1)) :=
  (keep9 V0 main_v7 (by decide)).trans (val8_main_v7 V0)
theorem val9_main_v10 (V0 : Valuation τ sig (Elt F)) : val9 V0 (no_index (Proc.devRef .tc main_v10)) = addi (subi (Terms.tL (V0 (Proc.devRef .tc main_arg1))) (Terms.tF (V0 (Proc.devRef .tc main_arg1)))) (Terms.b8 (Terms.c32 1#32)) :=
  (keep9 V0 main_v10 (by decide)).trans (val8_main_v10 V0)
theorem val9_main_c_4 (V0 : Valuation τ sig (Elt F)) : val9 V0 (no_index (Proc.devRef .tc main_c_4)) = constantI S_ 32 0#32 :=
  (keep9 V0 main_c_4 (by decide)).trans (val8_main_c_4 V0)
theorem val9_main_v11 (V0 : Valuation τ sig (Elt F)) : val9 V0 (no_index (Proc.devRef .tc main_v11)) = Terms.tCnt (V0 (Proc.devRef .tc main_arg1)) :=
  (keep9 V0 main_v11 (by decide)).trans (val8_main_v11 V0)
theorem val9_main_v12 (V0 : Valuation τ sig (Elt F)) : val9 V0 (no_index (Proc.devRef .tc main_v12)) = Terms.tTot (V0 (Proc.devRef .tc main_arg1)) :=
  (keep9 V0 main_v12 (by decide)).trans (val8_main_v12 V0)
theorem val9_main_v13 (V0 : Valuation τ sig (Elt F)) : val9 V0 (no_index (Proc.devRef .tc main_v13)) = Terms.tV (V0 (Proc.devRef .tc main_arg1)) :=
  (keep9 V0 main_v13 (by decide)).trans (val8_main_v13 V0)
theorem val9_main_v24 (V0 : Valuation τ sig (Elt F)) : val9 V0 (no_index (Proc.devRef .tc main_v24)) = Terms.tEx (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v41 (V0 : Valuation τ sig (Elt F)) : val9 V0 (no_index (Proc.devRef .tc main_v41)) = Terms.tTile (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v48 (V0 : Valuation τ sig (Elt F)) : val9 V0 (no_index (Proc.devRef .tc main_v48)) = Terms.tLo (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v57 (V0 : Valuation τ sig (Elt F)) : val9 V0 (no_index (Proc.devRef .tc main_v57)) = Terms.tHiE (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v50 (V0 : Valuation τ sig (Elt F)) : val9 V0 (no_index (Proc.devRef .tc main_v50)) = Terms.tIn (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
/-- The buffers after stretch 10. -/
def val10 (V0 : Valuation τ sig (Elt F)) : Valuation τ sig (Elt F) := after hostOps0_10 (val9 V0)
abbrev W10 : List (Ref sig .tc) := [main_v58]
theorem writes10 : (hostOps0_10 : List (HloOp τ sig (Elt F))).Forall fun op => op.writes ⊆ (W10.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep10 (V0 : Valuation τ sig (Elt F)) (r : Ref sig .tc) (h : r ∉ W10) : val10 V0 (Proc.devRef .tc r) = (val9 V0) (Proc.devRef .tc r) :=
  after_of_writes_sub hostOps0_10 _ writes10 h
theorem val10_main_arg0 (V0 : Valuation τ sig (Elt F)) : val10 V0 (no_index (Proc.devRef .tc main_arg0)) = V0 (Proc.devRef .tc main_arg0) :=
  (keep10 V0 main_arg0 (by decide)).trans (val9_main_arg0 V0)
theorem val10_main_arg1 (V0 : Valuation τ sig (Elt F)) : val10 V0 (no_index (Proc.devRef .tc main_arg1)) = V0 (Proc.devRef .tc main_arg1) :=
  (keep10 V0 main_arg1 (by decide)).trans (val9_main_arg1 V0)
theorem val10_main_arg2 (V0 : Valuation τ sig (Elt F)) : val10 V0 (no_index (Proc.devRef .tc main_arg2)) = V0 (Proc.devRef .tc main_arg2) :=
  (keep10 V0 main_arg2 (by decide)).trans (val9_main_arg2 V0)
theorem val10_main_arg3 (V0 : Valuation τ sig (Elt F)) : val10 V0 (no_index (Proc.devRef .tc main_arg3)) = V0 (Proc.devRef .tc main_arg3) :=
  (keep10 V0 main_arg3 (by decide)).trans (val9_main_arg3 V0)
theorem val10_main_v59 (V0 : Valuation τ sig (Elt F)) : val10 V0 (no_index (Proc.devRef .tc main_v59)) = V0 (Proc.devRef .tc main_v59) :=
  (keep10 V0 main_v59 (by decide)).trans (val9_main_v59 V0)
theorem val10_main_v0 (V0 : Valuation τ sig (Elt F)) : val10 V0 (no_index (Proc.devRef .tc main_v0)) = Terms.tE (V0 (Proc.devRef .tc main_arg1)) :=
  (keep10 V0 main_v0 (by decide)).trans (val9_main_v0 V0)
theorem val10_main_v1 (V0 : Valuation τ sig (Elt F)) : val10 V0 (no_index (Proc.devRef .tc main_v1)) = Terms.tS (V0 (Proc.devRef .tc main_arg1)) :=
  (keep10 V0 main_v1 (by decide)).trans (val9_main_v1 V0)
theorem val10_main_c (V0 : Valuation τ sig (Elt F)) : val10 V0 (no_index (Proc.devRef .tc main_c)) = constantI S_ 32 512#32 :=
  (keep10 V0 main_c (by decide)).trans (val9_main_c V0)
theorem val10_main_v2 (V0 : Valuation τ sig (Elt F)) : val10 V0 (no_index (Proc.devRef .tc main_v2)) = Terms.tF (V0 (Proc.devRef .tc main_arg1)) :=
  (keep10 V0 main_v2 (by decide)).trans (val9_main_v2 V0)
theorem val10_main_v4 (V0 : Valuation τ sig (Elt F)) : val10 V0 (no_index (Proc.devRef .tc main_v4)) = cmpi .sgt (Terms.gs (V0 (Proc.devRef .tc main_arg1))) (Terms.b8 (Terms.c32 0#32)) :=
  (keep10 V0 main_v4 (by decide)).trans (val9_main_v4 V0)
theorem val10_main_v6 (V0 : Valuation τ sig (Elt F)) : val10 V0 (no_index (Proc.devRef .tc main_v6)) = subi (Terms.tE (V0 (Proc.devRef .tc main_arg1))) (Terms.b8 (Terms.c32 1#32)) :=
  (keep10 V0 main_v6 (by decide)).trans (val9_main_v6 V0)
theorem val10_main_c_2 (V0 : Valuation τ sig (Elt F)) : val10 V0 (no_index (Proc.devRef .tc main_c_2)) = constantI S_ 32 512#32 :=
  (keep10 V0 main_c_2 (by decide)).trans (val9_main_c_2 V0)
theorem val10_main_v7 (V0 : Valuation τ sig (Elt F)) : val10 V0 (no_index (Proc.devRef .tc main_v7)) = Terms.tL (V0 (Proc.devRef .tc main_arg1)) :=
  (keep10 V0 main_v7 (by decide)).trans (val9_main_v7 V0)
theorem val10_main_v10 (V0 : Valuation τ sig (Elt F)) : val10 V0 (no_index (Proc.devRef .tc main_v10)) = addi (subi (Terms.tL (V0 (Proc.devRef .tc main_arg1))) (Terms.tF (V0 (Proc.devRef .tc main_arg1)))) (Terms.b8 (Terms.c32 1#32)) :=
  (keep10 V0 main_v10 (by decide)).trans (val9_main_v10 V0)
theorem val10_main_c_4 (V0 : Valuation τ sig (Elt F)) : val10 V0 (no_index (Proc.devRef .tc main_c_4)) = constantI S_ 32 0#32 :=
  (keep10 V0 main_c_4 (by decide)).trans (val9_main_c_4 V0)
theorem val10_main_v11 (V0 : Valuation τ sig (Elt F)) : val10 V0 (no_index (Proc.devRef .tc main_v11)) = Terms.tCnt (V0 (Proc.devRef .tc main_arg1)) :=
  (keep10 V0 main_v11 (by decide)).trans (val9_main_v11 V0)
theorem val10_main_v12 (V0 : Valuation τ sig (Elt F)) : val10 V0 (no_index (Proc.devRef .tc main_v12)) = Terms.tTot (V0 (Proc.devRef .tc main_arg1)) :=
  (keep10 V0 main_v12 (by decide)).trans (val9_main_v12 V0)
theorem val10_main_v13 (V0 : Valuation τ sig (Elt F)) : val10 V0 (no_index (Proc.devRef .tc main_v13)) = Terms.tV (V0 (Proc.devRef .tc main_arg1)) :=
  (keep10 V0 main_v13 (by decide)).trans (val9_main_v13 V0)
theorem val10_main_v24 (V0 : Valuation τ sig (Elt F)) : val10 V0 (no_index (Proc.devRef .tc main_v24)) = Terms.tEx (V0 (Proc.devRef .tc main_arg1)) :=
  (keep10 V0 main_v24 (by decide)).trans (val9_main_v24 V0)
theorem val10_main_v41 (V0 : Valuation τ sig (Elt F)) : val10 V0 (no_index (Proc.devRef .tc main_v41)) = Terms.tTile (V0 (Proc.devRef .tc main_arg1)) :=
  (keep10 V0 main_v41 (by decide)).trans (val9_main_v41 V0)
theorem val10_main_v48 (V0 : Valuation τ sig (Elt F)) : val10 V0 (no_index (Proc.devRef .tc main_v48)) = Terms.tLo (V0 (Proc.devRef .tc main_arg1)) :=
  (keep10 V0 main_v48 (by decide)).trans (val9_main_v48 V0)
theorem val10_main_v57 (V0 : Valuation τ sig (Elt F)) : val10 V0 (no_index (Proc.devRef .tc main_v57)) = Terms.tHiE (V0 (Proc.devRef .tc main_arg1)) :=
  (keep10 V0 main_v57 (by decide)).trans (val9_main_v57 V0)
theorem val10_main_v50 (V0 : Valuation τ sig (Elt F)) : val10 V0 (no_index (Proc.devRef .tc main_v50)) = Terms.tIn (V0 (Proc.devRef .tc main_arg1)) :=
  (keep10 V0 main_v50 (by decide)).trans (val9_main_v50 V0)
theorem val10_main_v58 (V0 : Valuation τ sig (Elt F)) : val10 V0 (no_index (Proc.devRef .tc main_v58)) = Terms.tHi (V0 (Proc.devRef .tc main_arg1)) := by
  unfold val10
  simp only [hostOps0_10, TRef.nullary, TRef.unary, TRef.binary, TRef.ternary, TRef.toBuf, TRef.ofBuf, cast_eq]
  after_results_simp
  all_goals (simp only [val9_main_v0, val9_main_v1, val9_main_c, val9_main_v2, val9_main_v4, val9_main_v6, val9_main_c_2, val9_main_v7, val9_main_v10, val9_main_c_4, val9_main_v11, val9_main_v12, val9_main_v13, val9_main_v24, val9_main_v41, val9_main_v48, val9_main_v57, val9_main_v50, val9_main_arg1] <;> rfl)

theorem after_eq (V0 : Valuation τ sig (Elt F)) : after ([hostOps0, hostOps0_1, hostOps0_2, hostOps0_3, hostOps0_4, hostOps0_5, hostOps0_6, hostOps0_7, hostOps0_8, hostOps0_9, hostOps0_10] : List (List (HloOp τ sig (Elt F)))).flatten V0 = val10 V0 := by
  simp only [List.flatten_cons, List.flatten_nil, after_append, after_nil]; rfl

end Cert.KernelIdeal.Host
-- ==== Proof.PreDecode.lean ====
module

public import proofs.«01_k».proof.Proof.Gen.Pre_groups_ok
public import proofs.«01_k».proof.Proof.Visits
public import Idealize.ShloMosaic.Lib.ReduceAll
public import Idealize.ShloMosaic.Lib.Affine
public import Idealize.ShloMosaic.Lib.Routing.OpsSearch

/-! What the precondition says of the group sizes: they are the words of natural numbers adding to 32768. -/

@[expose] public section

noncomputable section
namespace Cert.PreDecode

open Idealize.ShloMosaic Idealize.ShloMosaic.Routing Idealize.ShloMosaic.ValueIdx Idealize.ShloMosaic.WordCmp

abbrev S8 : Shape := ⟨1, ![8]⟩
abbrev S_ : Shape := ⟨0, ![]⟩

instance : Subsingleton S_.Idx := ⟨fun a b => funext fun i => i.elim0⟩

/-- The group sizes, as natural numbers. -/
def sizes (gs : IVec S8 32) (i : Nat) : Nat := if h : i < 8 then (gs (ix1 ⟨i, h⟩)).toNat else 0

theorem sizes_word (gs : IVec S8 32) (i : Fin 8) : gs (ix1 i) = BitVec.ofNat 32 (sizes gs i.val) := by
  unfold sizes; rw [dif_pos i.2]; simp

theorem toInt_range (x : BitVec 32) (n : Nat) (hn : n < 2 ^ 31) (h0 : 0 ≤ x.toInt) (h1 : x.toInt ≤ n) : x.toNat ≤ n := by
  rw [BitVec.toInt_eq_toNat_cond] at h0 h1
  split at h0 <;> omega

theorem sum_of (gs : IVec S8 32) (hb : S_.BroadcastsInDim S8 (![] : Fin 0 → Fin S8.rank)) (hr : S8.ReducesTo [0] S_) (hu : 0 < S_.numel)
    (h1 : Host.reduce IntOp.andi (andi (cmpi .sge gs (broadcastInDim S8 ![] hb (constantI S_ 32 0#32))) (cmpi .sle gs (broadcastInDim S8 ![] hb (constantI S_ 32 32768#32)))) (constantI S_ 1 1#1) hr hu ix0 = 1#1)
    (h2 : cmpi .eq (Host.reduce IntOp.addi gs (constantI S_ 32 0#32) hr hu) (constantI S_ 32 32768#32) ix0 = 1#1) :
    Visits.E (sizes gs) 7 = 32768 := by
  have hb1 : ∀ i : Fin 8, (gs (ix1 i)).toNat ≤ 32768 := fun i => by
    have h := Host.reduce_andi_all _ _ hr hu _ h1 (ix1 i)
    obtain ⟨ha, hc⟩ := IntOp.andi_eq_one.1 (show IntOp.andi (IntOp.cmpi .sge (gs (ix1 i)) 0#32) (IntOp.cmpi .sle (gs (ix1 i)) 32768#32) = 1#1 from h)
    exact toInt_range _ 32768 (by norm_num) (IntOp.cmpi_sge.1 ha) (IntOp.cmpi_sle.1 hc)
  have h3 := IntOp.cmpi_eq.1 (show IntOp.cmpi .eq (Host.reduce IntOp.addi gs (constantI S_ 32 0#32) hr hu ix0) 32768#32 = 1#1 from h2)
  rw [show Host.reduce IntOp.addi gs (constantI S_ 32 0#32) hr hu ix0 = _ from reduce_sum gs (sizes gs) (sizes_word gs) hr hu] at h3
  have h4 : ∀ i, sizes gs i ≤ 32768 := fun i => by
    unfold sizes; split
    · exact hb1 _
    · omega
  have h5 : (BitVec.ofNat 32 ((List.range 8).map (sizes gs)).sum).toNat = 32768 := by rw [h3]; rfl
  rw [BitVec.toNat_ofNat] at h5
  have h6 : Visits.E (sizes gs) 7 = ((List.range 8).map (sizes gs)).sum := rfl
  have h7 : ((List.range 8).map (sizes gs)).sum ≤ 8 * 32768 := by
    have e : (List.range 8).map (sizes gs) = [sizes gs 0, sizes gs 1, sizes gs 2, sizes gs 3, sizes gs 4, sizes gs 5, sizes gs 6, sizes gs 7] := rfl
    rw [e]; simp only [List.sum_cons, List.sum_nil]
    have := h4 0; have := h4 1; have := h4 2; have := h4 3; have := h4 4; have := h4 5; have := h4 6; have := h4 7
    omega
  rw [Nat.mod_eq_of_lt (by omega)] at h5
  rw [h6, h5]

theorem groups_sum {F : FTy → Type} [FloatOps F] [Cert.Pre_groups_ok.Facts] (a0 : FVec F Pre_groups_ok.S32768x2048 .bf16) (gs : IVec S8 32)
    (a2 : IVec Pre_groups_ok.S8x1024x6144 8) (a3 : IVec Pre_groups_ok.S8x64x6144 8) (h : Pre_groups_ok.fn (F := F) a0 gs a2 a3 = fun _ => 1#1) :
    Visits.E (sizes gs) 7 = 32768 := by
  have h0 := congrFun h ix0
  dsimp only [Pre_groups_ok.fn] at h0
  obtain ⟨h1, h2⟩ := IntOp.andi_eq_one.1 h0
  exact sum_of gs _ _ _ h1 h2

end Cert.PreDecode
-- ==== Proof.FrameIdeal.lean ====
module

public import proofs.«01_k».proof.Proof.RunIdeal
public import proofs.«01_k».proof.Proof.HostIdeal
public import proofs.«01_k».proof.Proof.PreDecode
public import Idealize.ShloMosaic.Lib.PairWhole
public import Idealize.ShloMosaic.Lib.Pipeline.ArrRel

/-! The four tables the kernel reads, their blocks, and the frame: every run ends, with the arguments as they were. -/

@[expose] public section

set_option maxRecDepth 100000
noncomputable section
namespace Cert.KernelIdeal.Gen

open Idealize.ShloMosaic Idealize.ShloMosaic.TcCoe Idealize.ShloMosaic.Routing Idealize.ShloMosaic.ValueIdx
open Idealize.SL Idealize.SL.Sem
open Cert.KernelIdeal Facts₀ Facts

variable {F : FTy → Type} [FloatOps F]

/-- The tables' contents, of the group sizes. -/
def pfOf (gs : IVec S8 32) : pre0.Contents (Elt F)
  | 0 => Terms.tTile gs
  | 1 => Terms.tEx gs
  | 2 => Terms.tLo gs
  | 3 => Terms.tHi gs
  | ⟨_ + 4, h⟩ => absurd h (Nat.not_lt.2 (Nat.le_add_left _ _))

theorem at_idx (i : grid0.Coords) : (Rect.unit (s := S71) ![(Scalar.indexCast (BitVec.ofNat 32 (i 0).val)).toNat] S1.size (k0_off1_inb i)).emb (Shape.Idx.first (numel1_S1.symm ▸ Nat.one_pos)) = ix1 (i 0) := by
  funext a
  apply Fin.ext
  have h : (i 0).val < 71 := (i 0).isLt
  obtain rfl : a = 0 := Subsingleton.elim _ _
  have e1 : ((Scalar.indexCast (BitVec.ofNat 32 (i 0).val)).toNat) = (i 0).val := by
    unfold Scalar.indexCast; simp; omega
  refine (Rect.emb_apply _ _ _).trans ?_
  show (Scalar.indexCast (BitVec.ofNat 32 (i 0).val)).toNat + 1 * ((Shape.Idx.first (numel1_S1.symm ▸ Nat.one_pos) : S1.Idx) 0).val = (i 0).val
  have e2 : ((Shape.Idx.first (numel1_S1.symm ▸ Nat.one_pos) : S1.Idx) 0).val = 0 := Nat.lt_one_iff.1 (Fin.isLt _)
  rw [e2, e1]; rfl

section
variable {gs : IVec S8 32} {G : Nat → Nat} (hg : ∀ i : Fin 8, gs (ix1 i) = BitVec.ofNat 32 (G i.val)) (hG : Visits.E G 7 = 32768)
include hg hG

theorem tr0 (i : grid0.Coords) : cc0_transform_0 k0_off1_inb numel1_S1 (pfOf (F := F) gs) i = ![Visits.ti G (i 0).val, 0] := by
  have h1 : (i 0).val < 71 := (i 0).isLt
  have h2 := Visits.ti_lt hG (i 0).val
  refine (congrArg (fun v : BitVec 32 => ![v.toNat, 0]) ((congrArg (Terms.tTile gs) (at_idx i)).trans (Terms.tTile_ap hg hG (i 0)))).trans ?_
  show ![(BitVec.ofNat 32 (Visits.ti G (i 0).val)).toNat, 0] = _
  rw [BitVec.toNat_ofNat, Nat.mod_eq_of_lt (by omega)]
theorem tr3 (i : grid0.Coords) : cc0_transform_3 k0_off1_inb numel1_S1 (pfOf (F := F) gs) i = ![Visits.ti G (i 0).val, 0] := tr0 hg hG i
theorem tr1 (i : grid0.Coords) : cc0_transform_1 k0_off1_inb numel1_S1 (pfOf (F := F) gs) i = ![Visits.ex G (i 0).val, 0, 0] := by
  have h1 : (i 0).val < 71 := (i 0).isLt
  have h2 := (Visits.ex_spec hG (i 0).val).1
  refine (congrArg (fun v : BitVec 32 => ![v.toNat, 0, 0]) ((congrArg (Terms.tEx gs) (at_idx i)).trans (Terms.tEx_ap hg hG (i 0)))).trans ?_
  show ![(BitVec.ofNat 32 (Visits.ex G (i 0).val)).toNat, 0, 0] = _
  rw [BitVec.toNat_ofNat, Nat.mod_eq_of_lt (by omega)]
theorem tr2 (i : grid0.Coords) : cc0_transform_2 k0_off1_inb numel1_S1 (pfOf (F := F) gs) i = ![Visits.ex G (i 0).val, 0, 0] := tr1 hg hG i

/-- Every block of every window lies inside its array and moves whole words. -/
theorem ok_pf : ok0 (pfOf (F := F) gs) := by
  refine ⟨fun i => ?_, fun i => ?_, fun i => ?_, fun i => ?_⟩
  · have h2 := Visits.ti_lt hG (i 0).val
    refine ⟨fun a => ?_, .inr (.inl (Rect.packedRows_of_rowAxis _ _ (le_refl 2) ?_ ?_ rfl))⟩
    · rw [tr0 hg hG]
      match a with
      | 0 => show (Visits.ti G (i 0).val + 1) * 512 ≤ 32768; omega
      | 1 => show (0 + 1) * 2048 ≤ 2048; omega
    · exact Dvd.dvd.mul_left (show 2 ∣ 512 from ⟨256, rfl⟩) _
    · exact (show 2 ∣ 512 from ⟨256, rfl⟩)
  · have h2 := (Visits.ex_spec hG (i 0).val).1
    refine ⟨fun a => ?_, .inr (.inr ⟨(by decide : 2 ≤ 3), rfl, ?_, rfl⟩)⟩
    · rw [tr1 hg hG]
      match a with
      | 0 => show (Visits.ex G (i 0).val + 1) * 1 ≤ 8; omega
      | 1 => show (0 + 1) * 1024 ≤ 1024; omega
      | 2 => show (0 + 1) * 6144 ≤ 6144; omega
    · show cc0_transform_1 k0_off1_inb numel1_S1 (pfOf (F := F) gs) i 1 * 1024 = 0
      rw [tr1 hg hG]; rfl
  · have h2 := (Visits.ex_spec hG (i 0).val).1
    refine ⟨fun a => ?_, .inr (.inr ⟨(by decide : 2 ≤ 3), rfl, ?_, rfl⟩)⟩
    · rw [tr2 hg hG]
      match a with
      | 0 => show (Visits.ex G (i 0).val + 1) * 1 ≤ 8; omega
      | 1 => show (0 + 1) * 64 ≤ 64; omega
      | 2 => show (0 + 1) * 6144 ≤ 6144; omega
    · show cc0_transform_2 k0_off1_inb numel1_S1 (pfOf (F := F) gs) i 1 * 64 = 0
      rw [tr2 hg hG]; rfl
  · have h2 := Visits.ti_lt hG (i 0).val
    refine ⟨fun a => ?_, .inr (.inl (Rect.packedRows_of_rowAxis _ _ (le_refl 2) ?_ ?_ rfl))⟩
    · rw [tr3 hg hG]
      match a with
      | 0 => show (Visits.ti G (i 0).val + 1) * 512 ≤ 32768; omega
      | 1 => show (0 + 1) * 6144 ≤ 6144; omega
    · exact Dvd.dvd.mul_left (show 2 ∣ 512 from ⟨256, rfl⟩) _
    · exact (show 2 ∣ 512 from ⟨256, rfl⟩)
end

variable (m : (ℓ : Loc nD τ sig) → Buf (Elt F) ℓ)

/-- The group sizes in a memory. -/
abbrev gsOf (c : Dev nD) : IVec S8 32 := m ((c.tc : Thread nD τ).loc main_arg1)

theorem V_eq (c : Dev nD) (b : Ref sig .tc) : V m c b = Host.val10 (fun b => m (c, b)) b := by
  unfold V opss; rw [Host.after_eq]

theorem V_tables (c : Dev nD) (k : Fin 4) : V m c (pre0.ref k) = pfOf (gsOf m c) k := by
  rw [V_eq]
  match k with
  | 0 => exact Host.val10_main_v41 _
  | 1 => exact Host.val10_main_v24 _
  | 2 => exact Host.val10_main_v48 _
  | 3 => exact Host.val10_main_v58 _
  | ⟨_ + 4, h⟩ => exact absurd h (Nat.not_lt.2 (Nat.le_add_left _ _))

theorem V_arg0 (c : Dev nD) : V m c main_arg0 = m ((c.tc : Thread nD τ).loc main_arg0) := by rw [V_eq]; exact Host.val10_main_arg0 _
theorem V_arg1 (c : Dev nD) : V m c main_arg1 = m ((c.tc : Thread nD τ).loc main_arg1) := by rw [V_eq]; exact Host.val10_main_arg1 _
theorem V_arg2 (c : Dev nD) : V m c main_arg2 = m ((c.tc : Thread nD τ).loc main_arg2) := by rw [V_eq]; exact Host.val10_main_arg2 _
theorem V_arg3 (c : Dev nD) : V m c main_arg3 = m ((c.tc : Thread nD τ).loc main_arg3) := by rw [V_eq]; exact Host.val10_main_arg3 _

theorem tables_one (k : Fin 4) (c c' : Dev nD) : c = c' := Subsingleton.elim _ _

attribute [local irreducible] V in
/-- The arguments after a run whose post is the launch's are as they were. -/
theorem args_of_post {pf : pre0.Contents (Elt F)} {hok : ok0 pf} {J : Fin (grid0.N + 1) → C9 F → C10 F → C11 F → Prop}
    {R : Fin grid0.N → (Y X : S512x6144.Idx → Elt F .bf16) → Prop} {r : PUnit × MemSt nD τ sig (Elt F)}
    (h : Pipeline.RDat.FramePost (Pipeline.pin pcfgs (adm pf hok) 0) (fun c => rdat pf hok c (fun w => V m c (Pipeline.arrRef spec0 w)) J R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h0 : r.2.mem ((c.tc : Thread nD τ).loc main_arg0) = V m c main_arg0 := h.arr_in c 0 rfl
  have h2 : r.2.mem ((c.tc : Thread nD τ).loc main_arg2) = V m c main_arg2 := h.arr_in c 1 rfl
  have h3 : r.2.mem ((c.tc : Thread nD τ).loc main_arg3) = V m c main_arg3 := h.arr_in c 2 rfl
  have hne : ∀ w, (spec0 w).arr.view.ref ≠ main_arg1 := fun w => by match w with | 0 => decide | 1 => decide | 2 => decide | 3 => decide
  have h1 := (h c).2 main_arg1 (Pipeline.mem_restRefs_of (win := spec0) main_arg1 rfl hne)
  exact ⟨h0.trans (V_arg0 m c), h1.trans (V_arg1 m c), h2.trans (V_arg2 m c), h3.trans (V_arg3 m c)⟩

/-- Every run of the program ends with its arguments as they were and no semaphore raised. -/
theorem frame (g : Dev nD → PrngReg) (hE : ∀ c, Visits.E (PreDecode.sizes (gsOf m c)) 7 = 32768) :
    θ_run (Pipeline.defs (pcfgs (F := F)) defs₀) (onTc main) ⟨m, fun _ => 0, g⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  let c₀ : Dev nD := 0
  have hok : ok0 (pfOf (F := F) (gsOf m c₀)) := ok_pf (PreDecode.sizes_word _) (hE c₀)
  have hpf : ∀ c k, V m c (pre0.ref k) = pfOf (gsOf m c₀) k := fun c k => by
    obtain rfl : c = c₀ := Subsingleton.elim _ _
    exact V_tables m c₀ k
  have h := run_launch Variants.none m g (pfOf (gsOf m c₀)) hok hpf (fun _ _ _ _ => True) (fun _ _ _ => trivial) (fun _ _ _ => True)
    (fun c => by intro D; unfold StepOK; intros; exact ⟨trivial, trivial⟩)
  exact (θ_run _ _ _).mono (fun r hr => ⟨fun c => args_of_post m hr.1 c, hr.2⟩) h
end Cert.KernelIdeal.Gen
-- ==== Proof.BodyBits.lean ====
module

public import proofs.«01_k».proof.Proof.Gen.Kernel.Loops
public import Idealize.ShloMosaic.Lib.Tactic.Stretches

/-! The kernel body at one grid point, run once: from the tables, the three input blocks, the output
block and the three scratch buffers at any contents to what it leaves in each of them. The decoded
weights are rewritten only where the expert changes, the scaled rows only where the row tile changes,
and the output block only where the visit is a real one. -/

@[expose] public section

set_option maxRecDepth 100000
noncomputable section
namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Facts₀ Facts

variable {F : FTy → Type} [FloatOps F]
local notation "𝕄G" => MT nD τ sig Unit (Elt F) ℕ (UR sig nD τ) ℕ

/-- The word a table holds at an offset, as the body's scalar load reads it. -/
def wordAt (M : Memref sig .tc .smem S71 .i32) (X : BufTy.Contents (Elt F) M.view.ty) (off : Fin 1 → Nat)
    (h : ∀ a, off a + S1.size a ≤ S71.size a) : BitVec 32 :=
  View.readAt (Elt F) M.view (Rect.unit (s := S71) off S1.size h).toLoadRect X (Shape.Idx.first numel1_S1.ge)

/-- The visit is a real one: its row range is not empty. -/
def condV (i : grid0.Coords) (arg3 arg4 : Memref sig .tc .smem S71 .i32) (X3 : BufTy.Contents (Elt F) arg3.view.ty) (X4 : BufTy.Contents (Elt F) arg4.view.ty) : BitVec 1 :=
  Scalar.cmpi .sgt (wordAt arg4 X4 (k0_off1 i) (k0_off1_inb i)) (wordAt arg3 X3 (k0_off1 i) (k0_off1_inb i))

/-- The visit is a real one and the first, or the table's entry differs from the previous visit's. -/
def condN (i : grid0.Coords) (arg2 arg3 arg4 : Memref sig .tc .smem S71 .i32) (X2 : BufTy.Contents (Elt F) arg2.view.ty) (X3 : BufTy.Contents (Elt F) arg3.view.ty) (X4 : BufTy.Contents (Elt F) arg4.view.ty) : BitVec 1 :=
  Scalar.andi (condV i arg3 arg4 X3 X4) (Scalar.ori (Scalar.cmpi .eq (BitVec.ofNat 32 (i 0).val) 0#32)
    (Scalar.cmpi .ne (wordAt arg2 X2 (k0_off1 i) (k0_off1_inb i)) (wordAt arg2 X2 (k0_off2 i) (k0_off2_inb i))))

/-- A visit's rewrite of a column chunk of the output block: the product where the row is in the visit's
range, the chunk's earlier words elsewhere. -/
def outL (i : grid0.Coords) (arg1 arg3 arg4 : Memref sig .tc .smem S71 .i32) (arg8 : Memref sig .tc .vmem S512x6144 .bf16) (arg9 : Memref sig .tc .vmem S2048x6144 .bf16)
    (arg10 : Memref sig .tc .vmem S512x2048 .bf16) (X1 : BufTy.Contents (Elt F) arg1.view.ty) (X3 : BufTy.Contents (Elt F) arg3.view.ty) (X4 : BufTy.Contents (Elt F) arg4.view.ty) (X8 : BufTy.Contents (Elt F) arg8.view.ty) (X9 : BufTy.Contents (Elt F) arg9.view.ty) (X10 : BufTy.Contents (Elt F) arg10.view.ty) : List (View.Piece (Elt F) S512x6144 .bf16) :=
  [⟨Rect.unit (s := S512x6144) ![0, 5120] S512x1024.size inb_S512x6144_S512x1024_0_5120, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 5120] S2048x1024.size inb_S2048x6144_S2048x1024_0_5120).toLoadRect X9) (View.readAt (Elt F) arg8.view (Rect.unit (s := S512x6144) ![0, 5120] S512x1024.size inb_S512x6144_S512x1024_0_5120).toLoadRect X8)⟩,
   ⟨Rect.unit (s := S512x6144) ![0, 4096] S512x1024.size inb_S512x6144_S512x1024_0_4096, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 4096] S2048x1024.size inb_S2048x6144_S2048x1024_0_4096).toLoadRect X9) (View.readAt (Elt F) arg8.view (Rect.unit (s := S512x6144) ![0, 4096] S512x1024.size inb_S512x6144_S512x1024_0_4096).toLoadRect X8)⟩,
   ⟨Rect.unit (s := S512x6144) ![0, 3072] S512x1024.size inb_S512x6144_S512x1024_0_3072, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 3072] S2048x1024.size inb_S2048x6144_S2048x1024_0_3072).toLoadRect X9) (View.readAt (Elt F) arg8.view (Rect.unit (s := S512x6144) ![0, 3072] S512x1024.size inb_S512x6144_S512x1024_0_3072).toLoadRect X8)⟩,
   ⟨Rect.unit (s := S512x6144) ![0, 2048] S512x1024.size inb_S512x6144_S512x1024_0_2048, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 2048] S2048x1024.size inb_S2048x6144_S2048x1024_0_2048).toLoadRect X9) (View.readAt (Elt F) arg8.view (Rect.unit (s := S512x6144) ![0, 2048] S512x1024.size inb_S512x6144_S512x1024_0_2048).toLoadRect X8)⟩,
   ⟨Rect.unit (s := S512x6144) ![0, 1024] S512x1024.size inb_S512x6144_S512x1024_0_1024, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 1024] S2048x1024.size inb_S2048x6144_S2048x1024_0_1024).toLoadRect X9) (View.readAt (Elt F) arg8.view (Rect.unit (s := S512x6144) ![0, 1024] S512x1024.size inb_S512x6144_S512x1024_0_1024).toLoadRect X8)⟩,
   ⟨Rect.unit (s := S512x6144) ![0, 0] S512x1024.size inb_S512x6144_S512x1024_0_0, k0_pay95 (wordAt arg3 X3 (k0_off1 i) (k0_off1_inb i)) (wordAt arg4 X4 (k0_off1 i) (k0_off1_inb i)) (wordAt arg1 X1 (k0_off26 i) (k0_off26_inb i)) (View.readAt (Elt F) arg10.view (Rect.unit (s := S512x2048) ![0, 0] S512x2048.size inb_S512x2048_S512x2048_0_0).toLoadRect X10) (View.readAt (Elt F) arg9.view (Rect.unit (s := S2048x6144) ![0, 0] S2048x1024.size inb_S2048x6144_S2048x1024_0_0).toLoadRect X9) (View.readAt (Elt F) arg8.view (Rect.unit (s := S512x6144) ![0, 0] S512x1024.size inb_S512x6144_S512x1024_0_0).toLoadRect X8)⟩]

/-- The scale words after the rewrite. -/
def newS (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X7 : BufTy.Contents (Elt F) arg7.view.ty) (X11 : BufTy.Contents (Elt F) arg11.view.ty) :=
  arg11.view.writes (Elt F) X11 (pb_k0_t1 𝒱 c bd i arg1 harg1 arg2 harg2 arg3 harg3 arg4 harg4 arg5 harg5 arg6 harg6 arg7 harg7 arg8 harg8 arg9 harg9 arg10 harg10 arg11 harg11 X7 (Scf.trips k0_t1_loop.lb k0_t1_loop.ub k0_t1_loop.st))
/-- The decoded weights after the rewrite, from the packed block and the scale words `S`. -/
def newW (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X6 : BufTy.Contents (Elt F) arg6.view.ty) (X9 : BufTy.Contents (Elt F) arg9.view.ty) (S : BufTy.Contents (Elt F) arg11.view.ty) :=
  arg9.view.writes (Elt F) X9 (pb_k0_t2 𝒱 c bd i arg1 harg1 arg2 harg2 arg3 harg3 arg4 harg4 arg5 harg5 arg6 harg6 arg7 harg7 arg8 harg8 arg9 harg9 arg10 harg10 arg11 harg11 X6 S (Scf.trips k0_t2_loop.lb k0_t2_loop.ub k0_t2_loop.st))
/-- The scaled rows after the rewrite. -/
def newX (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X5 : BufTy.Contents (Elt F) arg5.view.ty) (X10 : BufTy.Contents (Elt F) arg10.view.ty) :=
  arg10.view.writes (Elt F) X10 (pb_k0_t3 𝒱 c bd i arg1 harg1 arg2 harg2 arg3 harg3 arg4 harg4 arg5 harg5 arg6 harg6 arg7 harg7 arg8 harg8 arg9 harg9 arg10 harg10 arg11 harg11 X5 (Scf.trips k0_t3_loop.lb k0_t3_loop.ub k0_t3_loop.st))

/-- What the body leaves in the output block (`W8`) and the three scratch buffers (`W9`, `W10`, `W11`), from what it
    found in the tables, the staged blocks and the scratch buffers. -/
def BodyRel (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (W8 : BufTy.Contents (Elt F) arg8.view.ty) (W9 : BufTy.Contents (Elt F) arg9.view.ty) (W10 : BufTy.Contents (Elt F) arg10.view.ty) (W11 : BufTy.Contents (Elt F) arg11.view.ty) : Prop :=
        (condN i arg2 arg3 arg4 X2 X3 X4 = 1#1 → W9 = newW 𝒱 c bd i arg1 harg1 arg2 harg2 arg3 harg3 arg4 harg4 arg5 harg5 arg6 harg6 arg7 harg7 arg8 harg8 arg9 harg9 arg10 harg10 arg11 harg11 X6 X9 (newS 𝒱 c bd i arg1 harg1 arg2 harg2 arg3 harg3 arg4 harg4 arg5 harg5 arg6 harg6 arg7 harg7 arg8 harg8 arg9 harg9 arg10 harg10 arg11 harg11 X7 X11))
      ∧ (¬ condN i arg2 arg3 arg4 X2 X3 X4 = 1#1 → W9 = X9)
      ∧ (condN i arg2 arg3 arg4 X2 X3 X4 = 1#1 → W11 = newS 𝒱 c bd i arg1 harg1 arg2 harg2 arg3 harg3 arg4 harg4 arg5 harg5 arg6 harg6 arg7 harg7 arg8 harg8 arg9 harg9 arg10 harg10 arg11 harg11 X7 X11)
      ∧ (¬ condN i arg2 arg3 arg4 X2 X3 X4 = 1#1 → W11 = X11)
      ∧ (condN i arg1 arg3 arg4 X1 X3 X4 = 1#1 → W10 = newX 𝒱 c bd i arg1 harg1 arg2 harg2 arg3 harg3 arg4 harg4 arg5 harg5 arg6 harg6 arg7 harg7 arg8 harg8 arg9 harg9 arg10 harg10 arg11 harg11 X5 X10)
      ∧ (¬ condN i arg1 arg3 arg4 X1 X3 X4 = 1#1 → W10 = X10)
      ∧ (condV i arg3 arg4 X3 X4 = 1#1 → W8 = arg8.view.writes (Elt F) X8 (outL i arg1 arg3 arg4 arg8 arg9 arg10 X1 X3 X4 X8 W9 W10))
      ∧ (¬ condV i arg3 arg4 X3 X4 = 1#1 → W8 = X8)

set_option maxHeartbeats 8000000 in
/-- The body's run: what each buffer holds after it, by the visit's conditions. -/
theorem bodyrun (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (q : PosShare TreeShare) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) :
  (iprop((arg1.view.loc (c : Thread nD τ) ↦[arg1.view.set]{q} X1) ∗ (arg2.view.loc (c : Thread nD τ) ↦[arg2.view.set]{q} X2) ∗ (arg3.view.loc (c : Thread nD τ) ↦[arg3.view.set]{q} X3) ∗ (arg4.view.loc (c : Thread nD τ) ↦[arg4.view.set]{q} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄G) ⊢ wp frame (wpE (defs₀ (F := F)) 𝒱 (c : Thread nD τ) bd) E (cc0_grouped_mx_matmul (F := F) i arg1 harg1 arg2 harg2 arg3 harg3 arg4 harg4 arg5 harg5 arg6 harg6 arg7 harg7 arg8 harg8 arg9 harg9 arg10 harg10 arg11 harg11)
    (fun _ => iprop(∃ W8 W9 W10 W11, ⌜BodyRel 𝒱 c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 W8 W9 W10 W11⌝ ∗ (arg1.view.loc (c : Thread nD τ) ↦[arg1.view.set]{q} X1) ∗ (arg2.view.loc (c : Thread nD τ) ↦[arg2.view.set]{q} X2) ∗ (arg3.view.loc (c : Thread nD τ) ↦[arg3.view.set]{q} X3) ∗ (arg4.view.loc (c : Thread nD τ) ↦[arg4.view.set]{q} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} W8) ∗ (arg9.view.loc (c : Thread nD τ) ↦[arg9.view.set]{fullShare} W9) ∗ (arg10.view.loc (c : Thread nD τ) ↦[arg10.view.set]{fullShare} W10) ∗ (arg11.view.loc (c : Thread nD τ) ↦[arg11.view.set]{fullShare} W11))) := by
  rw [cc0_grouped_mx_matmul_eq_skeleton]
  unfold cc0_grouped_mx_matmul_skel
  have key : ∀ b : BitVec 1, (Scalar.cmpi .ne (Scalar.extui b : BitVec 32) 0#32 = 1#1) ↔ b = 1#1 := by decide
  iintro ⟨H1, H2, H3, H4, H5, H6, H7, H8, H9, H10, H11⟩
  have keyV : ∀ a b : BitVec 32, (Scalar.cmpi .ne (Scalar.extui (Scalar.cmpi .sgt b a) : BitVec 32) 0#32 = 1#1) ↔ Scalar.cmpi .sgt b a = 1#1 := fun a b => key _
  sl_exec
  by_cases h1 : condN i arg2 arg3 arg4 X2 X3 X4 = 1#1
  · have h1' : bodyrun.sl.v24 i arg2 arg3 arg4 X2 X3 X4 = 1#1 := (key _).mpr h1
    sl_exec
    by_cases h2 : condN i arg1 arg3 arg4 X1 X3 X4 = 1#1
    · have h2' : bodyrun.sl.v26 i arg1 arg3 arg4 X1 X3 X4 = 1#1 := (key _).mpr h2
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun _ => rfl, fun h => absurd h1 h, fun _ => rfl, fun h => absurd h1 h, fun _ => rfl, fun h => absurd h2 h, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun _ => rfl, fun h => absurd h1 h, fun _ => rfl, fun h => absurd h1 h, fun _ => rfl, fun h => absurd h2 h, fun h => absurd h h3, fun _ => rfl⟩
        sl_close
    · have h2' : ¬ bodyrun.sl.v26 i arg1 arg3 arg4 X1 X3 X4 = 1#1 := fun h => h2 ((key _).mp h)
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun _ => rfl, fun h => absurd h1 h, fun _ => rfl, fun h => absurd h1 h, fun h => absurd h h2, fun _ => rfl, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun _ => rfl, fun h => absurd h1 h, fun _ => rfl, fun h => absurd h1 h, fun h => absurd h h2, fun _ => rfl, fun h => absurd h h3, fun _ => rfl⟩
        sl_close
  · have h1' : ¬ bodyrun.sl.v24 i arg2 arg3 arg4 X2 X3 X4 = 1#1 := fun h => h1 ((key _).mp h)
    sl_exec
    by_cases h2 : condN i arg1 arg3 arg4 X1 X3 X4 = 1#1
    · have h2' : bodyrun.sl.v26_1 i arg1 arg3 arg4 X1 X3 X4 = 1#1 := (key _).mpr h2
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun h => absurd h h1, fun _ => rfl, fun h => absurd h h1, fun _ => rfl, fun _ => rfl, fun h => absurd h2 h, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun h => absurd h h1, fun _ => rfl, fun h => absurd h h1, fun _ => rfl, fun _ => rfl, fun h => absurd h2 h, fun h => absurd h h3, fun _ => rfl⟩
        sl_close
    · have h2' : ¬ bodyrun.sl.v26_1 i arg1 arg3 arg4 X1 X3 X4 = 1#1 := fun h => h2 ((key _).mp h)
      by_cases h3 : condV i arg3 arg4 X3 X4 = 1#1
      · sl_exec
        rw [dif_pos (show k0_cond3 (bodyrun.sl.r i arg3 X3) (bodyrun.sl.r_1 i arg4 X4) = 1#1 from (key _).mpr h3)]
        sl_step
        iexists _, _, _, _
        isplitr
        · ipureintro
          unfold BodyRel
          exact ⟨fun h => absurd h h1, fun _ => rfl, fun h => absurd h h1, fun _ => rfl, fun h => absurd h h2, fun _ => rfl, fun _ => rfl, fun h => absurd h3 h⟩
        sl_close
      · sl_exec
        rw [dif_neg (show ¬ k0_cond3 (bodyrun.sl.r i arg3 X3) (bodyrun.sl.r_1 i arg4 X4) = 1#1 from fun h => h3 ((key _).mp h))]
        sl_step
        iexists _, _, _, _
        isplitr
        · ipureintro
          unfold BodyRel
          exact ⟨fun h => absurd h h1, fun _ => rfl, fun h => absurd h h1, fun _ => rfl, fun h => absurd h h2, fun _ => rfl, fun h => absurd h h3, fun _ => rfl⟩
        sl_close

end Cert.Kernel.Gen
-- ==== Proof.RunBits.lean ====
module

public import proofs.«01_k».proof.Proof.Gen.Kernel.Launch
public import proofs.«01_k».proof.Proof.BodyBits
public import Idealize.ShloMosaic.Lib.Pipeline.Frame

/-! The launch: the whole grid run from the body's run. A certificate states what it keeps of the scratch
buffers between visits (`J`) and of the output block a visit leaves (`R`); one visit's step of the two is
what it proves, and it gets back what the whole run leaves in every buffer. -/

@[expose] public section

set_option maxRecDepth 100000
noncomputable section
namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Facts₀ Facts

variable {F : FTy → Type} [FloatOps F]
local notation "𝕄G" => MT nD τ sig Unit (Elt F) ℕ (UR sig nD τ) ℕ

abbrev C9 (F : FTy → Type) [FloatOps F] := BufTy.Contents (Elt F) (Memref.whole cc0_scratch0 : Memref sig .tc .vmem S2048x6144 .bf16).view.ty
abbrev C10 (F : FTy → Type) [FloatOps F] := BufTy.Contents (Elt F) (Memref.whole cc0_scratch1 : Memref sig .tc .vmem S512x2048 .bf16).view.ty
abbrev C11 (F : FTy → Type) [FloatOps F] := BufTy.Contents (Elt F) (Memref.whole cc0_scratch2 : Memref sig .tc .vmem S64x6144 .i32).view.ty

/-- Admissible contents of the tables. -/
def adm (pf : pre0.Contents (Elt F)) (hok : ok0 pf) : (p : Fin 1) → ((pcfgs (F := F)) p).Adm := fun _ => ⟨pf, hok⟩

/-- What the body keeps between visits: the tables, and the scratch buffers in the relation `J`. -/
def Phi (c : Dev nD) (pf : pre0.Contents (Elt F)) (J : C9 F → C10 F → C11 F → Prop) : sProp 𝕄G :=
  iprop(Pipeline.ΦT (U := UR sig nD τ) pre0 pf c ∗ (∃ W9 W10 W11, ⌜J W9 W10 W11⌝
    ∗ (((c : Thread nD τ).loc cc0_scratch0) ↦{fullShare} W9) ∗ (((c : Thread nD τ).loc cc0_scratch1) ↦{fullShare} W10)
    ∗ (((c : Thread nD τ).loc cc0_scratch2) ↦{fullShare} W11)) ∗ ∃ r, prngReg c r)

/-- The run's relational data: input blocks are left as found, the output block in the relation `R`. -/
def rdat (pf : pre0.Contents (Elt F)) (hok : ok0 pf) (c : Dev nD)
    (A : (w : Fin 4) → Buf (Elt F) ((((cfg0 ⟨pf, hok⟩).win w).arr.view.loc (c.tc : Thread nD τ))))
    (J : Fin (grid0.N + 1) → C9 F → C10 F → C11 F → Prop)
    (R : Fin grid0.N → (Y X : S512x6144.Idx → Elt F .bf16) → Prop) :
    Pipeline.RDat τ (Elt F) Unit ℕ (UR sig nD τ) ℕ (Pipeline.pin pcfgs (adm pf hok) 0) c where
  A := A
  after := fun | 0 => fun _ Y X => X = Y | 1 => fun _ Y X => X = Y | 2 => fun _ Y X => X = Y | 3 => fun t Y X => R t Y X
               | ⟨_ + 4, h⟩ => absurd h (Nat.not_lt.2 (Nat.le_add_left _ _))
  Φ := fun t => Phi c pf (J t)
  q := fun _ => fullShare
  owed := fun _ => 0

omit [FloatOps F] in
theorem bigSep_T (Φ : Fin 4 → sProp 𝕄G) : bigSep Finset.univ Φ = iprop(Φ (0 : Fin 4) ∗ Φ (1 : Fin 4) ∗ Φ (2 : Fin 4) ∗ Φ (3 : Fin 4)) :=
  bigSep_univ_eq_bigSepL [0, 1, 2, 3] (by decide) (by decide) Φ

/-- One visit's step: from what the visit finds, to `J` and `R` of what it leaves. -/
def StepOK (𝒱 : Variants) (c : Dev nD) (pf : pre0.Contents (Elt F)) (J : Fin (grid0.N + 1) → C9 F → C10 F → C11 F → Prop)
    (R : Fin grid0.N → (Y X : S512x6144.Idx → Elt F .bf16) → Prop) (Fd0 : Fin grid0.N → (S512x2048.Idx → Elt F .bf16) → Prop)
    (Fd1 : Fin grid0.N → (S1x1024x6144.Idx → Elt F .i8) → Prop) (Fd2 : Fin grid0.N → (S1x64x6144.Idx → Elt F .i8) → Prop)
    (Fd3 : Fin grid0.N → (S512x6144.Idx → Elt F .bf16) → Prop) : Prop :=
  ∀ (t : Fin grid0.N) (M5 : Memref sig .tc .vmem S512x2048 .bf16) (h5 : M5.IsWhole) (M6 : Memref sig .tc .vmem S1x1024x6144 .i8) (h6 : M6.IsWhole)
    (M7 : Memref sig .tc .vmem S1x64x6144 .i8) (h7 : M7.IsWhole) (M8 : Memref sig .tc .vmem S512x6144 .bf16) (h8 : M8.IsWhole)
    (X5 : BufTy.Contents (Elt F) M5.view.ty) (X6 : BufTy.Contents (Elt F) M6.view.ty) (X7 : BufTy.Contents (Elt F) M7.view.ty)
    (X8 W8 : BufTy.Contents (Elt F) M8.view.ty) (X9 W9 : C9 F) (X10 W10 : C10 F) (X11 W11 : C11 F),
    Fd0 t (M5.view.read (Elt F) X5) → Fd1 t (M6.view.read (Elt F) X6) → Fd2 t (M7.view.read (Elt F) X7) → Fd3 t (M8.view.read (Elt F) X8) → J t.castSucc X9 X10 X11 →
    BodyRel 𝒱 c none (grid0.coords t) (Memref.whole main_v41) (Memref.isWhole_whole _) (Memref.whole main_v24) (Memref.isWhole_whole _) (Memref.whole main_v48) (Memref.isWhole_whole _) (Memref.whole main_v58) (Memref.isWhole_whole _)
      M5 h5 M6 h6 M7 h7 M8 h8 (Memref.whole cc0_scratch0) (Memref.isWhole_whole _) (Memref.whole cc0_scratch1) (Memref.isWhole_whole _) (Memref.whole cc0_scratch2) (Memref.isWhole_whole _)
      (pf 0) (pf 1) (pf 2) (pf 3) X5 X6 X7 X8 X9 X10 X11 W8 W9 W10 W11 →
    J t.succ W9 W10 W11 ∧ R t (M8.view.read (Elt F) X8) (M8.view.read (Elt F) W8)

set_option maxHeartbeats 4000000 in
theorem body_obligation (𝒱 : Variants) (c : Dev nD) (pf : pre0.Contents (Elt F)) (hok : ok0 pf)
    (A : (w : Fin 4) → Buf (Elt F) ((((cfg0 ⟨pf, hok⟩).win w).arr.view.loc (c.tc : Thread nD τ))))
    (J : Fin (grid0.N + 1) → C9 F → C10 F → C11 F → Prop) (R : Fin grid0.N → (Y X : S512x6144.Idx → Elt F .bf16) → Prop)
    (hstep : StepOK 𝒱 c pf J R (fun t X => (rdat pf hok c A J R).Finds 0 t X) (fun t X => (rdat pf hok c A J R).Finds 1 t X) (fun t X => (rdat pf hok c A J R).Finds 2 t X) (fun t X => (rdat pf hok c A J R).Finds 3 t X)) :
    (rdat pf hok c A J R).BodyObligation (defs₀ (F := F)) 𝒱 () Set.univ := by
  intro t Y hY
  rw [show ∀ Ψ : Fin 4 → sProp 𝕄G, bigSep Finset.univ Ψ = iprop(Ψ 0 ∗ Ψ 1 ∗ Ψ 2 ∗ Ψ 3) from bigSep_T]
  rw [show ∀ Ψ : Fin 4 → sProp 𝕄G, bigSep Finset.univ Ψ = iprop(Ψ 0 ∗ Ψ 1 ∗ Ψ 2 ∗ Ψ 3) from bigSep_T]
  show iprop(Phi c pf (J t.castSucc) ∗ _) ⊢ wp _ _ _ (cc0_grouped_mx_matmul (grid0.coords t) _ _ _ _ _ _ _ _ _ _ _ _ _ _ _ _ _ _ _ _ _ _) _
  rw [show (rdat pf hok c A J R).Φ t.succ = Phi c pf (J t.succ) from rfl]
  unfold Phi Pipeline.ΦT Pipeline.prefHeld owns
  rw [bigSep_T]
  iintro ⟨⟨⟨HT1, HT2, HT3, HT4⟩, ⟨%X9, %X10, %X11, %hJ, H9, H10, H11⟩, Hr⟩, HO, ⟨⟨%X5, %e5, H5⟩, ⟨%X6, %e6, H6⟩, ⟨%X7, %e7, H7⟩, ⟨%X8, %e8, H8⟩⟩⟩
  iapply (wp_wand_r Idealize.ShloMosaic.frame (wpE (defs₀ (F := F)) 𝒱 (c : Thread nD τ) none) Set.univ)
  isplitl [HT1 HT2 HT3 HT4 H5 H6 H7 H8 H9 H10 H11]
  · have hb := bodyrun 𝒱 c none (grid0.coords t) (Memref.whole main_v41) (Memref.isWhole_whole _) (Memref.whole main_v24) (Memref.isWhole_whole _) (Memref.whole main_v48) (Memref.isWhole_whole _) (Memref.whole main_v58) (Memref.isWhole_whole _)
      _ (hstage0_0 _) _ (hstage0_1 _) _ (hstage0_2 _) _ (hstage0_3 _) (Memref.whole cc0_scratch0) (Memref.isWhole_whole _) (Memref.whole cc0_scratch1) (Memref.isWhole_whole _) (Memref.whole cc0_scratch2) (Memref.isWhole_whole _)
      fullShare.right (pf 0) (pf 1) (pf 2) (pf 3) X5 X6 X7 X8 X9 X10 X11 Set.univ
    simp only [Memref.view_whole, View.set_whole] at hb
    iapply hb
    isplitl [HT1]; · iexact HT1
    isplitl [HT2]; · iexact HT2
    isplitl [HT3]; · iexact HT3
    isplitl [HT4]; · iexact HT4
    isplitl [H5]; · iexact H5
    isplitl [H6]; · iexact H6
    isplitl [H7]; · iexact H7
    isplitl [H8]; · iexact H8
    isplitl [H9]; · iexact H9
    isplitl [H10]; · iexact H10
    iexact H11
  · iintro %_ ⟨%W8, %W9, %W10, %W11, %hrel, HT1, HT2, HT3, HT4, H5, H6, H7, H8, H9, H10, H11⟩
    have hs := hstep t _ (hstage0_0 _) _ (hstage0_1 _) _ (hstage0_2 _) _ (hstage0_3 _) X5 X6 X7 X8 W8 X9 W9 X10 W10 X11 W11
      (e5 ▸ hY 0) (e6 ▸ hY 1) (e7 ▸ hY 2) (e8 ▸ hY 3) hJ hrel
    isplitl [HT1 HT2 HT3 HT4 H9 H10 H11 Hr]
    · isplitl [HT1 HT2 HT3 HT4]
      · isplitl [HT1]; · iexact HT1
        isplitl [HT2]; · iexact HT2
        isplitl [HT3]; · iexact HT3
        iexact HT4
      isplitr [Hr]
      · iexists W9, W10, W11
        isplitr; · ipureintro; exact hs.1
        isplitl [H9]; · iexact H9
        isplitl [H10]; · iexact H10
        iexact H11
      iexact Hr
    isplitl [HO]; · iexact HO
    isplitl [H5]
    · iexists _; isplitr; · ipureintro; exact rfl
      iexists X5; isplitr; · ipureintro; exact e5
      iexact H5
    isplitl [H6]
    · iexists _; isplitr; · ipureintro; exact rfl
      iexists X6; isplitr; · ipureintro; exact e6
      iexact H6
    isplitl [H7]
    · iexists _; isplitr; · ipureintro; exact rfl
      iexists X7; isplitr; · ipureintro; exact e7
      iexact H7
    iexists _; isplitr
    swap
    · iexists W8; isplitr; · ipureintro; exact rfl
      iexact H8
    · ipureintro; rw [← e8]; exact hs.2

/-- The host operations before the kernel, stretch by stretch. -/
abbrev opss : List (List (HloOp τ sig (Elt F))) := [hostOps0, hostOps0_1, hostOps0_2, hostOps0_3, hostOps0_4, hostOps0_5, hostOps0_6, hostOps0_7, hostOps0_8, hostOps0_9, hostOps0_10]

/-- The contents of a buffer when the kernel starts. -/
def V (m : (ℓ : Loc nD τ sig) → Buf (Elt F) ℓ) (c : Dev nD) (b : Ref sig .tc) : Buf (Elt F) ((c.tc : Thread nD τ).loc b) :=
  StableHlo.after (opss (F := F)).flatten (fun b => m (c, b)) b

theorem opss_sub : (opss (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem opss_fresh : (opss (F := F)).Forall fun ops => ops.Forall fun op => op.fresh = ∅ := by
  simp only [List.Forall]
  repeat' apply And.intro
  all_goals rfl

set_option maxHeartbeats 2000000 in
/-- The whole run, from one visit's step: every output block as the relation `R` leaves it, every other buffer as
the kernel found it, no semaphore left raised. -/
theorem run_launch (𝒱 : Variants) (m : (ℓ : Loc nD τ sig) → Buf (Elt F) ℓ) (g : Dev nD → PrngReg) (pf : pre0.Contents (Elt F)) (hok : ok0 pf)
    (hpf : ∀ c k, V m c (pre0.ref k) = pf k)
    (J : Fin (grid0.N + 1) → C9 F → C10 F → C11 F → Prop) (hJ : ∀ a b d, J 0 a b d)
    (R : Fin grid0.N → (Y X : S512x6144.Idx → Elt F .bf16) → Prop)
    (hstep : ∀ c, let D := rdat pf hok c (fun w => V m c (Pipeline.arrRef spec0 w)) J R
      StepOK 𝒱 c pf J R (fun t X => D.Finds 0 t X) (fun t X => D.Finds 1 t X) (fun t X => D.Finds 2 t X) (fun t X => D.Finds 3 t X)) :
    θ_run (Pipeline.defs (pcfgs (F := F)) defs₀) (onTc main) (s₀ m g) fun r =>
      Pipeline.RDat.FramePost (Pipeline.pin pcfgs (adm pf hok) 0) (fun c => rdat pf hok c (fun w => V m c (Pipeline.arrRef spec0 w)) J R) (V m) r
        ∧ r.2.sem = fun _ => 0 := by
  have hmain := Pipeline.hmainP_prefixes (Ix := Unit) (Name := ℕ) (U := UR sig nD τ) (Lvl := ℕ) (pcfgs (F := F)) 0 (defs₀ (F := F)) 𝒱 m main opss opss_sub opss_fresh fun c => main_chain c
  have hbody : ∀ c, (rdat pf hok c (fun w => V m c (Pipeline.arrRef spec0 w)) J R).BodyObligation (defs₀ (F := F)) 𝒱 () Set.univ := fun c => body_obligation _ c pf hok _ J R (hstep c)
  have hshare : ∀ c w, (rdat pf hok c (fun w => V m c (Pipeline.arrRef spec0 w)) J R).share w = fullShare := fun c w => by
    unfold Pipeline.RDat.share; split <;> rfl
  have hA : ∀ c w, (rdat pf hok c (fun w => V m c (Pipeline.arrRef spec0 w)) J R).A w = V m c (Pipeline.arrRef spec0 w) := fun c w => rfl
  have hin : ∀ c, iprop(Pipeline.ΦA (U := UR sig nD τ) (Val := Elt F) spec0 c ∗ Pipeline.ΦT (U := UR sig nD τ) pre0 pf c) ⊢ Phi c pf (J 0) := fun c => by
    unfold Pipeline.ΦA Phi; rw [scopedRest0_eq]
    iintro ⟨⟨⟨⟨%f9, H9⟩, ⟨%f10, H10⟩, ⟨%f11, H11⟩⟩, Hr⟩, HT⟩
    isplitl [HT]; · iexact HT
    isplitr [Hr]
    · iexists f9, f10, f11
      isplitr; · ipureintro; exact hJ _ _ _
      isplitl [H9]; · iexact H9
      isplitl [H10]; · iexact H10
      iexact H11
    iexact Hr
  have hout : ∀ c (J' : C9 F → C10 F → C11 F → Prop), Phi c pf J' ⊢ Pipeline.ΦA (U := UR sig nD τ) (Val := Elt F) spec0 c := fun c J' => by
    unfold Pipeline.ΦA Phi; rw [scopedRest0_eq]
    iintro ⟨HT, ⟨%W9, %W10, %W11, %h, H9, H10, H11⟩, Hr⟩
    isplitr [Hr]
    · isplitl [H9]; · iexists W9; iexact H9
      isplitl [H10]; · iexists W10; iexact H10
      iexists W11; iexact H11
    iexact Hr
  exact Pipeline.RDat.θ_run_frameP_track (pcfgs (F := F)) (adm pf hok) 0 launch0 (defs₀ (F := F)) 𝒱
    (fun c => rdat pf hok c (fun w => V m c (Pipeline.arrRef spec0 w)) J R) m g (main (F := F))
    hbody hshare (fun c t => rfl) (V m) hmain hA hpf hin (fun c => hout c _) _ (fun r h => h)
end Cert.Kernel.Gen
-- ==== Proof.HostBits.lean ====
module

public import proofs.«01_k».proof.Proof.Gen.Kernel.Launch
public import proofs.«01_k».proof.Proof.Terms
public import Idealize.ShloMosaic.Lib.StableHlo.Run

/-! What the host leaves in the tables, stretch by stretch: each buffer a later stretch reads, as a term of the
group sizes; and the arguments untouched. -/

@[expose] public section

set_option maxRecDepth 16384
noncomputable section
namespace Cert.Kernel.Host

open Cert.Kernel Cert.Kernel.Gen Idealize.ShloMosaic Idealize.ShloMosaic.TcCoe Idealize.SL.Sem Idealize.ShloMosaic.StableHlo

variable {F : FTy → Type} [FloatOps F]

/-- The buffers after stretch 0. -/
def val0 (V0 : Valuation τ sig (Elt F)) : Valuation τ sig (Elt F) := after hostOps0 V0
abbrev W0 : List (Ref sig .tc) := [main_call0_call0_c, main_call0_call0_v0, main_v0]
theorem writes0 : (hostOps0 : List (HloOp τ sig (Elt F))).Forall fun op => op.writes ⊆ (W0.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep0 (V0 : Valuation τ sig (Elt F)) (r : Ref sig .tc) (h : r ∉ W0) : val0 V0 (Proc.devRef .tc r) = V0 (Proc.devRef .tc r) :=
  after_of_writes_sub hostOps0 _ writes0 h
theorem val0_main_arg0 (V0 : Valuation τ sig (Elt F)) : val0 V0 (no_index (Proc.devRef .tc main_arg0)) = V0 (Proc.devRef .tc main_arg0) :=
  (keep0 V0 main_arg0 (by decide))
theorem val0_main_arg1 (V0 : Valuation τ sig (Elt F)) : val0 V0 (no_index (Proc.devRef .tc main_arg1)) = V0 (Proc.devRef .tc main_arg1) :=
  (keep0 V0 main_arg1 (by decide))
theorem val0_main_arg2 (V0 : Valuation τ sig (Elt F)) : val0 V0 (no_index (Proc.devRef .tc main_arg2)) = V0 (Proc.devRef .tc main_arg2) :=
  (keep0 V0 main_arg2 (by decide))
theorem val0_main_arg3 (V0 : Valuation τ sig (Elt F)) : val0 V0 (no_index (Proc.devRef .tc main_arg3)) = V0 (Proc.devRef .tc main_arg3) :=
  (keep0 V0 main_arg3 (by decide))
theorem val0_main_v59 (V0 : Valuation τ sig (Elt F)) : val0 V0 (no_index (Proc.devRef .tc main_v59)) = V0 (Proc.devRef .tc main_v59) :=
  (keep0 V0 main_v59 (by decide))
theorem val0_main_v0 (V0 : Valuation τ sig (Elt F)) : val0 V0 (no_index (Proc.devRef .tc main_v0)) = Terms.tE (V0 (Proc.devRef .tc main_arg1)) := by
  unfold val0
  simp only [hostOps0, TRef.nullary, TRef.unary, TRef.binary, TRef.ternary, TRef.toBuf, TRef.ofBuf, cast_eq]
  after_results_simp
  all_goals rfl
/-- The buffers after stretch 1. -/
def val1 (V0 : Valuation τ sig (Elt F)) : Valuation τ sig (Elt F) := after hostOps0_1 (val0 V0)
abbrev W1 : List (Ref sig .tc) := [main_v1, main_c]
theorem writes1 : (hostOps0_1 : List (HloOp τ sig (Elt F))).Forall fun op => op.writes ⊆ (W1.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep1 (V0 : Valuation τ sig (Elt F)) (r : Ref sig .tc) (h : r ∉ W1) : val1 V0 (Proc.devRef .tc r) = (val0 V0) (Proc.devRef .tc r) :=
  after_of_writes_sub hostOps0_1 _ writes1 h
theorem val1_main_arg0 (V0 : Valuation τ sig (Elt F)) : val1 V0 (no_index (Proc.devRef .tc main_arg0)) = V0 (Proc.devRef .tc main_arg0) :=
  (keep1 V0 main_arg0 (by decide)).trans (val0_main_arg0 V0)
theorem val1_main_arg1 (V0 : Valuation τ sig (Elt F)) : val1 V0 (no_index (Proc.devRef .tc main_arg1)) = V0 (Proc.devRef .tc main_arg1) :=
  (keep1 V0 main_arg1 (by decide)).trans (val0_main_arg1 V0)
theorem val1_main_arg2 (V0 : Valuation τ sig (Elt F)) : val1 V0 (no_index (Proc.devRef .tc main_arg2)) = V0 (Proc.devRef .tc main_arg2) :=
  (keep1 V0 main_arg2 (by decide)).trans (val0_main_arg2 V0)
theorem val1_main_arg3 (V0 : Valuation τ sig (Elt F)) : val1 V0 (no_index (Proc.devRef .tc main_arg3)) = V0 (Proc.devRef .tc main_arg3) :=
  (keep1 V0 main_arg3 (by decide)).trans (val0_main_arg3 V0)
theorem val1_main_v59 (V0 : Valuation τ sig (Elt F)) : val1 V0 (no_index (Proc.devRef .tc main_v59)) = V0 (Proc.devRef .tc main_v59) :=
  (keep1 V0 main_v59 (by decide)).trans (val0_main_v59 V0)
theorem val1_main_v0 (V0 : Valuation τ sig (Elt F)) : val1 V0 (no_index (Proc.devRef .tc main_v0)) = Terms.tE (V0 (Proc.devRef .tc main_arg1)) :=
  (keep1 V0 main_v0 (by decide)).trans (val0_main_v0 V0)
theorem val1_main_v1 (V0 : Valuation τ sig (Elt F)) : val1 V0 (no_index (Proc.devRef .tc main_v1)) = Terms.tS (V0 (Proc.devRef .tc main_arg1)) := by
  unfold val1
  simp only [hostOps0_1, TRef.nullary, TRef.unary, TRef.binary, TRef.ternary, TRef.toBuf, TRef.ofBuf, cast_eq]
  after_results_simp
  all_goals (simp only [val0_main_v0, val0_main_arg1] <;> rfl)
theorem val1_main_c (V0 : Valuation τ sig (Elt F)) : val1 V0 (no_index (Proc.devRef .tc main_c)) = constantI S_ 32 512#32 := by
  unfold val1
  simp only [hostOps0_1, TRef.nullary, TRef.unary, TRef.binary, TRef.ternary, TRef.toBuf, TRef.ofBuf, cast_eq]
  after_results_simp
  all_goals (simp only [val0_main_v0, val0_main_arg1] <;> rfl)
/-- The buffers after stretch 2. -/
def val2 (V0 : Valuation τ sig (Elt F)) : Valuation τ sig (Elt F) := after hostOps0_2 (val1 V0)
abbrev W2 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]
theorem writes2 : (hostOps0_2 : List (HloOp τ sig (Elt F))).Forall fun op => op.writes ⊆ (W2.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep2 (V0 : Valuation τ sig (Elt F)) (r : Ref sig .tc) (h : r ∉ W2) : val2 V0 (Proc.devRef .tc r) = (val1 V0) (Proc.devRef .tc r) :=
  after_of_writes_sub hostOps0_2 _ writes2 h
theorem val2_main_arg0 (V0 : Valuation τ sig (Elt F)) : val2 V0 (no_index (Proc.devRef .tc main_arg0)) = V0 (Proc.devRef .tc main_arg0) :=
  (keep2 V0 main_arg0 (by decide)).trans (val1_main_arg0 V0)
theorem val2_main_arg1 (V0 : Valuation τ sig (Elt F)) : val2 V0 (no_index (Proc.devRef .tc main_arg1)) = V0 (Proc.devRef .tc main_arg1) :=
  (keep2 V0 main_arg1 (by decide)).trans (val1_main_arg1 V0)
theorem val2_main_arg2 (V0 : Valuation τ sig (Elt F)) : val2 V0 (no_index (Proc.devRef .tc main_arg2)) = V0 (Proc.devRef .tc main_arg2) :=
  (keep2 V0 main_arg2 (by decide)).trans (val1_main_arg2 V0)
theorem val2_main_arg3 (V0 : Valuation τ sig (Elt F)) : val2 V0 (no_index (Proc.devRef .tc main_arg3)) = V0 (Proc.devRef .tc main_arg3) :=
  (keep2 V0 main_arg3 (by decide)).trans (val1_main_arg3 V0)
theorem val2_main_v59 (V0 : Valuation τ sig (Elt F)) : val2 V0 (no_index (Proc.devRef .tc main_v59)) = V0 (Proc.devRef .tc main_v59) :=
  (keep2 V0 main_v59 (by decide)).trans (val1_main_v59 V0)
theorem val2_main_v0 (V0 : Valuation τ sig (Elt F)) : val2 V0 (no_index (Proc.devRef .tc main_v0)) = Terms.tE (V0 (Proc.devRef .tc main_arg1)) :=
  (keep2 V0 main_v0 (by decide)).trans (val1_main_v0 V0)
theorem val2_main_v1 (V0 : Valuation τ sig (Elt F)) : val2 V0 (no_index (Proc.devRef .tc main_v1)) = Terms.tS (V0 (Proc.devRef .tc main_arg1)) :=
  (keep2 V0 main_v1 (by decide)).trans (val1_main_v1 V0)
theorem val2_main_c (V0 : Valuation τ sig (Elt F)) : val2 V0 (no_index (Proc.devRef .tc main_c)) = constantI S_ 32 512#32 :=
  (keep2 V0 main_c (by decide)).trans (val1_main_c V0)
theorem val2_main_v2 (V0 : Valuation τ sig (Elt F)) : val2 V0 (no_index (Proc.devRef .tc main_v2)) = Terms.tF (V0 (Proc.devRef .tc main_arg1)) := by
  unfold val2
  simp only [hostOps0_2, TRef.nullary, TRef.unary, TRef.binary, TRef.ternary, TRef.toBuf, TRef.ofBuf, cast_eq]
  after_results_simp
  all_goals (simp only [val1_main_v0, val1_main_v1, val1_main_c, val1_main_arg1] <;> rfl)
/-- The buffers after stretch 3. -/
def val3 (V0 : Valuation τ sig (Elt F)) : Valuation τ sig (Elt F) := after hostOps0_3 (val2 V0)
abbrev W3 : List (Ref sig .tc) := [main_c_0, main_v3, main_v4, main_c_1, main_v5, main_v6, main_c_2]
theorem writes3 : (hostOps0_3 : List (HloOp τ sig (Elt F))).Forall fun op => op.writes ⊆ (W3.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep3 (V0 : Valuation τ sig (Elt F)) (r : Ref sig .tc) (h : r ∉ W3) : val3 V0 (Proc.devRef .tc r) = (val2 V0) (Proc.devRef .tc r) :=
  after_of_writes_sub hostOps0_3 _ writes3 h
theorem val3_main_arg0 (V0 : Valuation τ sig (Elt F)) : val3 V0 (no_index (Proc.devRef .tc main_arg0)) = V0 (Proc.devRef .tc main_arg0) :=
  (keep3 V0 main_arg0 (by decide)).trans (val2_main_arg0 V0)
theorem val3_main_arg1 (V0 : Valuation τ sig (Elt F)) : val3 V0 (no_index (Proc.devRef .tc main_arg1)) = V0 (Proc.devRef .tc main_arg1) :=
  (keep3 V0 main_arg1 (by decide)).trans (val2_main_arg1 V0)
theorem val3_main_arg2 (V0 : Valuation τ sig (Elt F)) : val3 V0 (no_index (Proc.devRef .tc main_arg2)) = V0 (Proc.devRef .tc main_arg2) :=
  (keep3 V0 main_arg2 (by decide)).trans (val2_main_arg2 V0)
theorem val3_main_arg3 (V0 : Valuation τ sig (Elt F)) : val3 V0 (no_index (Proc.devRef .tc main_arg3)) = V0 (Proc.devRef .tc main_arg3) :=
  (keep3 V0 main_arg3 (by decide)).trans (val2_main_arg3 V0)
theorem val3_main_v59 (V0 : Valuation τ sig (Elt F)) : val3 V0 (no_index (Proc.devRef .tc main_v59)) = V0 (Proc.devRef .tc main_v59) :=
  (keep3 V0 main_v59 (by decide)).trans (val2_main_v59 V0)
theorem val3_main_v0 (V0 : Valuation τ sig (Elt F)) : val3 V0 (no_index (Proc.devRef .tc main_v0)) = Terms.tE (V0 (Proc.devRef .tc main_arg1)) :=
  (keep3 V0 main_v0 (by decide)).trans (val2_main_v0 V0)
theorem val3_main_v1 (V0 : Valuation τ sig (Elt F)) : val3 V0 (no_index (Proc.devRef .tc main_v1)) = Terms.tS (V0 (Proc.devRef .tc main_arg1)) :=
  (keep3 V0 main_v1 (by decide)).trans (val2_main_v1 V0)
theorem val3_main_c (V0 : Valuation τ sig (Elt F)) : val3 V0 (no_index (Proc.devRef .tc main_c)) = constantI S_ 32 512#32 :=
  (keep3 V0 main_c (by decide)).trans (val2_main_c V0)
theorem val3_main_v2 (V0 : Valuation τ sig (Elt F)) : val3 V0 (no_index (Proc.devRef .tc main_v2)) = Terms.tF (V0 (Proc.devRef .tc main_arg1)) :=
  (keep3 V0 main_v2 (by decide)).trans (val2_main_v2 V0)
theorem val3_main_v4 (V0 : Valuation τ sig (Elt F)) : val3 V0 (no_index (Proc.devRef .tc main_v4)) = cmpi .sgt (Terms.gs (V0 (Proc.devRef .tc main_arg1))) (Terms.b8 (Terms.c32 0#32)) := by
  unfold val3
  simp only [hostOps0_3, TRef.nullary, TRef.unary, TRef.binary, TRef.ternary, TRef.toBuf, TRef.ofBuf, cast_eq]
  after_results_simp
  all_goals (simp only [val2_main_v0, val2_main_v1, val2_main_c, val2_main_v2, val2_main_arg1] <;> rfl)
theorem val3_main_v6 (V0 : Valuation τ sig (Elt F)) : val3 V0 (no_index (Proc.devRef .tc main_v6)) = subi (Terms.tE (V0 (Proc.devRef .tc main_arg1))) (Terms.b8 (Terms.c32 1#32)) := by
  unfold val3
  simp only [hostOps0_3, TRef.nullary, TRef.unary, TRef.binary, TRef.ternary, TRef.toBuf, TRef.ofBuf, cast_eq]
  after_results_simp
  all_goals (simp only [val2_main_v0, val2_main_v1, val2_main_c, val2_main_v2, val2_main_arg1] <;> rfl)
theorem val3_main_c_2 (V0 : Valuation τ sig (Elt F)) : val3 V0 (no_index (Proc.devRef .tc main_c_2)) = constantI S_ 32 512#32 := by
  unfold val3
  simp only [hostOps0_3, TRef.nullary, TRef.unary, TRef.binary, TRef.ternary, TRef.toBuf, TRef.ofBuf, cast_eq]
  after_results_simp
  all_goals (simp only [val2_main_v0, val2_main_v1, val2_main_c, val2_main_v2, val2_main_arg1] <;> rfl)
/-- The buffers after stretch 4. -/
def val4 (V0 : Valuation τ sig (Elt F)) : Valuation τ sig (Elt F) := after hostOps0_4 (val3 V0)
abbrev W4 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7]
theorem writes4 : (hostOps0_4 : List (HloOp τ sig (Elt F))).Forall fun op => op.writes ⊆ (W4.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep4 (V0 : Valuation τ sig (Elt F)) (r : Ref sig .tc) (h : r ∉ W4) : val4 V0 (Proc.devRef .tc r) = (val3 V0) (Proc.devRef .tc r) :=
  after_of_writes_sub hostOps0_4 _ writes4 h
theorem val4_main_arg0 (V0 : Valuation τ sig (Elt F)) : val4 V0 (no_index (Proc.devRef .tc main_arg0)) = V0 (Proc.devRef .tc main_arg0) :=
  (keep4 V0 main_arg0 (by decide)).trans (val3_main_arg0 V0)
theorem val4_main_arg1 (V0 : Valuation τ sig (Elt F)) : val4 V0 (no_index (Proc.devRef .tc main_arg1)) = V0 (Proc.devRef .tc main_arg1) :=
  (keep4 V0 main_arg1 (by decide)).trans (val3_main_arg1 V0)
theorem val4_main_arg2 (V0 : Valuation τ sig (Elt F)) : val4 V0 (no_index (Proc.devRef .tc main_arg2)) = V0 (Proc.devRef .tc main_arg2) :=
  (keep4 V0 main_arg2 (by decide)).trans (val3_main_arg2 V0)
theorem val4_main_arg3 (V0 : Valuation τ sig (Elt F)) : val4 V0 (no_index (Proc.devRef .tc main_arg3)) = V0 (Proc.devRef .tc main_arg3) :=
  (keep4 V0 main_arg3 (by decide)).trans (val3_main_arg3 V0)
theorem val4_main_v59 (V0 : Valuation τ sig (Elt F)) : val4 V0 (no_index (Proc.devRef .tc main_v59)) = V0 (Proc.devRef .tc main_v59) :=
  (keep4 V0 main_v59 (by decide)).trans (val3_main_v59 V0)
theorem val4_main_v0 (V0 : Valuation τ sig (Elt F)) : val4 V0 (no_index (Proc.devRef .tc main_v0)) = Terms.tE (V0 (Proc.devRef .tc main_arg1)) :=
  (keep4 V0 main_v0 (by decide)).trans (val3_main_v0 V0)
theorem val4_main_v1 (V0 : Valuation τ sig (Elt F)) : val4 V0 (no_index (Proc.devRef .tc main_v1)) = Terms.tS (V0 (Proc.devRef .tc main_arg1)) :=
  (keep4 V0 main_v1 (by decide)).trans (val3_main_v1 V0)
theorem val4_main_c (V0 : Valuation τ sig (Elt F)) : val4 V0 (no_index (Proc.devRef .tc main_c)) = constantI S_ 32 512#32 :=
  (keep4 V0 main_c (by decide)).trans (val3_main_c V0)
theorem val4_main_v2 (V0 : Valuation τ sig (Elt F)) : val4 V0 (no_index (Proc.devRef .tc main_v2)) = Terms.tF (V0 (Proc.devRef .tc main_arg1)) :=
  (keep4 V0 main_v2 (by decide)).trans (val3_main_v2 V0)
theorem val4_main_v4 (V0 : Valuation τ sig (Elt F)) : val4 V0 (no_index (Proc.devRef .tc main_v4)) = cmpi .sgt (Terms.gs (V0 (Proc.devRef .tc main_arg1))) (Terms.b8 (Terms.c32 0#32)) :=
  (keep4 V0 main_v4 (by decide)).trans (val3_main_v4 V0)
theorem val4_main_v6 (V0 : Valuation τ sig (Elt F)) : val4 V0 (no_index (Proc.devRef .tc main_v6)) = subi (Terms.tE (V0 (Proc.devRef .tc main_arg1))) (Terms.b8 (Terms.c32 1#32)) :=
  (keep4 V0 main_v6 (by decide)).trans (val3_main_v6 V0)
theorem val4_main_c_2 (V0 : Valuation τ sig (Elt F)) : val4 V0 (no_index (Proc.devRef .tc main_c_2)) = constantI S_ 32 512#32 :=
  (keep4 V0 main_c_2 (by decide)).trans (val3_main_c_2 V0)
theorem val4_main_v7 (V0 : Valuation τ sig (Elt F)) : val4 V0 (no_index (Proc.devRef .tc main_v7)) = Terms.tL (V0 (Proc.devRef .tc main_arg1)) := by
  unfold val4
  simp only [hostOps0_4, TRef.nullary, TRef.unary, TRef.binary, TRef.ternary, TRef.toBuf, TRef.ofBuf, cast_eq]
  after_results_simp
  all_goals (simp only [val3_main_v0, val3_main_v1, val3_main_c, val3_main_v2, val3_main_v4, val3_main_v6, val3_main_c_2, val3_main_arg1] <;> rfl)
/-- The buffers after stretch 5. -/
def val5 (V0 : Valuation τ sig (Elt F)) : Valuation τ sig (Elt F) := after hostOps0_5 (val4 V0)
abbrev W5 : List (Ref sig .tc) := [main_v8, main_c_3, main_v9, main_v10, main_c_4]
theorem writes5 : (hostOps0_5 : List (HloOp τ sig (Elt F))).Forall fun op => op.writes ⊆ (W5.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep5 (V0 : Valuation τ sig (Elt F)) (r : Ref sig .tc) (h : r ∉ W5) : val5 V0 (Proc.devRef .tc r) = (val4 V0) (Proc.devRef .tc r) :=
  after_of_writes_sub hostOps0_5 _ writes5 h
theorem val5_main_arg0 (V0 : Valuation τ sig (Elt F)) : val5 V0 (no_index (Proc.devRef .tc main_arg0)) = V0 (Proc.devRef .tc main_arg0) :=
  (keep5 V0 main_arg0 (by decide)).trans (val4_main_arg0 V0)
theorem val5_main_arg1 (V0 : Valuation τ sig (Elt F)) : val5 V0 (no_index (Proc.devRef .tc main_arg1)) = V0 (Proc.devRef .tc main_arg1) :=
  (keep5 V0 main_arg1 (by decide)).trans (val4_main_arg1 V0)
theorem val5_main_arg2 (V0 : Valuation τ sig (Elt F)) : val5 V0 (no_index (Proc.devRef .tc main_arg2)) = V0 (Proc.devRef .tc main_arg2) :=
  (keep5 V0 main_arg2 (by decide)).trans (val4_main_arg2 V0)
theorem val5_main_arg3 (V0 : Valuation τ sig (Elt F)) : val5 V0 (no_index (Proc.devRef .tc main_arg3)) = V0 (Proc.devRef .tc main_arg3) :=
  (keep5 V0 main_arg3 (by decide)).trans (val4_main_arg3 V0)
theorem val5_main_v59 (V0 : Valuation τ sig (Elt F)) : val5 V0 (no_index (Proc.devRef .tc main_v59)) = V0 (Proc.devRef .tc main_v59) :=
  (keep5 V0 main_v59 (by decide)).trans (val4_main_v59 V0)
theorem val5_main_v0 (V0 : Valuation τ sig (Elt F)) : val5 V0 (no_index (Proc.devRef .tc main_v0)) = Terms.tE (V0 (Proc.devRef .tc main_arg1)) :=
  (keep5 V0 main_v0 (by decide)).trans (val4_main_v0 V0)
theorem val5_main_v1 (V0 : Valuation τ sig (Elt F)) : val5 V0 (no_index (Proc.devRef .tc main_v1)) = Terms.tS (V0 (Proc.devRef .tc main_arg1)) :=
  (keep5 V0 main_v1 (by decide)).trans (val4_main_v1 V0)
theorem val5_main_c (V0 : Valuation τ sig (Elt F)) : val5 V0 (no_index (Proc.devRef .tc main_c)) = constantI S_ 32 512#32 :=
  (keep5 V0 main_c (by decide)).trans (val4_main_c V0)
theorem val5_main_v2 (V0 : Valuation τ sig (Elt F)) : val5 V0 (no_index (Proc.devRef .tc main_v2)) = Terms.tF (V0 (Proc.devRef .tc main_arg1)) :=
  (keep5 V0 main_v2 (by decide)).trans (val4_main_v2 V0)
theorem val5_main_v4 (V0 : Valuation τ sig (Elt F)) : val5 V0 (no_index (Proc.devRef .tc main_v4)) = cmpi .sgt (Terms.gs (V0 (Proc.devRef .tc main_arg1))) (Terms.b8 (Terms.c32 0#32)) :=
  (keep5 V0 main_v4 (by decide)).trans (val4_main_v4 V0)
theorem val5_main_v6 (V0 : Valuation τ sig (Elt F)) : val5 V0 (no_index (Proc.devRef .tc main_v6)) = subi (Terms.tE (V0 (Proc.devRef .tc main_arg1))) (Terms.b8 (Terms.c32 1#32)) :=
  (keep5 V0 main_v6 (by decide)).trans (val4_main_v6 V0)
theorem val5_main_c_2 (V0 : Valuation τ sig (Elt F)) : val5 V0 (no_index (Proc.devRef .tc main_c_2)) = constantI S_ 32 512#32 :=
  (keep5 V0 main_c_2 (by decide)).trans (val4_main_c_2 V0)
theorem val5_main_v7 (V0 : Valuation τ sig (Elt F)) : val5 V0 (no_index (Proc.devRef .tc main_v7)) = Terms.tL (V0 (Proc.devRef .tc main_arg1)) :=
  (keep5 V0 main_v7 (by decide)).trans (val4_main_v7 V0)
theorem val5_main_v10 (V0 : Valuation τ sig (Elt F)) : val5 V0 (no_index (Proc.devRef .tc main_v10)) = addi (subi (Terms.tL (V0 (Proc.devRef .tc main_arg1))) (Terms.tF (V0 (Proc.devRef .tc main_arg1)))) (Terms.b8 (Terms.c32 1#32)) := by
  unfold val5
  simp only [hostOps0_5, TRef.nullary, TRef.unary, TRef.binary, TRef.ternary, TRef.toBuf, TRef.ofBuf, cast_eq]
  after_results_simp
  all_goals (simp only [val4_main_v0, val4_main_v1, val4_main_c, val4_main_v2, val4_main_v4, val4_main_v6, val4_main_c_2, val4_main_v7, val4_main_arg1] <;> rfl)
theorem val5_main_c_4 (V0 : Valuation τ sig (Elt F)) : val5 V0 (no_index (Proc.devRef .tc main_c_4)) = constantI S_ 32 0#32 := by
  unfold val5
  simp only [hostOps0_5, TRef.nullary, TRef.unary, TRef.binary, TRef.ternary, TRef.toBuf, TRef.ofBuf, cast_eq]
  after_results_simp
  all_goals (simp only [val4_main_v0, val4_main_v1, val4_main_c, val4_main_v2, val4_main_v4, val4_main_v6, val4_main_c_2, val4_main_v7, val4_main_arg1] <;> rfl)
/-- The buffers after stretch 6. -/
def val6 (V0 : Valuation τ sig (Elt F)) : Valuation τ sig (Elt F) := after hostOps0_6 (val5 V0)
abbrev W6 : List (Ref sig .tc) := [main_call3_v0, main_call3_v1, main_v11]
theorem writes6 : (hostOps0_6 : List (HloOp τ sig (Elt F))).Forall fun op => op.writes ⊆ (W6.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep6 (V0 : Valuation τ sig (Elt F)) (r : Ref sig .tc) (h : r ∉ W6) : val6 V0 (Proc.devRef .tc r) = (val5 V0) (Proc.devRef .tc r) :=
  after_of_writes_sub hostOps0_6 _ writes6 h
theorem val6_main_arg0 (V0 : Valuation τ sig (Elt F)) : val6 V0 (no_index (Proc.devRef .tc main_arg0)) = V0 (Proc.devRef .tc main_arg0) :=
  (keep6 V0 main_arg0 (by decide)).trans (val5_main_arg0 V0)
theorem val6_main_arg1 (V0 : Valuation τ sig (Elt F)) : val6 V0 (no_index (Proc.devRef .tc main_arg1)) = V0 (Proc.devRef .tc main_arg1) :=
  (keep6 V0 main_arg1 (by decide)).trans (val5_main_arg1 V0)
theorem val6_main_arg2 (V0 : Valuation τ sig (Elt F)) : val6 V0 (no_index (Proc.devRef .tc main_arg2)) = V0 (Proc.devRef .tc main_arg2) :=
  (keep6 V0 main_arg2 (by decide)).trans (val5_main_arg2 V0)
theorem val6_main_arg3 (V0 : Valuation τ sig (Elt F)) : val6 V0 (no_index (Proc.devRef .tc main_arg3)) = V0 (Proc.devRef .tc main_arg3) :=
  (keep6 V0 main_arg3 (by decide)).trans (val5_main_arg3 V0)
theorem val6_main_v59 (V0 : Valuation τ sig (Elt F)) : val6 V0 (no_index (Proc.devRef .tc main_v59)) = V0 (Proc.devRef .tc main_v59) :=
  (keep6 V0 main_v59 (by decide)).trans (val5_main_v59 V0)
theorem val6_main_v0 (V0 : Valuation τ sig (Elt F)) : val6 V0 (no_index (Proc.devRef .tc main_v0)) = Terms.tE (V0 (Proc.devRef .tc main_arg1)) :=
  (keep6 V0 main_v0 (by decide)).trans (val5_main_v0 V0)
theorem val6_main_v1 (V0 : Valuation τ sig (Elt F)) : val6 V0 (no_index (Proc.devRef .tc main_v1)) = Terms.tS (V0 (Proc.devRef .tc main_arg1)) :=
  (keep6 V0 main_v1 (by decide)).trans (val5_main_v1 V0)
theorem val6_main_c (V0 : Valuation τ sig (Elt F)) : val6 V0 (no_index (Proc.devRef .tc main_c)) = constantI S_ 32 512#32 :=
  (keep6 V0 main_c (by decide)).trans (val5_main_c V0)
theorem val6_main_v2 (V0 : Valuation τ sig (Elt F)) : val6 V0 (no_index (Proc.devRef .tc main_v2)) = Terms.tF (V0 (Proc.devRef .tc main_arg1)) :=
  (keep6 V0 main_v2 (by decide)).trans (val5_main_v2 V0)
theorem val6_main_v4 (V0 : Valuation τ sig (Elt F)) : val6 V0 (no_index (Proc.devRef .tc main_v4)) = cmpi .sgt (Terms.gs (V0 (Proc.devRef .tc main_arg1))) (Terms.b8 (Terms.c32 0#32)) :=
  (keep6 V0 main_v4 (by decide)).trans (val5_main_v4 V0)
theorem val6_main_v6 (V0 : Valuation τ sig (Elt F)) : val6 V0 (no_index (Proc.devRef .tc main_v6)) = subi (Terms.tE (V0 (Proc.devRef .tc main_arg1))) (Terms.b8 (Terms.c32 1#32)) :=
  (keep6 V0 main_v6 (by decide)).trans (val5_main_v6 V0)
theorem val6_main_c_2 (V0 : Valuation τ sig (Elt F)) : val6 V0 (no_index (Proc.devRef .tc main_c_2)) = constantI S_ 32 512#32 :=
  (keep6 V0 main_c_2 (by decide)).trans (val5_main_c_2 V0)
theorem val6_main_v7 (V0 : Valuation τ sig (Elt F)) : val6 V0 (no_index (Proc.devRef .tc main_v7)) = Terms.tL (V0 (Proc.devRef .tc main_arg1)) :=
  (keep6 V0 main_v7 (by decide)).trans (val5_main_v7 V0)
theorem val6_main_v10 (V0 : Valuation τ sig (Elt F)) : val6 V0 (no_index (Proc.devRef .tc main_v10)) = addi (subi (Terms.tL (V0 (Proc.devRef .tc main_arg1))) (Terms.tF (V0 (Proc.devRef .tc main_arg1)))) (Terms.b8 (Terms.c32 1#32)) :=
  (keep6 V0 main_v10 (by decide)).trans (val5_main_v10 V0)
theorem val6_main_c_4 (V0 : Valuation τ sig (Elt F)) : val6 V0 (no_index (Proc.devRef .tc main_c_4)) = constantI S_ 32 0#32 :=
  (keep6 V0 main_c_4 (by decide)).trans (val5_main_c_4 V0)
theorem val6_main_v11 (V0 : Valuation τ sig (Elt F)) : val6 V0 (no_index (Proc.devRef .tc main_v11)) = Terms.tCnt (V0 (Proc.devRef .tc main_arg1)) := by
  unfold val6
  simp only [hostOps0_6, TRef.nullary, TRef.unary, TRef.binary, TRef.ternary, TRef.toBuf, TRef.ofBuf, cast_eq]
  after_results_simp
  all_goals (simp only [val5_main_v0, val5_main_v1, val5_main_c, val5_main_v2, val5_main_v4, val5_main_v6, val5_main_c_2, val5_main_v7, val5_main_v10, val5_main_c_4, val5_main_arg1] <;> rfl)
/-- The buffers after stretch 7. -/
def val7 (V0 : Valuation τ sig (Elt F)) : Valuation τ sig (Elt F) := after hostOps0_7 (val6 V0)
abbrev W7 : List (Ref sig .tc) := [main_c_5, main_v12]
theorem writes7 : (hostOps0_7 : List (HloOp τ sig (Elt F))).Forall fun op => op.writes ⊆ (W7.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep7 (V0 : Valuation τ sig (Elt F)) (r : Ref sig .tc) (h : r ∉ W7) : val7 V0 (Proc.devRef .tc r) = (val6 V0) (Proc.devRef .tc r) :=
  after_of_writes_sub hostOps0_7 _ writes7 h
theorem val7_main_arg0 (V0 : Valuation τ sig (Elt F)) : val7 V0 (no_index (Proc.devRef .tc main_arg0)) = V0 (Proc.devRef .tc main_arg0) :=
  (keep7 V0 main_arg0 (by decide)).trans (val6_main_arg0 V0)
theorem val7_main_arg1 (V0 : Valuation τ sig (Elt F)) : val7 V0 (no_index (Proc.devRef .tc main_arg1)) = V0 (Proc.devRef .tc main_arg1) :=
  (keep7 V0 main_arg1 (by decide)).trans (val6_main_arg1 V0)
theorem val7_main_arg2 (V0 : Valuation τ sig (Elt F)) : val7 V0 (no_index (Proc.devRef .tc main_arg2)) = V0 (Proc.devRef .tc main_arg2) :=
  (keep7 V0 main_arg2 (by decide)).trans (val6_main_arg2 V0)
theorem val7_main_arg3 (V0 : Valuation τ sig (Elt F)) : val7 V0 (no_index (Proc.devRef .tc main_arg3)) = V0 (Proc.devRef .tc main_arg3) :=
  (keep7 V0 main_arg3 (by decide)).trans (val6_main_arg3 V0)
theorem val7_main_v59 (V0 : Valuation τ sig (Elt F)) : val7 V0 (no_index (Proc.devRef .tc main_v59)) = V0 (Proc.devRef .tc main_v59) :=
  (keep7 V0 main_v59 (by decide)).trans (val6_main_v59 V0)
theorem val7_main_v0 (V0 : Valuation τ sig (Elt F)) : val7 V0 (no_index (Proc.devRef .tc main_v0)) = Terms.tE (V0 (Proc.devRef .tc main_arg1)) :=
  (keep7 V0 main_v0 (by decide)).trans (val6_main_v0 V0)
theorem val7_main_v1 (V0 : Valuation τ sig (Elt F)) : val7 V0 (no_index (Proc.devRef .tc main_v1)) = Terms.tS (V0 (Proc.devRef .tc main_arg1)) :=
  (keep7 V0 main_v1 (by decide)).trans (val6_main_v1 V0)
theorem val7_main_c (V0 : Valuation τ sig (Elt F)) : val7 V0 (no_index (Proc.devRef .tc main_c)) = constantI S_ 32 512#32 :=
  (keep7 V0 main_c (by decide)).trans (val6_main_c V0)
theorem val7_main_v2 (V0 : Valuation τ sig (Elt F)) : val7 V0 (no_index (Proc.devRef .tc main_v2)) = Terms.tF (V0 (Proc.devRef .tc main_arg1)) :=
  (keep7 V0 main_v2 (by decide)).trans (val6_main_v2 V0)
theorem val7_main_v4 (V0 : Valuation τ sig (Elt F)) : val7 V0 (no_index (Proc.devRef .tc main_v4)) = cmpi .sgt (Terms.gs (V0 (Proc.devRef .tc main_arg1))) (Terms.b8 (Terms.c32 0#32)) :=
  (keep7 V0 main_v4 (by decide)).trans (val6_main_v4 V0)
theorem val7_main_v6 (V0 : Valuation τ sig (Elt F)) : val7 V0 (no_index (Proc.devRef .tc main_v6)) = subi (Terms.tE (V0 (Proc.devRef .tc main_arg1))) (Terms.b8 (Terms.c32 1#32)) :=
  (keep7 V0 main_v6 (by decide)).trans (val6_main_v6 V0)
theorem val7_main_c_2 (V0 : Valuation τ sig (Elt F)) : val7 V0 (no_index (Proc.devRef .tc main_c_2)) = constantI S_ 32 512#32 :=
  (keep7 V0 main_c_2 (by decide)).trans (val6_main_c_2 V0)
theorem val7_main_v7 (V0 : Valuation τ sig (Elt F)) : val7 V0 (no_index (Proc.devRef .tc main_v7)) = Terms.tL (V0 (Proc.devRef .tc main_arg1)) :=
  (keep7 V0 main_v7 (by decide)).trans (val6_main_v7 V0)
theorem val7_main_v10 (V0 : Valuation τ sig (Elt F)) : val7 V0 (no_index (Proc.devRef .tc main_v10)) = addi (subi (Terms.tL (V0 (Proc.devRef .tc main_arg1))) (Terms.tF (V0 (Proc.devRef .tc main_arg1)))) (Terms.b8 (Terms.c32 1#32)) :=
  (keep7 V0 main_v10 (by decide)).trans (val6_main_v10 V0)
theorem val7_main_c_4 (V0 : Valuation τ sig (Elt F)) : val7 V0 (no_index (Proc.devRef .tc main_c_4)) = constantI S_ 32 0#32 :=
  (keep7 V0 main_c_4 (by decide)).trans (val6_main_c_4 V0)
theorem val7_main_v11 (V0 : Valuation τ sig (Elt F)) : val7 V0 (no_index (Proc.devRef .tc main_v11)) = Terms.tCnt (V0 (Proc.devRef .tc main_arg1)) :=
  (keep7 V0 main_v11 (by decide)).trans (val6_main_v11 V0)
theorem val7_main_v12 (V0 : Valuation τ sig (Elt F)) : val7 V0 (no_index (Proc.devRef .tc main_v12)) = Terms.tTot (V0 (Proc.devRef .tc main_arg1)) := by
  unfold val7
  simp only [hostOps0_7, TRef.nullary, TRef.unary, TRef.binary, TRef.ternary, TRef.toBuf, TRef.ofBuf, cast_eq]
  after_results_simp
  all_goals (simp only [val6_main_v0, val6_main_v1, val6_main_c, val6_main_v2, val6_main_v4, val6_main_v6, val6_main_c_2, val6_main_v7, val6_main_v10, val6_main_c_4, val6_main_v11, val6_main_arg1] <;> rfl)
/-- The buffers after stretch 8. -/
def val8 (V0 : Valuation τ sig (Elt F)) : Valuation τ sig (Elt F) := after hostOps0_8 (val7 V0)
abbrev W8 : List (Ref sig .tc) := [main_call4_call0_c, main_call4_call0_v0, main_v13]
theorem writes8 : (hostOps0_8 : List (HloOp τ sig (Elt F))).Forall fun op => op.writes ⊆ (W8.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep8 (V0 : Valuation τ sig (Elt F)) (r : Ref sig .tc) (h : r ∉ W8) : val8 V0 (Proc.devRef .tc r) = (val7 V0) (Proc.devRef .tc r) :=
  after_of_writes_sub hostOps0_8 _ writes8 h
theorem val8_main_arg0 (V0 : Valuation τ sig (Elt F)) : val8 V0 (no_index (Proc.devRef .tc main_arg0)) = V0 (Proc.devRef .tc main_arg0) :=
  (keep8 V0 main_arg0 (by decide)).trans (val7_main_arg0 V0)
theorem val8_main_arg1 (V0 : Valuation τ sig (Elt F)) : val8 V0 (no_index (Proc.devRef .tc main_arg1)) = V0 (Proc.devRef .tc main_arg1) :=
  (keep8 V0 main_arg1 (by decide)).trans (val7_main_arg1 V0)
theorem val8_main_arg2 (V0 : Valuation τ sig (Elt F)) : val8 V0 (no_index (Proc.devRef .tc main_arg2)) = V0 (Proc.devRef .tc main_arg2) :=
  (keep8 V0 main_arg2 (by decide)).trans (val7_main_arg2 V0)
theorem val8_main_arg3 (V0 : Valuation τ sig (Elt F)) : val8 V0 (no_index (Proc.devRef .tc main_arg3)) = V0 (Proc.devRef .tc main_arg3) :=
  (keep8 V0 main_arg3 (by decide)).trans (val7_main_arg3 V0)
theorem val8_main_v59 (V0 : Valuation τ sig (Elt F)) : val8 V0 (no_index (Proc.devRef .tc main_v59)) = V0 (Proc.devRef .tc main_v59) :=
  (keep8 V0 main_v59 (by decide)).trans (val7_main_v59 V0)
theorem val8_main_v0 (V0 : Valuation τ sig (Elt F)) : val8 V0 (no_index (Proc.devRef .tc main_v0)) = Terms.tE (V0 (Proc.devRef .tc main_arg1)) :=
  (keep8 V0 main_v0 (by decide)).trans (val7_main_v0 V0)
theorem val8_main_v1 (V0 : Valuation τ sig (Elt F)) : val8 V0 (no_index (Proc.devRef .tc main_v1)) = Terms.tS (V0 (Proc.devRef .tc main_arg1)) :=
  (keep8 V0 main_v1 (by decide)).trans (val7_main_v1 V0)
theorem val8_main_c (V0 : Valuation τ sig (Elt F)) : val8 V0 (no_index (Proc.devRef .tc main_c)) = constantI S_ 32 512#32 :=
  (keep8 V0 main_c (by decide)).trans (val7_main_c V0)
theorem val8_main_v2 (V0 : Valuation τ sig (Elt F)) : val8 V0 (no_index (Proc.devRef .tc main_v2)) = Terms.tF (V0 (Proc.devRef .tc main_arg1)) :=
  (keep8 V0 main_v2 (by decide)).trans (val7_main_v2 V0)
theorem val8_main_v4 (V0 : Valuation τ sig (Elt F)) : val8 V0 (no_index (Proc.devRef .tc main_v4)) = cmpi .sgt (Terms.gs (V0 (Proc.devRef .tc main_arg1))) (Terms.b8 (Terms.c32 0#32)) :=
  (keep8 V0 main_v4 (by decide)).trans (val7_main_v4 V0)
theorem val8_main_v6 (V0 : Valuation τ sig (Elt F)) : val8 V0 (no_index (Proc.devRef .tc main_v6)) = subi (Terms.tE (V0 (Proc.devRef .tc main_arg1))) (Terms.b8 (Terms.c32 1#32)) :=
  (keep8 V0 main_v6 (by decide)).trans (val7_main_v6 V0)
theorem val8_main_c_2 (V0 : Valuation τ sig (Elt F)) : val8 V0 (no_index (Proc.devRef .tc main_c_2)) = constantI S_ 32 512#32 :=
  (keep8 V0 main_c_2 (by decide)).trans (val7_main_c_2 V0)
theorem val8_main_v7 (V0 : Valuation τ sig (Elt F)) : val8 V0 (no_index (Proc.devRef .tc main_v7)) = Terms.tL (V0 (Proc.devRef .tc main_arg1)) :=
  (keep8 V0 main_v7 (by decide)).trans (val7_main_v7 V0)
theorem val8_main_v10 (V0 : Valuation τ sig (Elt F)) : val8 V0 (no_index (Proc.devRef .tc main_v10)) = addi (subi (Terms.tL (V0 (Proc.devRef .tc main_arg1))) (Terms.tF (V0 (Proc.devRef .tc main_arg1)))) (Terms.b8 (Terms.c32 1#32)) :=
  (keep8 V0 main_v10 (by decide)).trans (val7_main_v10 V0)
theorem val8_main_c_4 (V0 : Valuation τ sig (Elt F)) : val8 V0 (no_index (Proc.devRef .tc main_c_4)) = constantI S_ 32 0#32 :=
  (keep8 V0 main_c_4 (by decide)).trans (val7_main_c_4 V0)
theorem val8_main_v11 (V0 : Valuation τ sig (Elt F)) : val8 V0 (no_index (Proc.devRef .tc main_v11)) = Terms.tCnt (V0 (Proc.devRef .tc main_arg1)) :=
  (keep8 V0 main_v11 (by decide)).trans (val7_main_v11 V0)
theorem val8_main_v12 (V0 : Valuation τ sig (Elt F)) : val8 V0 (no_index (Proc.devRef .tc main_v12)) = Terms.tTot (V0 (Proc.devRef .tc main_arg1)) :=
  (keep8 V0 main_v12 (by decide)).trans (val7_main_v12 V0)
theorem val8_main_v13 (V0 : Valuation τ sig (Elt F)) : val8 V0 (no_index (Proc.devRef .tc main_v13)) = Terms.tV (V0 (Proc.devRef .tc main_arg1)) := by
  unfold val8
  simp only [hostOps0_8, TRef.nullary, TRef.unary, TRef.binary, TRef.ternary, TRef.toBuf, TRef.ofBuf, cast_eq]
  after_results_simp
  all_goals (simp only [val7_main_v0, val7_main_v1, val7_main_c, val7_main_v2, val7_main_v4, val7_main_v6, val7_main_c_2, val7_main_v7, val7_main_v10, val7_main_c_4, val7_main_v11, val7_main_v12, val7_main_arg1] <;> rfl)
/-- The buffers after stretch 9. -/
def val9 (V0 : Valuation τ sig (Elt F)) : Valuation τ sig (Elt F) := after hostOps0_9 (val8 V0)
abbrev W9 : List (Ref sig .tc) := [main_v14, main_c_6, main_v15, main_v16, main_v17, main_v18, main_v19, main_v20, main_v21, main_v22, main_v23, main_c_7, main_v24, main_c_8, main_v25, main_v26, main_c_9, main_v27, main_v28, main_v29, main_v30, main_v31, main_v32, main_v33, main_c_10, main_v34, main_v35, main_c_11, main_v36, main_v37, main_v38, main_v39, main_v40, main_v41, main_c_12, main_v42, main_v43, main_c_13, main_v44, main_v45, main_v46, main_v47, main_v48, main_v49, main_v50, main_c_14, main_v51, main_v52, main_c_15, main_v53, main_v54, main_v55, main_v56, main_v57]
theorem writes9 : (hostOps0_9 : List (HloOp τ sig (Elt F))).Forall fun op => op.writes ⊆ (W9.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep9 (V0 : Valuation τ sig (Elt F)) (r : Ref sig .tc) (h : r ∉ W9) : val9 V0 (Proc.devRef .tc r) = (val8 V0) (Proc.devRef .tc r) :=
  after_of_writes_sub hostOps0_9 _ writes9 h
theorem val9_main_arg0 (V0 : Valuation τ sig (Elt F)) : val9 V0 (no_index (Proc.devRef .tc main_arg0)) = V0 (Proc.devRef .tc main_arg0) :=
  (keep9 V0 main_arg0 (by decide)).trans (val8_main_arg0 V0)
theorem val9_main_arg1 (V0 : Valuation τ sig (Elt F)) : val9 V0 (no_index (Proc.devRef .tc main_arg1)) = V0 (Proc.devRef .tc main_arg1) :=
  (keep9 V0 main_arg1 (by decide)).trans (val8_main_arg1 V0)
theorem val9_main_arg2 (V0 : Valuation τ sig (Elt F)) : val9 V0 (no_index (Proc.devRef .tc main_arg2)) = V0 (Proc.devRef .tc main_arg2) :=
  (keep9 V0 main_arg2 (by decide)).trans (val8_main_arg2 V0)
theorem val9_main_arg3 (V0 : Valuation τ sig (Elt F)) : val9 V0 (no_index (Proc.devRef .tc main_arg3)) = V0 (Proc.devRef .tc main_arg3) :=
  (keep9 V0 main_arg3 (by decide)).trans (val8_main_arg3 V0)
theorem val9_main_v59 (V0 : Valuation τ sig (Elt F)) : val9 V0 (no_index (Proc.devRef .tc main_v59)) = V0 (Proc.devRef .tc main_v59) :=
  (keep9 V0 main_v59 (by decide)).trans (val8_main_v59 V0)
theorem val9_main_v0 (V0 : Valuation τ sig (Elt F)) : val9 V0 (no_index (Proc.devRef .tc main_v0)) = Terms.tE (V0 (Proc.devRef .tc main_arg1)) :=
  (keep9 V0 main_v0 (by decide)).trans (val8_main_v0 V0)
theorem val9_main_v1 (V0 : Valuation τ sig (Elt F)) : val9 V0 (no_index (Proc.devRef .tc main_v1)) = Terms.tS (V0 (Proc.devRef .tc main_arg1)) :=
  (keep9 V0 main_v1 (by decide)).trans (val8_main_v1 V0)
theorem val9_main_c (V0 : Valuation τ sig (Elt F)) : val9 V0 (no_index (Proc.devRef .tc main_c)) = constantI S_ 32 512#32 :=
  (keep9 V0 main_c (by decide)).trans (val8_main_c V0)
theorem val9_main_v2 (V0 : Valuation τ sig (Elt F)) : val9 V0 (no_index (Proc.devRef .tc main_v2)) = Terms.tF (V0 (Proc.devRef .tc main_arg1)) :=
  (keep9 V0 main_v2 (by decide)).trans (val8_main_v2 V0)
theorem val9_main_v4 (V0 : Valuation τ sig (Elt F)) : val9 V0 (no_index (Proc.devRef .tc main_v4)) = cmpi .sgt (Terms.gs (V0 (Proc.devRef .tc main_arg1))) (Terms.b8 (Terms.c32 0#32)) :=
  (keep9 V0 main_v4 (by decide)).trans (val8_main_v4 V0)
theorem val9_main_v6 (V0 : Valuation τ sig (Elt F)) : val9 V0 (no_index (Proc.devRef .tc main_v6)) = subi (Terms.tE (V0 (Proc.devRef .tc main_arg1))) (Terms.b8 (Terms.c32 1#32)) :=
  (keep9 V0 main_v6 (by decide)).trans (val8_main_v6 V0)
theorem val9_main_c_2 (V0 : Valuation τ sig (Elt F)) : val9 V0 (no_index (Proc.devRef .tc main_c_2)) = constantI S_ 32 512#32 :=
  (keep9 V0 main_c_2 (by decide)).trans (val8_main_c_2 V0)
theorem val9_main_v7 (V0 : Valuation τ sig (Elt F)) : val9 V0 (no_index (Proc.devRef .tc main_v7)) = Terms.tL (V0 (Proc.devRef .tc main_arg1)) :=
  (keep9 V0 main_v7 (by decide)).trans (val8_main_v7 V0)
theorem val9_main_v10 (V0 : Valuation τ sig (Elt F)) : val9 V0 (no_index (Proc.devRef .tc main_v10)) = addi (subi (Terms.tL (V0 (Proc.devRef .tc main_arg1))) (Terms.tF (V0 (Proc.devRef .tc main_arg1)))) (Terms.b8 (Terms.c32 1#32)) :=
  (keep9 V0 main_v10 (by decide)).trans (val8_main_v10 V0)
theorem val9_main_c_4 (V0 : Valuation τ sig (Elt F)) : val9 V0 (no_index (Proc.devRef .tc main_c_4)) = constantI S_ 32 0#32 :=
  (keep9 V0 main_c_4 (by decide)).trans (val8_main_c_4 V0)
theorem val9_main_v11 (V0 : Valuation τ sig (Elt F)) : val9 V0 (no_index (Proc.devRef .tc main_v11)) = Terms.tCnt (V0 (Proc.devRef .tc main_arg1)) :=
  (keep9 V0 main_v11 (by decide)).trans (val8_main_v11 V0)
theorem val9_main_v12 (V0 : Valuation τ sig (Elt F)) : val9 V0 (no_index (Proc.devRef .tc main_v12)) = Terms.tTot (V0 (Proc.devRef .tc main_arg1)) :=
  (keep9 V0 main_v12 (by decide)).trans (val8_main_v12 V0)
theorem val9_main_v13 (V0 : Valuation τ sig (Elt F)) : val9 V0 (no_index (Proc.devRef .tc main_v13)) = Terms.tV (V0 (Proc.devRef .tc main_arg1)) :=
  (keep9 V0 main_v13 (by decide)).trans (val8_main_v13 V0)
theorem val9_main_v24 (V0 : Valuation τ sig (Elt F)) : val9 V0 (no_index (Proc.devRef .tc main_v24)) = Terms.tEx (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v41 (V0 : Valuation τ sig (Elt F)) : val9 V0 (no_index (Proc.devRef .tc main_v41)) = Terms.tTile (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v48 (V0 : Valuation τ sig (Elt F)) : val9 V0 (no_index (Proc.devRef .tc main_v48)) = Terms.tLo (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v57 (V0 : Valuation τ sig (Elt F)) : val9 V0 (no_index (Proc.devRef .tc main_v57)) = Terms.tHiE (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
theorem val9_main_v50 (V0 : Valuation τ sig (Elt F)) : val9 V0 (no_index (Proc.devRef .tc main_v50)) = Terms.tIn (V0 (Proc.devRef .tc main_arg1)) := by
  unfold val9
  simp only [hostOps0_9, TRef.nullary, TRef.unary, TRef.binary, TRef.ternary, TRef.toBuf, TRef.ofBuf, cast_eq]
  after_results_simp
  all_goals (simp only [val8_main_v0, val8_main_v1, val8_main_c, val8_main_v2, val8_main_v4, val8_main_v6, val8_main_c_2, val8_main_v7, val8_main_v10, val8_main_c_4, val8_main_v11, val8_main_v12, val8_main_v13, val8_main_arg1] <;> rfl)
/-- The buffers after stretch 10. -/
def val10 (V0 : Valuation τ sig (Elt F)) : Valuation τ sig (Elt F) := after hostOps0_10 (val9 V0)
abbrev W10 : List (Ref sig .tc) := [main_v58]
theorem writes10 : (hostOps0_10 : List (HloOp τ sig (Elt F))).Forall fun op => op.writes ⊆ (W10.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)
theorem keep10 (V0 : Valuation τ sig (Elt F)) (r : Ref sig .tc) (h : r ∉ W10) : val10 V0 (Proc.devRef .tc r) = (val9 V0) (Proc.devRef .tc r) :=
  after_of_writes_sub hostOps0_10 _ writes10 h
theorem val10_main_arg0 (V0 : Valuation τ sig (Elt F)) : val10 V0 (no_index (Proc.devRef .tc main_arg0)) = V0 (Proc.devRef .tc main_arg0) :=
  (keep10 V0 main_arg0 (by decide)).trans (val9_main_arg0 V0)
theorem val10_main_arg1 (V0 : Valuation τ sig (Elt F)) : val10 V0 (no_index (Proc.devRef .tc main_arg1)) = V0 (Proc.devRef .tc main_arg1) :=
  (keep10 V0 main_arg1 (by decide)).trans (val9_main_arg1 V0)
theorem val10_main_arg2 (V0 : Valuation τ sig (Elt F)) : val10 V0 (no_index (Proc.devRef .tc main_arg2)) = V0 (Proc.devRef .tc main_arg2) :=
  (keep10 V0 main_arg2 (by decide)).trans (val9_main_arg2 V0)
theorem val10_main_arg3 (V0 : Valuation τ sig (Elt F)) : val10 V0 (no_index (Proc.devRef .tc main_arg3)) = V0 (Proc.devRef .tc main_arg3) :=
  (keep10 V0 main_arg3 (by decide)).trans (val9_main_arg3 V0)
theorem val10_main_v59 (V0 : Valuation τ sig (Elt F)) : val10 V0 (no_index (Proc.devRef .tc main_v59)) = V0 (Proc.devRef .tc main_v59) :=
  (keep10 V0 main_v59 (by decide)).trans (val9_main_v59 V0)
theorem val10_main_v0 (V0 : Valuation τ sig (Elt F)) : val10 V0 (no_index (Proc.devRef .tc main_v0)) = Terms.tE (V0 (Proc.devRef .tc main_arg1)) :=
  (keep10 V0 main_v0 (by decide)).trans (val9_main_v0 V0)
theorem val10_main_v1 (V0 : Valuation τ sig (Elt F)) : val10 V0 (no_index (Proc.devRef .tc main_v1)) = Terms.tS (V0 (Proc.devRef .tc main_arg1)) :=
  (keep10 V0 main_v1 (by decide)).trans (val9_main_v1 V0)
theorem val10_main_c (V0 : Valuation τ sig (Elt F)) : val10 V0 (no_index (Proc.devRef .tc main_c)) = constantI S_ 32 512#32 :=
  (keep10 V0 main_c (by decide)).trans (val9_main_c V0)
theorem val10_main_v2 (V0 : Valuation τ sig (Elt F)) : val10 V0 (no_index (Proc.devRef .tc main_v2)) = Terms.tF (V0 (Proc.devRef .tc main_arg1)) :=
  (keep10 V0 main_v2 (by decide)).trans (val9_main_v2 V0)
theorem val10_main_v4 (V0 : Valuation τ sig (Elt F)) : val10 V0 (no_index (Proc.devRef .tc main_v4)) = cmpi .sgt (Terms.gs (V0 (Proc.devRef .tc main_arg1))) (Terms.b8 (Terms.c32 0#32)) :=
  (keep10 V0 main_v4 (by decide)).trans (val9_main_v4 V0)
theorem val10_main_v6 (V0 : Valuation τ sig (Elt F)) : val10 V0 (no_index (Proc.devRef .tc main_v6)) = subi (Terms.tE (V0 (Proc.devRef .tc main_arg1))) (Terms.b8 (Terms.c32 1#32)) :=
  (keep10 V0 main_v6 (by decide)).trans (val9_main_v6 V0)
theorem val10_main_c_2 (V0 : Valuation τ sig (Elt F)) : val10 V0 (no_index (Proc.devRef .tc main_c_2)) = constantI S_ 32 512#32 :=
  (keep10 V0 main_c_2 (by decide)).trans (val9_main_c_2 V0)
theorem val10_main_v7 (V0 : Valuation τ sig (Elt F)) : val10 V0 (no_index (Proc.devRef .tc main_v7)) = Terms.tL (V0 (Proc.devRef .tc main_arg1)) :=
  (keep10 V0 main_v7 (by decide)).trans (val9_main_v7 V0)
theorem val10_main_v10 (V0 : Valuation τ sig (Elt F)) : val10 V0 (no_index (Proc.devRef .tc main_v10)) = addi (subi (Terms.tL (V0 (Proc.devRef .tc main_arg1))) (Terms.tF (V0 (Proc.devRef .tc main_arg1)))) (Terms.b8 (Terms.c32 1#32)) :=
  (keep10 V0 main_v10 (by decide)).trans (val9_main_v10 V0)
theorem val10_main_c_4 (V0 : Valuation τ sig (Elt F)) : val10 V0 (no_index (Proc.devRef .tc main_c_4)) = constantI S_ 32 0#32 :=
  (keep10 V0 main_c_4 (by decide)).trans (val9_main_c_4 V0)
theorem val10_main_v11 (V0 : Valuation τ sig (Elt F)) : val10 V0 (no_index (Proc.devRef .tc main_v11)) = Terms.tCnt (V0 (Proc.devRef .tc main_arg1)) :=
  (keep10 V0 main_v11 (by decide)).trans (val9_main_v11 V0)
theorem val10_main_v12 (V0 : Valuation τ sig (Elt F)) : val10 V0 (no_index (Proc.devRef .tc main_v12)) = Terms.tTot (V0 (Proc.devRef .tc main_arg1)) :=
  (keep10 V0 main_v12 (by decide)).trans (val9_main_v12 V0)
theorem val10_main_v13 (V0 : Valuation τ sig (Elt F)) : val10 V0 (no_index (Proc.devRef .tc main_v13)) = Terms.tV (V0 (Proc.devRef .tc main_arg1)) :=
  (keep10 V0 main_v13 (by decide)).trans (val9_main_v13 V0)
theorem val10_main_v24 (V0 : Valuation τ sig (Elt F)) : val10 V0 (no_index (Proc.devRef .tc main_v24)) = Terms.tEx (V0 (Proc.devRef .tc main_arg1)) :=
  (keep10 V0 main_v24 (by decide)).trans (val9_main_v24 V0)
theorem val10_main_v41 (V0 : Valuation τ sig (Elt F)) : val10 V0 (no_index (Proc.devRef .tc main_v41)) = Terms.tTile (V0 (Proc.devRef .tc main_arg1)) :=
  (keep10 V0 main_v41 (by decide)).trans (val9_main_v41 V0)
theorem val10_main_v48 (V0 : Valuation τ sig (Elt F)) : val10 V0 (no_index (Proc.devRef .tc main_v48)) = Terms.tLo (V0 (Proc.devRef .tc main_arg1)) :=
  (keep10 V0 main_v48 (by decide)).trans (val9_main_v48 V0)
theorem val10_main_v57 (V0 : Valuation τ sig (Elt F)) : val10 V0 (no_index (Proc.devRef .tc main_v57)) = Terms.tHiE (V0 (Proc.devRef .tc main_arg1)) :=
  (keep10 V0 main_v57 (by decide)).trans (val9_main_v57 V0)
theorem val10_main_v50 (V0 : Valuation τ sig (Elt F)) : val10 V0 (no_index (Proc.devRef .tc main_v50)) = Terms.tIn (V0 (Proc.devRef .tc main_arg1)) :=
  (keep10 V0 main_v50 (by decide)).trans (val9_main_v50 V0)
theorem val10_main_v58 (V0 : Valuation τ sig (Elt F)) : val10 V0 (no_index (Proc.devRef .tc main_v58)) = Terms.tHi (V0 (Proc.devRef .tc main_arg1)) := by
  unfold val10
  simp only [hostOps0_10, TRef.nullary, TRef.unary, TRef.binary, TRef.ternary, TRef.toBuf, TRef.ofBuf, cast_eq]
  after_results_simp
  all_goals (simp only [val9_main_v0, val9_main_v1, val9_main_c, val9_main_v2, val9_main_v4, val9_main_v6, val9_main_c_2, val9_main_v7, val9_main_v10, val9_main_c_4, val9_main_v11, val9_main_v12, val9_main_v13, val9_main_v24, val9_main_v41, val9_main_v48, val9_main_v57, val9_main_v50, val9_main_arg1] <;> rfl)

theorem after_eq (V0 : Valuation τ sig (Elt F)) : after ([hostOps0, hostOps0_1, hostOps0_2, hostOps0_3, hostOps0_4, hostOps0_5, hostOps0_6, hostOps0_7, hostOps0_8, hostOps0_9, hostOps0_10] : List (List (HloOp τ sig (Elt F)))).flatten V0 = val10 V0 := by
  simp only [List.flatten_cons, List.flatten_nil, after_append, after_nil]; rfl

end Cert.Kernel.Host
-- ==== Proof.FrameBits.lean ====
module

public import proofs.«01_k».proof.Proof.RunBits
public import proofs.«01_k».proof.Proof.HostBits
public import proofs.«01_k».proof.Proof.PreDecode
public import Idealize.ShloMosaic.Lib.PairWhole
public import Idealize.ShloMosaic.Lib.Pipeline.ArrRel

/-! The four tables the kernel reads, their blocks, and the frame: every run ends, with the arguments as they were. -/

@[expose] public section

set_option maxRecDepth 100000
noncomputable section
namespace Cert.Kernel.Gen

open Idealize.ShloMosaic Idealize.ShloMosaic.TcCoe Idealize.ShloMosaic.Routing Idealize.ShloMosaic.ValueIdx
open Idealize.SL Idealize.SL.Sem
open Cert.Kernel Facts₀ Facts

variable {F : FTy → Type} [FloatOps F]

/-- The tables' contents, of the group sizes. -/
def pfOf (gs : IVec S8 32) : pre0.Contents (Elt F)
  | 0 => Terms.tTile gs
  | 1 => Terms.tEx gs
  | 2 => Terms.tLo gs
  | 3 => Terms.tHi gs
  | ⟨_ + 4, h⟩ => absurd h (Nat.not_lt.2 (Nat.le_add_left _ _))

theorem at_idx (i : grid0.Coords) : (Rect.unit (s := S71) ![(Scalar.indexCast (BitVec.ofNat 32 (i 0).val)).toNat] S1.size (k0_off1_inb i)).emb (Shape.Idx.first (numel1_S1.symm ▸ Nat.one_pos)) = ix1 (i 0) := by
  funext a
  apply Fin.ext
  have h : (i 0).val < 71 := (i 0).isLt
  obtain rfl : a = 0 := Subsingleton.elim _ _
  have e1 : ((Scalar.indexCast (BitVec.ofNat 32 (i 0).val)).toNat) = (i 0).val := by
    unfold Scalar.indexCast; simp; omega
  refine (Rect.emb_apply _ _ _).trans ?_
  show (Scalar.indexCast (BitVec.ofNat 32 (i 0).val)).toNat + 1 * ((Shape.Idx.first (numel1_S1.symm ▸ Nat.one_pos) : S1.Idx) 0).val = (i 0).val
  have e2 : ((Shape.Idx.first (numel1_S1.symm ▸ Nat.one_pos) : S1.Idx) 0).val = 0 := Nat.lt_one_iff.1 (Fin.isLt _)
  rw [e2, e1]; rfl

section
variable {gs : IVec S8 32} {G : Nat → Nat} (hg : ∀ i : Fin 8, gs (ix1 i) = BitVec.ofNat 32 (G i.val)) (hG : Visits.E G 7 = 32768)
include hg hG

theorem tr0 (i : grid0.Coords) : cc0_transform_0 k0_off1_inb numel1_S1 (pfOf (F := F) gs) i = ![Visits.ti G (i 0).val, 0] := by
  have h1 : (i 0).val < 71 := (i 0).isLt
  have h2 := Visits.ti_lt hG (i 0).val
  refine (congrArg (fun v : BitVec 32 => ![v.toNat, 0]) ((congrArg (Terms.tTile gs) (at_idx i)).trans (Terms.tTile_ap hg hG (i 0)))).trans ?_
  show ![(BitVec.ofNat 32 (Visits.ti G (i 0).val)).toNat, 0] = _
  rw [BitVec.toNat_ofNat, Nat.mod_eq_of_lt (by omega)]
theorem tr3 (i : grid0.Coords) : cc0_transform_3 k0_off1_inb numel1_S1 (pfOf (F := F) gs) i = ![Visits.ti G (i 0).val, 0] := tr0 hg hG i
theorem tr1 (i : grid0.Coords) : cc0_transform_1 k0_off1_inb numel1_S1 (pfOf (F := F) gs) i = ![Visits.ex G (i 0).val, 0, 0] := by
  have h1 : (i 0).val < 71 := (i 0).isLt
  have h2 := (Visits.ex_spec hG (i 0).val).1
  refine (congrArg (fun v : BitVec 32 => ![v.toNat, 0, 0]) ((congrArg (Terms.tEx gs) (at_idx i)).trans (Terms.tEx_ap hg hG (i 0)))).trans ?_
  show ![(BitVec.ofNat 32 (Visits.ex G (i 0).val)).toNat, 0, 0] = _
  rw [BitVec.toNat_ofNat, Nat.mod_eq_of_lt (by omega)]
theorem tr2 (i : grid0.Coords) : cc0_transform_2 k0_off1_inb numel1_S1 (pfOf (F := F) gs) i = ![Visits.ex G (i 0).val, 0, 0] := tr1 hg hG i

/-- Every block of every window lies inside its array and moves whole words. -/
theorem ok_pf : ok0 (pfOf (F := F) gs) := by
  refine ⟨fun i => ?_, fun i => ?_, fun i => ?_, fun i => ?_⟩
  · have h2 := Visits.ti_lt hG (i 0).val
    refine ⟨fun a => ?_, .inr (.inl (Rect.packedRows_of_rowAxis _ _ (le_refl 2) ?_ ?_ rfl))⟩
    · rw [tr0 hg hG]
      match a with
      | 0 => show (Visits.ti G (i 0).val + 1) * 512 ≤ 32768; omega
      | 1 => show (0 + 1) * 2048 ≤ 2048; omega
    · exact Dvd.dvd.mul_left (show 2 ∣ 512 from ⟨256, rfl⟩) _
    · exact (show 2 ∣ 512 from ⟨256, rfl⟩)
  · have h2 := (Visits.ex_spec hG (i 0).val).1
    refine ⟨fun a => ?_, .inr (.inr ⟨(by decide : 2 ≤ 3), rfl, ?_, rfl⟩)⟩
    · rw [tr1 hg hG]
      match a with
      | 0 => show (Visits.ex G (i 0).val + 1) * 1 ≤ 8; omega
      | 1 => show (0 + 1) * 1024 ≤ 1024; omega
      | 2 => show (0 + 1) * 6144 ≤ 6144; omega
    · show cc0_transform_1 k0_off1_inb numel1_S1 (pfOf (F := F) gs) i 1 * 1024 = 0
      rw [tr1 hg hG]; rfl
  · have h2 := (Visits.ex_spec hG (i 0).val).1
    refine ⟨fun a => ?_, .inr (.inr ⟨(by decide : 2 ≤ 3), rfl, ?_, rfl⟩)⟩
    · rw [tr2 hg hG]
      match a with
      | 0 => show (Visits.ex G (i 0).val + 1) * 1 ≤ 8; omega
      | 1 => show (0 + 1) * 64 ≤ 64; omega
      | 2 => show (0 + 1) * 6144 ≤ 6144; omega
    · show cc0_transform_2 k0_off1_inb numel1_S1 (pfOf (F := F) gs) i 1 * 64 = 0
      rw [tr2 hg hG]; rfl
  · have h2 := Visits.ti_lt hG (i 0).val
    refine ⟨fun a => ?_, .inr (.inl (Rect.packedRows_of_rowAxis _ _ (le_refl 2) ?_ ?_ rfl))⟩
    · rw [tr3 hg hG]
      match a with
      | 0 => show (Visits.ti G (i 0).val + 1) * 512 ≤ 32768; omega
      | 1 => show (0 + 1) * 6144 ≤ 6144; omega
    · exact Dvd.dvd.mul_left (show 2 ∣ 512 from ⟨256, rfl⟩) _
    · exact (show 2 ∣ 512 from ⟨256, rfl⟩)
end

variable (m : (ℓ : Loc nD τ sig) → Buf (Elt F) ℓ)

/-- The group sizes in a memory. -/
abbrev gsOf (c : Dev nD) : IVec S8 32 := m ((c.tc : Thread nD τ).loc main_arg1)

theorem V_eq (c : Dev nD) (b : Ref sig .tc) : V m c b = Host.val10 (fun b => m (c, b)) b := by
  unfold V opss; rw [Host.after_eq]

theorem V_tables (c : Dev nD) (k : Fin 4) : V m c (pre0.ref k) = pfOf (gsOf m c) k := by
  rw [V_eq]
  match k with
  | 0 => exact Host.val10_main_v41 _
  | 1 => exact Host.val10_main_v24 _
  | 2 => exact Host.val10_main_v48 _
  | 3 => exact Host.val10_main_v58 _
  | ⟨_ + 4, h⟩ => exact absurd h (Nat.not_lt.2 (Nat.le_add_left _ _))

theorem V_arg0 (c : Dev nD) : V m c main_arg0 = m ((c.tc : Thread nD τ).loc main_arg0) := by rw [V_eq]; exact Host.val10_main_arg0 _
theorem V_arg1 (c : Dev nD) : V m c main_arg1 = m ((c.tc : Thread nD τ).loc main_arg1) := by rw [V_eq]; exact Host.val10_main_arg1 _
theorem V_arg2 (c : Dev nD) : V m c main_arg2 = m ((c.tc : Thread nD τ).loc main_arg2) := by rw [V_eq]; exact Host.val10_main_arg2 _
theorem V_arg3 (c : Dev nD) : V m c main_arg3 = m ((c.tc : Thread nD τ).loc main_arg3) := by rw [V_eq]; exact Host.val10_main_arg3 _

theorem tables_one (k : Fin 4) (c c' : Dev nD) : c = c' := Subsingleton.elim _ _

attribute [local irreducible] V in
/-- The arguments after a run whose post is the launch's are as they were. -/
theorem args_of_post {pf : pre0.Contents (Elt F)} {hok : ok0 pf} {J : Fin (grid0.N + 1) → C9 F → C10 F → C11 F → Prop}
    {R : Fin grid0.N → (Y X : S512x6144.Idx → Elt F .bf16) → Prop} {r : PUnit × MemSt nD τ sig (Elt F)}
    (h : Pipeline.RDat.FramePost (Pipeline.pin pcfgs (adm pf hok) 0) (fun c => rdat pf hok c (fun w => V m c (Pipeline.arrRef spec0 w)) J R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h0 : r.2.mem ((c.tc : Thread nD τ).loc main_arg0) = V m c main_arg0 := h.arr_in c 0 rfl
  have h2 : r.2.mem ((c.tc : Thread nD τ).loc main_arg2) = V m c main_arg2 := h.arr_in c 1 rfl
  have h3 : r.2.mem ((c.tc : Thread nD τ).loc main_arg3) = V m c main_arg3 := h.arr_in c 2 rfl
  have hne : ∀ w, (spec0 w).arr.view.ref ≠ main_arg1 := fun w => by match w with | 0 => decide | 1 => decide | 2 => decide | 3 => decide
  have h1 := (h c).2 main_arg1 (Pipeline.mem_restRefs_of (win := spec0) main_arg1 rfl hne)
  exact ⟨h0.trans (V_arg0 m c), h1.trans (V_arg1 m c), h2.trans (V_arg2 m c), h3.trans (V_arg3 m c)⟩

/-- Every run of the program ends with its arguments as they were and no semaphore raised. -/
theorem frame (g : Dev nD → PrngReg) (hE : ∀ c, Visits.E (PreDecode.sizes (gsOf m c)) 7 = 32768) :
    θ_run (Pipeline.defs (pcfgs (F := F)) defs₀) (onTc main) ⟨m, fun _ => 0, g⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  let c₀ : Dev nD := 0
  have hok : ok0 (pfOf (F := F) (gsOf m c₀)) := ok_pf (PreDecode.sizes_word _) (hE c₀)
  have hpf : ∀ c k, V m c (pre0.ref k) = pfOf (gsOf m c₀) k := fun c k => by
    obtain rfl : c = c₀ := Subsingleton.elim _ _
    exact V_tables m c₀ k
  have h := run_launch Variants.none m g (pfOf (gsOf m c₀)) hok hpf (fun _ _ _ _ => True) (fun _ _ _ => trivial) (fun _ _ _ => True)
    (fun c => by intro D; unfold StepOK; intros; exact ⟨trivial, trivial⟩)
  exact (θ_run _ _ _).mono (fun r hr => ⟨fun c => args_of_post m hr.1 c, hr.2⟩) h
end Cert.Kernel.Gen
-- ==== Proof.SlabIdeal.lean ====
module

public import Idealize.ShloMosaic.Lib.ValueIdx
public import Idealize.ShloMosaic.Lib.ValueLayout
public import Idealize.ShloMosaic.Lib.WordCmp
public import Idealize.ShloMosaic.Lib.BitcastFour
public import Idealize.ShloMosaic.Lib.Pipeline.Value
public import proofs.«01_k».proof.Proof.Gen.KernelIdeal.Loops

/-! The decoding of one slab of packed weights: four bytes of a column read as one word, the half bytes moved
to where an eight-bit float keeps its sign and its value, and the exponent byte of the scale moved to where
a sixteen-bit float keeps its exponent. Read at one entry, the result depends on one byte of each input. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

/-- The eight-bit float of a half byte: its sign bit on top, its other three bits at bits 4, 3 and 2. -/
def nibByte (b3 b2 b1 b0 : Bool) : BitVec 8 :=
  (if b3 then 128#8 else 0#8) ||| ((if b2 then 16#8 else 0#8) ||| ((if b1 then 8#8 else 0#8) ||| (if b0 then 4#8 else 0#8)))

theorem nibByte_bits (b3 b2 b1 b0 : Bool) : ∀ q < 8, (nibByte b3 b2 b1 b0).getLsbD q
    = if q = 7 then b3 else if q = 4 then b2 else if q = 3 then b1 else if q = 2 then b0 else false := by
  intro q hq
  cases b3 <;> cases b2 <;> cases b1 <;> cases b0 <;> interval_cases q <;> rfl

/-- The value of the half byte of `b` that starts at bit `o`. -/
def dec (b : BitVec 8) (o : ℕ) : EReal :=
  Ideal.ofBits .fp8e4m3 (nibByte (b.getLsbD (o + 3)) (b.getLsbD (o + 2)) (b.getLsbD (o + 1)) (b.getLsbD o)) * Ideal.ofBits .bf16 0x4280#16

/-- The value of a scale byte. -/
def scl (b : BitVec 8) : EReal := Ideal.ofBits .bf16 (b.setWidth 16 <<< 7)

/-- A word of scales read at sixteen bits: both halves are the byte moved up by seven. -/
theorem scale_half (b : BitVec 8) (z : S1x6144.Idx → BitVec 32) (r : Fin 32) (n : Fin 6144)
    (hz : z (ix2 0 n) = (b.setWidth 32 <<< 7) ||| (b.setWidth 32 <<< 23)) :
    bitcast S32x6144 16 (broadcastTo S16x6144 z broadcasts_S1x6144_S16x6144) bitcasts_S16x6144_w32_S32x6144_w16 (ix2 r n)
      = b.setWidth 16 <<< 7 := by
  apply BitVec.eq_of_getLsbD_eq
  intro q hq
  rw [bitcast_getLsbD _ _ _ q hq (by decide)]
  have hsrc : ∀ (p : ℕ) (hp) , bitcasts_S16x6144_w32_S32x6144_w16.srcIdx (ix2 r n) p hp
      = ix2 (⟨p, hp ⟨0, Nat.zero_lt_two⟩ rfl⟩ : Fin 16) n := by
    intro p hp
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [hsrc, show broadcastTo S16x6144 z broadcasts_S1x6144_S16x6144 (ix2 _ n) = z (ix2 0 n) from broadcastTo_1b_ab_apply _ _ _ _, hz]
  have hrow : S32x6144.row (ix2 r n) = r.val := rfl
  rw [hrow]
  have h2 : (r.val * 16 + q) % 32 = q ∨ (r.val * 16 + q) % 32 = q + 16 := by omega
  have past (i : ℕ) (h : 8 ≤ i) : b.getLsbD i = false := BitVec.getLsbD_of_ge b i h
  rcases h2 with h2 | h2 <;> rw [h2] <;>
    simp only [BitVec.getLsbD_or, BitVec.getLsbD_shiftLeft, BitVec.getLsbD_setWidth] <;> interval_cases q <;> simp [past]

/-- The words of a slab after the masks, read at eight bits, given the words before the masks. -/
theorem nib_byte (z : S8x6144.Idx → BitVec 32) (r : Fin 32) (n : Fin 6144) (bits : ℕ → Bool)
    (h3 : (z (ix2 ⟨r.val / 4, by omega⟩ n)).getLsbD (8 * (r.val % 4) + 7) = bits 3)
    (hb : ∀ i < 3, (z (ix2 ⟨r.val / 4, by omega⟩ n)).getLsbD (8 * (r.val % 4) + 4 + i) = bits i) :
    bitcast S32x6144 8 (ori (andi z (broadcast S8x6144 2155905152#32)) (andi (shrsi z (broadcast S8x6144 2#32)) (broadcast S8x6144 471604252#32)))
        bitcasts_S8x6144_w32_S32x6144_w8 (ix2 r n)
      = nibByte (bits 3) (bits 2) (bits 1) (bits 0) := by
  apply BitVec.eq_of_getLsbD_eq
  intro q hq
  rw [bitcast_getLsbD _ _ _ q hq (by decide), nibByte_bits _ _ _ _ q hq]
  have hsrc : ∀ (p : ℕ) (hp) , bitcasts_S8x6144_w32_S32x6144_w8.srcIdx (ix2 r n) p hp
      = ix2 (⟨p, hp ⟨0, Nat.zero_lt_two⟩ rfl⟩ : Fin 8) n := by
    intro p hp
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [hsrc]
  have hrow : S32x6144.row (ix2 r n) = r.val := rfl
  have hj : (⟨(S32x6144.row (ix2 r n) * 8 + q) / 32, by rw [hrow]; omega⟩ : Fin 8) = ⟨r.val / 4, by omega⟩ := by
    apply Fin.ext; show (S32x6144.row (ix2 r n) * 8 + q) / 32 = r.val / 4; rw [hrow]; omega
  rw [hj]
  have hm : (S32x6144.row (ix2 r n) * 8 + q) % 32 = 8 * (r.val % 4) + q := by rw [hrow]; omega
  rw [hm]
  generalize hw : z (ix2 ⟨r.val / 4, by omega⟩ n) = w at h3 hb
  show (IntOp.ori (IntOp.andi (z _) 2155905152#32) (IntOp.andi (IntOp.shrsi .vector (z _) 2#32) 471604252#32)).getLsbD _ = _
  rw [hw]
  have hsh : IntOp.shrsi .vector w 2#32 = w.sshiftRight 2 := rfl
  rw [hsh]
  show ((w &&& 2155905152#32) ||| (w.sshiftRight 2 &&& 471604252#32)).getLsbD _ = _
  have ht : r.val % 4 < 4 := by omega
  have h0 := hb 0 (by omega)
  have h1 := hb 1 (by omega)
  have h2 := hb 2 (by omega)
  generalize r.val % 4 = t at ht h3 h0 h1 h2
  clear hb hw hsh hm hj hsrc hrow
  rw [BitVec.getLsbD_or, BitVec.getLsbD_and, BitVec.getLsbD_and, BitVec.getLsbD_sshiftRight]
  interval_cases t <;> interval_cases q <;> simp_all

/-- The packed words before the masks, bit by bit. -/
theorem pay6_bit (v : Vec Ideal S1x32x6144 .i8) (r : Fin 32) (n : Fin 6144) (i : ℕ) (hi : i < 8) :
    (k0_pay6 (F := Ideal) v (ix2 ⟨r.val / 4, by omega⟩ n)).getLsbD (8 * (r.val % 4) + i) = (v (ix3 0 r n)).getLsbD i := by
  have h := bitcast_8_32_getLsbD_ix2 (R := 32) (r := 8) (n := 6144) (shapeCast S32x6144 v shapeCasts_S1x32x6144_S32x6144)
    bitcasts_S32x6144_w8_S8x6144_w32 ⟨r.val / 4, by omega⟩ n (8 * (r.val % 4) + i) (by omega) r (by show r.val = 4 * (r.val / 4) + (8 * (r.val % 4) + i) / 8; omega)
  have e : k0_pay6 (F := Ideal) v = bitcast S8x6144 32 (shapeCast S32x6144 v shapeCasts_S1x32x6144_S32x6144) bitcasts_S32x6144_w8_S8x6144_w32 := rfl
  rw [e]
  refine Eq.trans h ?_
  rw [show (8 * (r.val % 4) + i) % 8 = i by omega]
  exact congrArg (fun b : BitVec 8 => b.getLsbD i) (shapeCast_1ab_ab_apply v shapeCasts_S1x32x6144_S32x6144 r n)

/-- The low half bytes of a slab, decoded and scaled. -/
theorem pay8_at (v : Vec Ideal S1x32x6144 .i8) (s : Vec Ideal S1x6144 .i32) (r : Fin 32) (n : Fin 6144) (b : BitVec 8)
    (hs : s (ix2 0 n) = (b.setWidth 32 <<< 7) ||| (b.setWidth 32 <<< 23)) :
    k0_pay8 (F := Ideal) v s (ix2 r n) = dec (v (ix3 0 r n)) 0 * scl b := by
  have hn := nib_byte (shli (k0_pay6 (F := Ideal) v) (broadcast S8x6144 4#32)) r n (fun i => (v (ix3 0 r n)).getLsbD i) (by
      show (IntOp.shli .vector (k0_pay6 (F := Ideal) v _) 4#32).getLsbD _ = _
      rw [show ∀ w : BitVec 32, IntOp.shli .vector w 4#32 = w <<< 4 from fun _ => rfl, BitVec.getLsbD_shiftLeft, ← pay6_bit v r n 3 (by omega)]
      have : 8 * (r.val % 4) + 7 < 32 := by omega
      simp [this, show ¬ 8 * (r.val % 4) + 7 < 4 by omega, show 8 * (r.val % 4) + 7 - 4 = 8 * (r.val % 4) + 3 by omega]) (by
      intro i hi
      show (IntOp.shli .vector (k0_pay6 (F := Ideal) v _) 4#32).getLsbD _ = _
      rw [show ∀ w : BitVec 32, IntOp.shli .vector w 4#32 = w <<< 4 from fun _ => rfl, BitVec.getLsbD_shiftLeft, ← pay6_bit v r n i (by omega)]
      have : 8 * (r.val % 4) + 4 + i < 32 := by omega
      simp [this, show ¬ 8 * (r.val % 4) + 4 + i < 4 by omega, show 8 * (r.val % 4) + 4 + i - 4 = 8 * (r.val % 4) + i by omega])
  have hsc := scale_half b (shapeCast S1x6144 s shapeCasts_S1x6144_S1x6144) r n (by rw [shapeCast_self]; exact hs)
  unfold k0_pay8
  rw [shapeCast_self]
  exact congrArg₂ (fun a b => Ideal.ofBits .fp8e4m3 a * Ideal.ofBits .bf16 0x4280#16 * Ideal.ofBits .bf16 b) hn hsc

/-- The high half bytes of a slab, decoded and scaled. -/
theorem pay2_at (v : Vec Ideal S1x32x6144 .i8) (s : Vec Ideal S1x6144 .i32) (r : Fin 32) (n : Fin 6144) (b : BitVec 8)
    (hs : s (ix2 0 n) = (b.setWidth 32 <<< 7) ||| (b.setWidth 32 <<< 23)) :
    k0_pay2 (F := Ideal) (k0_pay7 v) (k0_pay9 s) (ix2 r n) = dec (v (ix3 0 r n)) 4 * scl b := by
  have hn := nib_byte (k0_pay6 (F := Ideal) v) r n (fun i => (v (ix3 0 r n)).getLsbD (4 + i))
    (pay6_bit v r n 7 (by omega)) (fun i hi => by rw [Nat.add_assoc]; exact pay6_bit v r n (4 + i) (by omega))
  have hsc := scale_half b (shapeCast S1x6144 s shapeCasts_S1x6144_S1x6144) r n (by rw [shapeCast_self]; exact hs)
  unfold k0_pay2 k0_pay7 k0_pay9
  rw [shapeCast_self]
  exact congrArg₂ (fun a b => Ideal.ofBits .fp8e4m3 a * Ideal.ofBits .bf16 0x4280#16 * Ideal.ofBits .bf16 b) hn hsc

/-- The scale words of a slab. -/
theorem pay1_at (v : Vec Ideal S1x64x128 .i8) (g : Fin 64) (n : Fin 128) :
    k0_pay1 (F := Ideal) v (ix2 g n) = ((v (ix3 0 g n)).setWidth 32 <<< 7) ||| ((v (ix3 0 g n)).setWidth 32 <<< 23) := by
  have h := shapeCast_1ab_ab_apply v shapeCasts_S1x64x128_S64x128 g n
  unfold k0_pay1
  rw [shapeCast_self]
  exact congrArg (fun b : BitVec 8 => (b.setWidth 32 <<< 7) ||| (b.setWidth 32 <<< 23)) h

end Cert.KernelIdeal.Gen
-- ==== Proof.WeightsIdeal.lean ====
module

public import proofs.«01_k».proof.Proof.SlabIdeal
public import proofs.«01_k».proof.Proof.BodyIdeal

/-! The two loops that decode an expert's weights: the first fills the buffer of scale words from the scale
bytes, the second the buffer of decoded weights from the packed bytes and the scale words. Each buffer,
read after its loop, is one function of the bytes. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

/-- A load over a rectangle of unit steps reads the buffer at the rectangle's offset plus the local index. -/
theorem readAt_unit_at {κ : Kind} {sp : Space} {sh : Shape} {e : EltTy} (v : View sig κ sp sh e) (X : v.ty.Contents (Elt Ideal))
    (off size : Fin sh.rank → ℕ) (inb : ∀ a, off a + size a ≤ sh.size a) (x : (Rect.unit off size inb).shape.Idx) (y : sh.Idx)
    (h : ∀ a, (y a).val = off a + (x a).val) :
    v.readAt (Elt Ideal) (Rect.unit off size inb).toLoadRect X x = v.read (Elt Ideal) X y := by
  refine congrArg (v.read (Elt Ideal) X) (funext fun a => Fin.ext ?_)
  rw [h a]
  show off a + 1 * (x a).val = _
  rw [one_mul]

/-- Where a piece's local index lands. -/
theorem emb_unit_at {sh : Shape} (off size : Fin sh.rank → ℕ) (inb : ∀ a, off a + size a ≤ sh.size a) (x : (Rect.unit off size inb).shape.Idx) (y : sh.Idx)
    (h : ∀ a, (y a).val = off a + (x a).val) : (Rect.unit off size inb).emb x = y := by
  refine funext fun a => Fin.ext ?_
  rw [h a]
  show off a + 1 * (x a).val = _
  rw [one_mul]

/-- The scale words of an expert, from its scale bytes. -/
def scaleWords (Xs : S1x64x6144.Idx → BitVec 8) (y : S64x6144.Idx) : BitVec 32 :=
  ((Xs (ix3 0 (y 0) (y 1))).setWidth 32 <<< 7) ||| ((Xs (ix3 0 (y 0) (y 1))).setWidth 32 <<< 23)

/-- One decoded weight: row `k` lies in the low half bytes when `k < 1024`, in the high ones after. -/
def weight (Xw : S1x1024x6144.Idx → BitVec 8) (Xs : S1x64x6144.Idx → BitVec 8) (k : Fin 2048) (n : Fin 6144) : EReal :=
  dec (Xw (ix3 0 ⟨k.val % 1024, by omega⟩ n)) (if k.val < 1024 then 0 else 4) * scl (Xs (ix3 0 ⟨k.val / 32, by omega⟩ n))

theorem trips1 : k0_t1_loop.trips = 48 := by decide +kernel
theorem trips2 : k0_t2_loop.trips = 32 := by decide +kernel

/-- What holds of every piece of every trip holds of every piece of the loop. -/
theorem pb1_all (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg7.view.ty)
    (P : View.Piece (Elt Ideal) S64x6144 .i32 → Prop) (hP : ∀ k, ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 X k, P p) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 X n, P p
  | 0, _, p, hp => by rw [pb_k0_t1.eq_1] at hp; exact absurd hp List.not_mem_nil
  | n + 1, hn, p, hp => by
    rw [pb_k0_t1_succ (F := Ideal) 𝒱 c bd i arg1 harg1 arg2 harg2 arg3 harg3 arg4 harg4 arg5 harg5 arg6 harg6 arg7 harg7 arg8 harg8 arg9 harg9 arg10 harg10 arg11 harg11 X ⟨n, hn⟩] at hp
    rcases List.mem_append.1 hp with h | h
    · exact hP ⟨n, hn⟩ p h
    · exact pb1_all 𝒱 c bd i arg1 harg1 arg2 harg2 arg3 harg3 arg4 harg4 arg5 harg5 arg6 harg6 arg7 harg7 arg8 harg8 arg9 harg9 arg10 harg10 arg11 harg11 X P hP n (Nat.le_of_succ_le hn) p h

/-- Every piece of a trip below `n` is among the pieces of the first `n` trips. -/
theorem pb1_mem (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg7.view.ty)
    (k : Fin k0_t1_loop.trips) (p : View.Piece (Elt Ideal) S64x6144 .i32) (hp : p ∈ tripL_k0_t1 (F := Ideal) 𝒱 c bd i arg1 harg1 arg2 harg2 arg3 harg3 arg4 harg4 arg5 harg5 arg6 harg6 arg7 harg7 arg8 harg8 arg9 harg9 arg10 harg10 arg11 harg11 X k) :
    ∀ n, n ≤ k0_t1_loop.trips → k.val < n → p ∈ pb_k0_t1 (F := Ideal) 𝒱 c bd i arg1 harg1 arg2 harg2 arg3 harg3 arg4 harg4 arg5 harg5 arg6 harg6 arg7 harg7 arg8 harg8 arg9 harg9 arg10 harg10 arg11 harg11 X n
  | 0, _, h => absurd h (Nat.not_lt_zero _)
  | n + 1, hn, h => by
    rw [pb_k0_t1_succ (F := Ideal) 𝒱 c bd i arg1 harg1 arg2 harg2 arg3 harg3 arg4 harg4 arg5 harg5 arg6 harg6 arg7 harg7 arg8 harg8 arg9 harg9 arg10 harg10 arg11 harg11 X ⟨n, hn⟩]
    rcases Nat.lt_succ_iff_lt_or_eq.1 h with h | h
    · exact List.mem_append_right _ (pb1_mem 𝒱 c bd i arg1 harg1 arg2 harg2 arg3 harg3 arg4 harg4 arg5 harg5 arg6 harg6 arg7 harg7 arg8 harg8 arg9 harg9 arg10 harg10 arg11 harg11 X k p hp n (Nat.le_of_succ_le hn) h)
    · obtain rfl : k = ⟨n, hn⟩ := Fin.ext h
      exact List.mem_append_left _ hp

/-- What holds of every piece of every trip holds of every piece of the loop. -/
theorem pb2_all (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg6.view.ty) (Y : BufTy.Contents (Elt Ideal) arg11.view.ty)
    (P : View.Piece (Elt Ideal) S2048x6144 .bf16 → Prop) (hP : ∀ k, ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 X Y k, P p) :
    ∀ n, n ≤ k0_t2_loop.trips → ∀ p ∈ pb_k0_t2 (F := Ideal) 𝒱 c bd i arg1 harg1 arg2 harg2 arg3 harg3 arg4 harg4 arg5 harg5 arg6 harg6 arg7 harg7 arg8 harg8 arg9 harg9 arg10 harg10 arg11 harg11 X Y n, P p
  | 0, _, p, hp => by rw [pb_k0_t2.eq_1] at hp; exact absurd hp List.not_mem_nil
  | n + 1, hn, p, hp => by
    rw [pb_k0_t2_succ (F := Ideal) 𝒱 c bd i arg1 harg1 arg2 harg2 arg3 harg3 arg4 harg4 arg5 harg5 arg6 harg6 arg7 harg7 arg8 harg8 arg9 harg9 arg10 harg10 arg11 harg11 X Y ⟨n, hn⟩] at hp
    rcases List.mem_append.1 hp with h | h
    · exact hP ⟨n, hn⟩ p h
    · exact pb2_all 𝒱 c bd i arg1 harg1 arg2 harg2 arg3 harg3 arg4 harg4 arg5 harg5 arg6 harg6 arg7 harg7 arg8 harg8 arg9 harg9 arg10 harg10 arg11 harg11 X Y P hP n (Nat.le_of_succ_le hn) p h

/-- Every piece of a trip below `n` is among the pieces of the first `n` trips. -/
theorem pb2_mem (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg6.view.ty) (Y : BufTy.Contents (Elt Ideal) arg11.view.ty)
    (k : Fin k0_t2_loop.trips) (p : View.Piece (Elt Ideal) S2048x6144 .bf16) (hp : p ∈ tripL_k0_t2 (F := Ideal) 𝒱 c bd i arg1 harg1 arg2 harg2 arg3 harg3 arg4 harg4 arg5 harg5 arg6 harg6 arg7 harg7 arg8 harg8 arg9 harg9 arg10 harg10 arg11 harg11 X Y k) :
    ∀ n, n ≤ k0_t2_loop.trips → k.val < n → p ∈ pb_k0_t2 (F := Ideal) 𝒱 c bd i arg1 harg1 arg2 harg2 arg3 harg3 arg4 harg4 arg5 harg5 arg6 harg6 arg7 harg7 arg8 harg8 arg9 harg9 arg10 harg10 arg11 harg11 X Y n
  | 0, _, h => absurd h (Nat.not_lt_zero _)
  | n + 1, hn, h => by
    rw [pb_k0_t2_succ (F := Ideal) 𝒱 c bd i arg1 harg1 arg2 harg2 arg3 harg3 arg4 harg4 arg5 harg5 arg6 harg6 arg7 harg7 arg8 harg8 arg9 harg9 arg10 harg10 arg11 harg11 X Y ⟨n, hn⟩]
    rcases Nat.lt_succ_iff_lt_or_eq.1 h with h | h
    · exact List.mem_append_right _ (pb2_mem 𝒱 c bd i arg1 harg1 arg2 harg2 arg3 harg3 arg4 harg4 arg5 harg5 arg6 harg6 arg7 harg7 arg8 harg8 arg9 harg9 arg10 harg10 arg11 harg11 X Y k p hp n (Nat.le_of_succ_le hn) h)
    · obtain rfl : k = ⟨n, hn⟩ := Fin.ext h
      exact List.mem_append_left _ hp

/-- Every piece one trip of the first loop writes is the scale words over its rectangle. -/
theorem tripS (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg7.view.ty) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 X k, ∀ x : p.1.shape.Idx, p.2 x = scaleWords (arg7.view.read (Elt Ideal) X) (p.1.emb x) := by
  have hk : k.val < 48 := lt_of_lt_of_eq k.isLt trips1
  unfold tripL_k0_t1 trip_k0_t1
  dsimp only
  refine List.forall_mem_cons.2 ⟨fun x => ?_, fun p hp => absurd hp List.not_mem_nil⟩
  obtain ⟨g, n, rfl⟩ : ∃ (g : Fin 64) (n : Fin 128), x = ix2 g n := ⟨x 0, x 1, eq_ix2 x⟩
  have hemb := emb_unit_at (sh := S64x6144) (k0_off4 k) S64x128.size (k0_off4_inb k) (ix2 g n) (ix2 g ⟨128 * k.val + n.val, by omega⟩) (by
    intro a; refine Eq.trans ?_ (congrArg (fun z => z + _) (congrFun (k0_off4_eq k) a).symm)
    match a with
    | ⟨0, _⟩ => show g.val = 0 + g.val; omega
    | ⟨1, _⟩ => rfl)
  have hrd := readAt_unit_at arg7.view X (k0_off3 k) S1x64x128.size (k0_off3_inb k) (ix3 0 g n) (ix3 0 g ⟨128 * k.val + n.val, by omega⟩) (by
    intro a; refine Eq.trans ?_ (congrArg (fun z => z + _) (congrFun (k0_off3_eq k) a).symm)
    match a with
    | ⟨0, _⟩ => rfl
    | ⟨1, _⟩ => show g.val = 0 + g.val; omega
    | ⟨2, _⟩ => rfl)
  refine (pay1_at _ g n).trans ?_
  refine Eq.trans ?_ (congrArg (scaleWords (arg7.view.read (Elt Ideal) X)) hemb.symm)
  exact congrArg (fun b : BitVec 8 => (b.setWidth 32 <<< 7) ||| (b.setWidth 32 <<< 23)) hrd

/-- The scale words after the first loop. -/
theorem newS_read (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg7.view.ty) (X11 : BufTy.Contents (Elt Ideal) arg11.view.ty) :
    arg11.view.read (Elt Ideal) (newS (F := Ideal) 𝒱 c bd i arg1 harg1 arg2 harg2 arg3 harg3 arg4 harg4 arg5 harg5 arg6 harg6 arg7 harg7 arg8 harg8 arg9 harg9 arg10 harg10 arg11 harg11 X X11) = scaleWords (arg7.view.read (Elt Ideal) X) := by
  funext y
  have hy1 : (y 1).val < 6144 := (y 1).isLt
  have hk : (y 1).val / 128 < k0_t1_loop.trips := by rw [trips1]; omega
  have hm : ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 X ⟨(y 1).val / 128, hk⟩, y ∈ p.1.set := by
    unfold tripL_k0_t1 trip_k0_t1
    dsimp only
    refine ⟨_, List.mem_cons_self, ?_⟩
    refine (Rect.mem_set_unit (inb := k0_off4_inb _)).2 fun a => ?_
    rw [k0_off4_eq]
    match a with
    | ⟨0, _⟩ => show 0 ≤ (y 0).val ∧ (y 0).val < 0 + 64; have : (y 0).val < 64 := (y 0).isLt; omega
    | ⟨1, _⟩ => show 128 * ((y 1).val / 128) ≤ (y 1).val ∧ (y 1).val < 128 * ((y 1).val / 128) + 128; omega
  obtain ⟨p, hp, hm⟩ := hm
  have hcov : ∃ p ∈ pb_k0_t1 (F := Ideal) 𝒱 c bd i arg1 harg1 arg2 harg2 arg3 harg3 arg4 harg4 arg5 harg5 arg6 harg6 arg7 harg7 arg8 harg8 arg9 harg9 arg10 harg10 arg11 harg11 X k0_t1_loop.trips, y ∈ p.1.set :=
    ⟨p, pb1_mem 𝒱 c bd i arg1 harg1 arg2 harg2 arg3 harg3 arg4 harg4 arg5 harg5 arg6 harg6 arg7 harg7 arg8 harg8 arg9 harg9 arg10 harg10 arg11 harg11 X _ p hp _ le_rfl hk, hm⟩
  refine (View.read_writes_apply_eq_canon arg11.view X11 y _ hcov).trans ?_
  exact View.canon_apply_of_pieces (scaleWords (arg7.view.read (Elt Ideal) X)) _
    (pb1_all 𝒱 c bd i arg1 harg1 arg2 harg2 arg3 harg3 arg4 harg4 arg5 harg5 arg6 harg6 arg7 harg7 arg8 harg8 arg9 harg9 arg10 harg10 arg11 harg11 X (fun p => ∀ x : p.1.shape.Idx, p.2 x = scaleWords (arg7.view.read (Elt Ideal) X) (p.1.emb x)) (tripS 𝒱 c bd i arg1 harg1 arg2 harg2 arg3 harg3 arg4 harg4 arg5 harg5 arg6 harg6 arg7 harg7 arg8 harg8 arg9 harg9 arg10 harg10 arg11 harg11 X) _ le_rfl) y hcov

/-- Every piece one trip of the second loop writes is the decoded weights over its rectangle. -/
theorem tripW (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg6.view.ty) (Y : BufTy.Contents (Elt Ideal) arg11.view.ty) (Xs : S1x64x6144.Idx → BitVec 8) (hY : arg11.view.read (Elt Ideal) Y = scaleWords Xs) (k : Fin k0_t2_loop.trips) :
    ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 X Y k, ∀ x : p.1.shape.Idx,
      p.2 x = (fun y : S2048x6144.Idx => weight (arg6.view.read (Elt Ideal) X) Xs (y 0) (y 1)) (p.1.emb x) := by
  have hk : k.val < 32 := lt_of_lt_of_eq k.isLt trips2
  unfold tripL_k0_t2 trip_k0_t2
  dsimp only
  have hrd : ∀ (r : Fin 32) (n : Fin 6144), arg6.view.readAt (Elt Ideal) (Rect.unit (s := S1x1024x6144) (k0_off5 k) S1x32x6144.size (k0_off5_inb k)).toLoadRect X (ix3 0 r n)
      = arg6.view.read (Elt Ideal) X (ix3 0 ⟨32 * k.val + r.val, by omega⟩ n) := fun r n =>
    readAt_unit_at arg6.view X (k0_off5 k) S1x32x6144.size (k0_off5_inb k) (ix3 0 r n) (ix3 0 ⟨32 * k.val + r.val, by omega⟩ n) (by
      intro a; refine Eq.trans ?_ (congrArg (fun z => z + _) (congrFun (k0_off5_eq k) a).symm)
      match a with
      | ⟨0, _⟩ => rfl
      | ⟨1, _⟩ => rfl
      | ⟨2, _⟩ => show n.val = 0 + n.val; omega)
  refine List.forall_mem_cons.2 ⟨fun x => ?_, List.forall_mem_cons.2 ⟨fun x => ?_, fun p hp => absurd hp List.not_mem_nil⟩⟩
  · obtain ⟨r, n, rfl⟩ : ∃ (r : Fin 32) (n : Fin 6144), x = ix2 r n := ⟨x 0, x 1, eq_ix2 x⟩
    have hemb := emb_unit_at (sh := S2048x6144) (k0_off9 k) S32x6144.size (k0_off9_inb k) (ix2 r n) (ix2 ⟨32 * k.val + 1024 + r.val, by omega⟩ n) (by
      intro a; refine Eq.trans ?_ (congrArg (fun z => z + _) (congrFun (k0_off9_eq k) a).symm)
      match a with
      | ⟨0, _⟩ => rfl
      | ⟨1, _⟩ => show n.val = 0 + n.val; omega)
    have hs := readAt_unit_at arg11.view Y (k0_off8 k) S1x6144.size (k0_off8_inb k) (ix2 0 n) (ix2 ⟨k.val + 32, by omega⟩ n) (by
      intro a; refine Eq.trans ?_ (congrArg (fun z => z + _) (congrFun (k0_off8_eq k) a).symm)
      match a with
      | ⟨0, _⟩ => rfl
      | ⟨1, _⟩ => show n.val = 0 + n.val; omega)
    rw [hY] at hs
    refine (pay2_at _ _ r n _ hs).trans ?_
    rw [show (Rect.unit (s := S2048x6144) (k0_off9 k) ![32, 6144] _).emb (ix2 r n) = _ from hemb, hrd]
    show _ = weight (arg6.view.read (Elt Ideal) X) Xs ⟨32 * k.val + 1024 + r.val, by omega⟩ n
    unfold weight
    rw [if_neg (show ¬ 32 * k.val + 1024 + r.val < 1024 by omega)]
    have e1 : (⟨32 * k.val + r.val, by omega⟩ : Fin 1024) = ⟨(32 * k.val + 1024 + r.val) % 1024, by omega⟩ := Fin.ext (by show 32 * k.val + r.val = (32 * k.val + 1024 + r.val) % 1024; omega)
    have e2 : (⟨k.val + 32, by omega⟩ : Fin 64) = ⟨(32 * k.val + 1024 + r.val) / 32, by omega⟩ := Fin.ext (by show k.val + 32 = (32 * k.val + 1024 + r.val) / 32; omega)
    exact congrArg₂ (fun a b => dec (arg6.view.read (Elt Ideal) X (ix3 0 a n)) 4 * scl (Xs (ix3 0 b n))) e1 e2
  · obtain ⟨r, n, rfl⟩ : ∃ (r : Fin 32) (n : Fin 6144), x = ix2 r n := ⟨x 0, x 1, eq_ix2 x⟩
    have hemb := emb_unit_at (sh := S2048x6144) (k0_off7 k) S32x6144.size (k0_off7_inb k) (ix2 r n) (ix2 ⟨32 * k.val + r.val, by omega⟩ n) (by
      intro a; refine Eq.trans ?_ (congrArg (fun z => z + _) (congrFun (k0_off7_eq k) a).symm)
      match a with
      | ⟨0, _⟩ => rfl
      | ⟨1, _⟩ => show n.val = 0 + n.val; omega)
    have hs := readAt_unit_at arg11.view Y (k0_off6 k) S1x6144.size (k0_off6_inb k) (ix2 0 n) (ix2 ⟨k.val, by omega⟩ n) (by
      intro a; refine Eq.trans ?_ (congrArg (fun z => z + _) (congrFun (k0_off6_eq k) a).symm)
      match a with
      | ⟨0, _⟩ => rfl
      | ⟨1, _⟩ => show n.val = 0 + n.val; omega)
    rw [hY] at hs
    refine (pay8_at _ _ r n _ hs).trans ?_
    rw [show (Rect.unit (s := S2048x6144) (k0_off7 k) ![32, 6144] _).emb (ix2 r n) = _ from hemb, hrd]
    show _ = weight (arg6.view.read (Elt Ideal) X) Xs ⟨32 * k.val + r.val, by omega⟩ n
    unfold weight
    rw [if_pos (show 32 * k.val + r.val < 1024 by omega)]
    have e1 : (⟨32 * k.val + r.val, by omega⟩ : Fin 1024) = ⟨(32 * k.val + r.val) % 1024, by omega⟩ := Fin.ext (by show 32 * k.val + r.val = (32 * k.val + r.val) % 1024; omega)
    have e2 : (⟨k.val, by omega⟩ : Fin 64) = ⟨(32 * k.val + r.val) / 32, by omega⟩ := Fin.ext (by show k.val = (32 * k.val + r.val) / 32; omega)
    exact congrArg₂ (fun a b => dec (arg6.view.read (Elt Ideal) X (ix3 0 a n)) 0 * scl (Xs (ix3 0 b n))) e1 e2

/-- The decoded weights after the second loop. -/
theorem newW_read (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg6.view.ty) (Y : BufTy.Contents (Elt Ideal) arg11.view.ty) (X9 : BufTy.Contents (Elt Ideal) arg9.view.ty) (Xs : S1x64x6144.Idx → BitVec 8) (hY : arg11.view.read (Elt Ideal) Y = scaleWords Xs) :
    arg9.view.read (Elt Ideal) (newW (F := Ideal) 𝒱 c bd i arg1 harg1 arg2 harg2 arg3 harg3 arg4 harg4 arg5 harg5 arg6 harg6 arg7 harg7 arg8 harg8 arg9 harg9 arg10 harg10 arg11 harg11 X X9 Y)
      = fun y : S2048x6144.Idx => weight (arg6.view.read (Elt Ideal) X) Xs (y 0) (y 1) := by
  funext y
  have hy0 : (y 0).val < 2048 := (y 0).isLt
  have hy1 : (y 1).val < 6144 := (y 1).isLt
  have hk : (y 0).val % 1024 / 32 < k0_t2_loop.trips := by rw [trips2]; omega
  have hm : ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 X Y ⟨(y 0).val % 1024 / 32, hk⟩, y ∈ p.1.set := by
    unfold tripL_k0_t2 trip_k0_t2
    dsimp only
    by_cases h : (y 0).val < 1024
    · refine ⟨_, List.mem_cons_of_mem _ List.mem_cons_self, ?_⟩
      refine (Rect.mem_set_unit (inb := k0_off7_inb _)).2 fun a => ?_
      rw [k0_off7_eq]
      match a with
      | ⟨0, _⟩ => show 32 * ((y 0).val % 1024 / 32) ≤ (y 0).val ∧ (y 0).val < 32 * ((y 0).val % 1024 / 32) + 32; omega
      | ⟨1, _⟩ => show 0 ≤ (y 1).val ∧ (y 1).val < 0 + 6144; omega
    · refine ⟨_, List.mem_cons_self, ?_⟩
      refine (Rect.mem_set_unit (inb := k0_off9_inb _)).2 fun a => ?_
      rw [k0_off9_eq]
      match a with
      | ⟨0, _⟩ => show 32 * ((y 0).val % 1024 / 32) + 1024 ≤ (y 0).val ∧ (y 0).val < 32 * ((y 0).val % 1024 / 32) + 1024 + 32; omega
      | ⟨1, _⟩ => show 0 ≤ (y 1).val ∧ (y 1).val < 0 + 6144; omega
  obtain ⟨p, hp, hm⟩ := hm
  have hcov : ∃ p ∈ pb_k0_t2 (F := Ideal) 𝒱 c bd i arg1 harg1 arg2 harg2 arg3 harg3 arg4 harg4 arg5 harg5 arg6 harg6 arg7 harg7 arg8 harg8 arg9 harg9 arg10 harg10 arg11 harg11 X Y k0_t2_loop.trips, y ∈ p.1.set :=
    ⟨p, pb2_mem 𝒱 c bd i arg1 harg1 arg2 harg2 arg3 harg3 arg4 harg4 arg5 harg5 arg6 harg6 arg7 harg7 arg8 harg8 arg9 harg9 arg10 harg10 arg11 harg11 X Y _ p hp _ le_rfl hk, hm⟩
  refine (View.read_writes_apply_eq_canon arg9.view X9 y _ hcov).trans ?_
  exact View.canon_apply_of_pieces (fun y : S2048x6144.Idx => weight (arg6.view.read (Elt Ideal) X) Xs (y 0) (y 1)) _
    (pb2_all 𝒱 c bd i arg1 harg1 arg2 harg2 arg3 harg3 arg4 harg4 arg5 harg5 arg6 harg6 arg7 harg7 arg8 harg8 arg9 harg9 arg10 harg10 arg11 harg11 X Y (fun p => ∀ x : p.1.shape.Idx, p.2 x = (fun y : S2048x6144.Idx => weight (arg6.view.read (Elt Ideal) X) Xs (y 0) (y 1)) (p.1.emb x))
      (tripW 𝒱 c bd i arg1 harg1 arg2 harg2 arg3 harg3 arg4 harg4 arg5 harg5 arg6 harg6 arg7 harg7 arg8 harg8 arg9 harg9 arg10 harg10 arg11 harg11 X Y Xs hY) _ le_rfl) y hcov

end Cert.KernelIdeal.Gen
-- ==== Proof.StoreIdeal.lean ====
module

public import proofs.«01_k».proof.Proof.WeightsIdeal
public import Idealize.ShloMosaic.Lib.MatmulPlain
public import Idealize.ShloMosaic.Lib.WordCmp
public import Idealize.ShloMosaic.Lib.Affine

/-! A visit's rewrite of the output block: a row in the visit's range becomes the product of the rows and the
weights, every other row keeps what it held. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

/-- A small word read as a signed integer. -/
theorem toInt_small (n : ℕ) (h : n < 2147483648) : (BitVec.ofNat 32 n).toInt = n := by
  rw [BitVec.toInt_eq_toNat_of_lt (by rw [BitVec.toNat_ofNat]; omega), BitVec.toNat_ofNat]
  omega

/-- The row mask of a visit, read at a row. -/
theorem pay94_at (lo hi T : ℕ) (hT : T < 64) (hlo : lo ≤ 32768) (hhi : hi ≤ 32768) (r : Fin 512) (n : Fin 1024) :
    k0_pay94 (F := Ideal) (BitVec.ofNat 32 lo) (BitVec.ofNat 32 hi) (BitVec.ofNat 32 T) (ix2 r n) = 1#1 ↔ lo ≤ 512 * T + r.val ∧ 512 * T + r.val < hi := by
  have hw : IntOp.addi (BitVec.ofNat 32 (0 * 512 + r.val)) (Scalar.muli (BitVec.ofNat 32 T) 512#32) = BitVec.ofNat 32 (512 * T + r.val) := by
    show BitVec.ofNat 32 (0 * 512 + r.val) + BitVec.ofNat 32 T * 512#32 = _
    apply BitVec.eq_of_toNat_eq
    simp only [BitVec.toNat_add, BitVec.toNat_mul, BitVec.toNat_ofNat]
    omega
  show IntOp.andi (IntOp.cmpi .sge (IntOp.addi (BitVec.ofNat 32 (0 * 512 + r.val)) (Scalar.muli (BitVec.ofNat 32 T) 512#32)) (BitVec.ofNat 32 lo))
    (IntOp.cmpi .slt (IntOp.addi (BitVec.ofNat 32 (0 * 512 + r.val)) (Scalar.muli (BitVec.ofNat 32 T) 512#32)) (BitVec.ofNat 32 hi)) = 1#1 ↔ _
  rw [hw, IntOp.andi_eq_one, IntOp.cmpi_sge, IntOp.cmpi_slt, toInt_small _ (by omega), toInt_small _ (by omega), toInt_small _ (by omega)]
  omega

/-- One column chunk of the rewrite, read at a row and a column. -/
theorem pay95_at (lo hi T : ℕ) (hT : T < 64) (hlo : lo ≤ 32768) (hhi : hi ≤ 32768) (A : S512x2048.Idx → EReal) (B : S2048x1024.Idx → EReal)
    (C : S512x1024.Idx → EReal) (r : Fin 512) (n : Fin 1024) :
    k0_pay95 (F := Ideal) (BitVec.ofNat 32 lo) (BitVec.ofNat 32 hi) (BitVec.ofNat 32 T) A B C (ix2 r n)
      = if lo ≤ 512 * T + r.val ∧ 512 * T + r.val < hi then ∑ k : Fin 2048, A (ix2 r k) * B (ix2 k n) else C (ix2 r n) := by
  have hm := Ideal.matmul_plain_apply (M := 512) (K := 2048) (N := 1024) (φ₁ := .bf16) (φ₂ := .bf16) none A B (constant (F := Ideal) S512x1024 .f32 0x00000000#32) r n
  have h0 : constant (F := Ideal) S512x1024 .f32 0x00000000#32 (ix2 r n) = (0 : EReal) := by
    show Ideal.ofBits .f32 0x00000000#32 = 0
    simp [Ideal.ofBits, Ideal.ieee]
  rw [h0, zero_add] at hm
  have hC : shapeCast S512x1024 C shapeCasts_S512x1024_S512x1024 = C := shapeCast_self _ _
  show Scalar.select (k0_pay94 (F := Ideal) (BitVec.ofNat 32 lo) (BitVec.ofNat 32 hi) (BitVec.ofNat 32 T) (ix2 r n))
    (FloatOps.matmul (F := Ideal) (φ₁ := .bf16) (φ₂ := .bf16) (DotDims.plain 512 2048 1024) none A B (constant (F := Ideal) S512x1024 .f32 0x00000000#32) (ix2 r n))
    (shapeCast S512x1024 C shapeCasts_S512x1024_S512x1024 (ix2 r n)) = _
  rw [hm, hC]
  unfold Scalar.select
  exact if_congr (pay94_at lo hi T hT hlo hhi r n) rfl rfl

/-- The output block after a visit with the row range `[lo, hi)` on tile `T`. -/
def visited (lo hi T : ℕ) (A : S512x2048.Idx → EReal) (B : S2048x6144.Idx → EReal) (C : S512x6144.Idx → EReal) (y : S512x6144.Idx) : EReal :=
  if lo ≤ 512 * T + (y 0).val ∧ 512 * T + (y 0).val < hi then ∑ k : Fin 2048, A (ix2 (y 0) k) * B (ix2 k (y 1)) else C y

/-- One column chunk is that block over the chunk's columns. -/
theorem chunk_at (lo hi T : ℕ) (hT : T < 64) (hlo : lo ≤ 32768) (hhi : hi ≤ 32768) (arg8 : Memref sig .tc .vmem S512x6144 .bf16)
    (arg9 : Memref sig .tc .vmem S2048x6144 .bf16) (arg10 : Memref sig .tc .vmem S512x2048 .bf16)
    (X8 : BufTy.Contents (Elt Ideal) arg8.view.ty) (X9 : BufTy.Contents (Elt Ideal) arg9.view.ty) (X10 : BufTy.Contents (Elt Ideal) arg10.view.ty)
    (o : ℕ) (h8 : ∀ a, (![0, o] : Fin 2 → ℕ) a + S512x1024.size a ≤ S512x6144.size a) (h9 : ∀ a, (![0, o] : Fin 2 → ℕ) a + S2048x1024.size a ≤ S2048x6144.size a)
    (h10 : ∀ a, (![0, 0] : Fin 2 → ℕ) a + S512x2048.size a ≤ S512x2048.size a) (x : S512x1024.Idx) :
    k0_pay95 (F := Ideal) (BitVec.ofNat 32 lo) (BitVec.ofNat 32 hi) (BitVec.ofNat 32 T)
        (View.readAt (Elt Ideal) arg10.view (Rect.unit (s := S512x2048) ![0, 0] S512x2048.size h10).toLoadRect X10)
        (View.readAt (Elt Ideal) arg9.view (Rect.unit (s := S2048x6144) ![0, o] S2048x1024.size h9).toLoadRect X9)
        (View.readAt (Elt Ideal) arg8.view (Rect.unit (s := S512x6144) ![0, o] S512x1024.size h8).toLoadRect X8) x
      = visited lo hi T (arg10.view.read (Elt Ideal) X10) (arg9.view.read (Elt Ideal) X9) (arg8.view.read (Elt Ideal) X8)
          ((Rect.unit (s := S512x6144) ![0, o] S512x1024.size h8).emb x) := by
  have ho : o + 1024 ≤ 6144 := by
    have h := h8 (1 : Fin 2)
    exact h
  obtain ⟨r, n, rfl⟩ : ∃ (r : Fin 512) (n : Fin 1024), x = ix2 r n := ⟨x 0, x 1, eq_ix2 x⟩
  have hemb := emb_unit_at (sh := S512x6144) ![0, o] S512x1024.size h8 (ix2 r n) (ix2 r ⟨o + n.val, by omega⟩) (by
    intro a
    match a with
    | ⟨0, _⟩ => show r.val = 0 + r.val; omega
    | ⟨1, _⟩ => rfl)
  have e8 := readAt_unit_at arg8.view X8 ![0, o] S512x1024.size h8 (ix2 r n) (ix2 r ⟨o + n.val, by omega⟩) (by
    intro a
    match a with
    | ⟨0, _⟩ => show r.val = 0 + r.val; omega
    | ⟨1, _⟩ => rfl)
  have e9 := fun k : Fin 2048 => readAt_unit_at arg9.view X9 ![0, o] S2048x1024.size h9 (ix2 k n) (ix2 k ⟨o + n.val, by omega⟩) (by
    intro a
    match a with
    | ⟨0, _⟩ => show k.val = 0 + k.val; omega
    | ⟨1, _⟩ => rfl)
  have e10 := fun k : Fin 2048 => readAt_unit_at arg10.view X10 ![0, 0] S512x2048.size h10 (ix2 r k) (ix2 r k) (by
    intro a
    match a with
    | ⟨0, _⟩ => show r.val = 0 + r.val; omega
    | ⟨1, _⟩ => show k.val = 0 + k.val; omega)
  refine (pay95_at lo hi T hT hlo hhi _ _ _ r n).trans ?_
  refine Eq.trans ?_ (congrArg (visited lo hi T (arg10.view.read (Elt Ideal) X10) (arg9.view.read (Elt Ideal) X9) (arg8.view.read (Elt Ideal) X8)) hemb.symm)
  unfold visited
  refine if_congr Iff.rfl (Finset.sum_congr rfl fun k _ => ?_) e8
  exact congrArg₂ (fun a b : EReal => a * b) (e10 k) (e9 k)

/-- The output block after the visit's stores. -/
theorem outL_read (lo hi T : ℕ) (hT : T < 64) (hlo : lo ≤ 32768) (hhi : hi ≤ 32768) (i : grid0.Coords) (arg1 arg3 arg4 : Memref sig .tc .smem S71 .i32) (arg8 : Memref sig .tc .vmem S512x6144 .bf16)
    (arg9 : Memref sig .tc .vmem S2048x6144 .bf16) (arg10 : Memref sig .tc .vmem S512x2048 .bf16)
    (X1 : BufTy.Contents (Elt Ideal) arg1.view.ty) (X3 : BufTy.Contents (Elt Ideal) arg3.view.ty) (X4 : BufTy.Contents (Elt Ideal) arg4.view.ty)
    (X8 : BufTy.Contents (Elt Ideal) arg8.view.ty) (X9 : BufTy.Contents (Elt Ideal) arg9.view.ty) (X10 : BufTy.Contents (Elt Ideal) arg10.view.ty)
    (h1 : wordAt arg1 X1 (k0_off26 i) (k0_off26_inb i) = BitVec.ofNat 32 T) (h3 : wordAt arg3 X3 (k0_off1 i) (k0_off1_inb i) = BitVec.ofNat 32 lo)
    (h4 : wordAt arg4 X4 (k0_off1 i) (k0_off1_inb i) = BitVec.ofNat 32 hi) :
    arg8.view.read (Elt Ideal) (arg8.view.writes (Elt Ideal) X8 (outL (F := Ideal) i arg1 arg3 arg4 arg8 arg9 arg10 X1 X3 X4 X8 X9 X10))
      = visited lo hi T (arg10.view.read (Elt Ideal) X10) (arg9.view.read (Elt Ideal) X9) (arg8.view.read (Elt Ideal) X8) := by
  funext y
  have hall : ∀ p ∈ outL (F := Ideal) i arg1 arg3 arg4 arg8 arg9 arg10 X1 X3 X4 X8 X9 X10, ∀ x : p.1.shape.Idx,
      p.2 x = visited lo hi T (arg10.view.read (Elt Ideal) X10) (arg9.view.read (Elt Ideal) X9) (arg8.view.read (Elt Ideal) X8) (p.1.emb x) := by
    unfold outL
    rw [h1, h3, h4]
    refine List.forall_mem_cons.2 ⟨fun x => chunk_at lo hi T hT hlo hhi arg8 arg9 arg10 X8 X9 X10 5120 _ _ _ x, List.forall_mem_cons.2 ⟨fun x => chunk_at lo hi T hT hlo hhi arg8 arg9 arg10 X8 X9 X10 4096 _ _ _ x, List.forall_mem_cons.2 ⟨fun x => chunk_at lo hi T hT hlo hhi arg8 arg9 arg10 X8 X9 X10 3072 _ _ _ x, List.forall_mem_cons.2 ⟨fun x => chunk_at lo hi T hT hlo hhi arg8 arg9 arg10 X8 X9 X10 2048 _ _ _ x, List.forall_mem_cons.2 ⟨fun x => chunk_at lo hi T hT hlo hhi arg8 arg9 arg10 X8 X9 X10 1024 _ _ _ x, List.forall_mem_cons.2 ⟨fun x => chunk_at lo hi T hT hlo hhi arg8 arg9 arg10 X8 X9 X10 0 _ _ _ x, fun p hp => absurd hp List.not_mem_nil⟩⟩⟩⟩⟩⟩
  have hy0 : (y 0).val < 512 := (y 0).isLt
  have hy1 : (y 1).val < 6144 := (y 1).isLt
  have hcov : ∃ p ∈ outL (F := Ideal) i arg1 arg3 arg4 arg8 arg9 arg10 X1 X3 X4 X8 X9 X10, y ∈ p.1.set := by
    have key : ∀ (o : ℕ) (h : ∀ a, (![0, o] : Fin 2 → ℕ) a + S512x1024.size a ≤ S512x6144.size a), o ≤ (y 1).val → (y 1).val < o + 1024 →
        y ∈ (Rect.unit (s := S512x6144) ![0, o] S512x1024.size h).set := by
      intro o h ha hb
      refine Rect.mem_set_unit.2 fun a => ?_
      match a with
      | ⟨0, _⟩ => show 0 ≤ (y 0).val ∧ (y 0).val < 0 + 512; omega
      | ⟨1, _⟩ => show o ≤ (y 1).val ∧ (y 1).val < o + 1024; omega
    unfold outL
    by_cases h5120 : 5120 ≤ (y 1).val
    · exact ⟨_, List.mem_cons_self, key 5120 inb_S512x6144_S512x1024_0_5120 h5120 (by omega)⟩
    by_cases h4096 : 4096 ≤ (y 1).val
    · exact ⟨_, (List.mem_cons_of_mem _ List.mem_cons_self), key 4096 inb_S512x6144_S512x1024_0_4096 h4096 (by omega)⟩
    by_cases h3072 : 3072 ≤ (y 1).val
    · exact ⟨_, (List.mem_cons_of_mem _ (List.mem_cons_of_mem _ List.mem_cons_self)), key 3072 inb_S512x6144_S512x1024_0_3072 h3072 (by omega)⟩
    by_cases h2048 : 2048 ≤ (y 1).val
    · exact ⟨_, (List.mem_cons_of_mem _ (List.mem_cons_of_mem _ (List.mem_cons_of_mem _ List.mem_cons_self))), key 2048 inb_S512x6144_S512x1024_0_2048 h2048 (by omega)⟩
    by_cases h1024 : 1024 ≤ (y 1).val
    · exact ⟨_, (List.mem_cons_of_mem _ (List.mem_cons_of_mem _ (List.mem_cons_of_mem _ (List.mem_cons_of_mem _ List.mem_cons_self)))), key 1024 inb_S512x6144_S512x1024_0_1024 h1024 (by omega)⟩
    exact ⟨_, (List.mem_cons_of_mem _ (List.mem_cons_of_mem _ (List.mem_cons_of_mem _ (List.mem_cons_of_mem _ (List.mem_cons_of_mem _ List.mem_cons_self))))), key 0 inb_S512x6144_S512x1024_0_0 (by omega) (by omega)⟩
  refine (View.read_writes_apply_eq_canon arg8.view X8 y _ hcov).trans ?_
  exact View.canon_apply_of_pieces _ _ hall y hcov

end Cert.KernelIdeal.Gen
-- ==== Proof.QuantIdeal.lean ====
module

public import Idealize.ShloMosaic.Lib.ValueIdx
public import Idealize.ShloMosaic.Lib.WordCmp
public import Idealize.ShloMosaic.Lib.Pipeline.Value
public import Idealize.ShloMosaic.Lib.Pipeline.FrameBody
public import proofs.«01_k».proof.Proof.Gen.KernelIdeal.Loops

/-! The activation quantiser over the exact reals. Each group of the row block is divided by a scale,
rounded to eight bits and multiplied by the scale again. Over the exact reals the roundings are the
identity, and whatever the scale is it is a nonzero real number, so a finite entry comes back as it was:
the buffer the loop fills holds the row block itself. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

/-- A nonzero real number. -/
def NZ (v : EReal) : Prop := ∃ r : ℝ, r ≠ 0 ∧ v = (r : EReal)

/-- A 32-bit pattern of a normal number is a nonzero real. -/
theorem NZ_bits (b : BitVec 32) (h : (b.extractLsb' 23 8).toNat ≠ 255) (h0 : (b.extractLsb' 23 8).toNat ≠ 0) :
    NZ (Ideal.ofBits .f32 b) := by
  show NZ (Ideal.ieee 8 23 b)
  unfold Ideal.ieee
  dsimp only
  rw [if_neg (by simpa using h), if_neg (by simpa using h0)]
  refine ⟨_, ?_, rfl⟩
  refine mul_ne_zero (mul_ne_zero ?_ ?_) ?_
  · split <;> norm_num
  · exact_mod_cast (by positivity : (0 : ℕ) < 2 ^ 23 + _).ne'
  · positivity

theorem NZ_mul {a b : EReal} (ha : NZ a) (hb : NZ b) : NZ (a * b) := by
  obtain ⟨r, hr, rfl⟩ := ha
  obtain ⟨t, ht, rfl⟩ := hb
  exact ⟨r * t, mul_ne_zero hr ht, (EReal.coe_mul r t).symm⟩

/-- Dividing by a nonzero real and multiplying by it again gives a finite number back. -/
theorem undo {x s : EReal} (hs : NZ s) (hx : x ≠ ⊤ ∧ x ≠ ⊥) : x * Ideal.div 1 s * s = x := by
  obtain ⟨r, hr, rfl⟩ := hs
  lift x to ℝ using hx
  unfold Ideal.div
  rw [if_neg (by exact_mod_cast hr), one_mul, ← EReal.coe_inv, ← EReal.coe_mul, ← EReal.coe_mul]
  congr 1
  field_simp

variable {F : FTy → Type} [FloatOps F]

/-- One rung of the comparison ladder: the candidate, times `c` unless the group maximum is below that. -/
def rung (m p : FVec F S16x128 .f32) (c : BitVec 32) : FVec F S16x128 .f32 :=
  select (cmpf .olt m (mulf p (broadcast S16x128 (Scalar.ofBits .f32 c)))) p (mulf p (broadcast S16x128 (Scalar.ofBits .f32 c)))

/-- The candidate power after the eight rungs. -/
def ladder (m : FVec F S16x128 .f32) : FVec F S16x128 .f32 :=
  rung m (rung m (rung m (rung m (rung m (rung m (rung m (rung m (broadcast S16x128 (Scalar.ofBits .f32 0x00800000#32))
    0x7E800000#32) 0x5F800000#32) 0x4F800000#32) 0x47800000#32) 0x43800000#32) 0x41800000#32) 0x40800000#32) 0x40000000#32

/-- The last rung, at seven quarters: half the candidate below it. -/
def lastRung (m p : FVec F S16x128 .f32) : FVec F S16x128 .f32 :=
  select (cmpf .olt m (mulf p (broadcast S16x128 (Scalar.ofBits .f32 0x3FE00000#32)))) (mulf p (broadcast S16x128 (Scalar.ofBits .f32 0x3F000000#32))) p

/-- The tiny-group replacement, and the step from power to scale. -/
def tiny (p : FVec F S16x128 .f32) : FVec F S16x128 .f32 :=
  select (cmpf .olt p (broadcast S16x128 (Scalar.ofBits .f32 0x04800000#32)))
    (broadcast S16x128 (Scalar.ofBits .f32 0x3F800000#32))
    (mulf p (broadcast S16x128 (Scalar.ofBits .f32 0x3C000000#32)))

/-- The scale of a group whose maximum is `m`. -/
def scaleOf (m : FVec F S16x128 .f32) : FVec F S16x128 .f32 := tiny (lastRung m (ladder m))

/-- The rows `x` divided by the scale `s`, rounded and multiplied back. -/
def scaled (s : FVec F S16x128 .f32) (x : FVec F S16x128 .bf16) : FVec F S16x128 .bf16 :=
  shapeCast S16x128 (mulf (extf .bf16 (truncf .fp8e4m3 (mulf x
    (truncf .bf16 (divf (broadcast S16x128 (Scalar.ofBits .f32 0x3F800000#32)) s) bitsLt_bf16_f32)) bitsLt_fp8e4m3_bf16) bitsLt_fp8e4m3_bf16)
    (truncf .bf16 s bitsLt_bf16_f32)) shapeCasts_S16x128_S16x128

/-- The quantiser as one term in the group maxima `m` and the rows `x`. -/
def quant (m : FVec F S16x128 .f32) (x : FVec F S16x128 .bf16) : FVec F S16x128 .bf16 := scaled (scaleOf m) x

theorem NZ_sel (c : BitVec 1) {a b : EReal} (ha : NZ a) (hb : NZ b) : NZ (Scalar.select c a b) := by
  unfold Scalar.select
  split
  · exact ha
  · exact hb

theorem NZ_rung (m p : FVec Ideal S16x128 .f32) (c : BitVec 32) (h : (c.extractLsb' 23 8).toNat ≠ 255) (h0 : (c.extractLsb' 23 8).toNat ≠ 0)
    (hp : ∀ j, NZ (p j)) (j : S16x128.Idx) : NZ (rung m p c j) :=
  NZ_sel (cmpf .olt m (mulf p (broadcast S16x128 (Scalar.ofBits .f32 c))) j) (hp j) (NZ_mul (hp j) (NZ_bits c h h0))

theorem NZ_last (m p : FVec Ideal S16x128 .f32) (hp : ∀ j, NZ (p j)) (j : S16x128.Idx) : NZ (lastRung m p j) :=
  NZ_sel (cmpf .olt m (mulf p (broadcast S16x128 (Scalar.ofBits .f32 0x3FE00000#32))) j)
    (NZ_mul (hp j) (NZ_bits 0x3F000000#32 (by decide) (by decide))) (hp j)

theorem NZ_tiny (p : FVec Ideal S16x128 .f32) (hp : ∀ j, NZ (p j)) (j : S16x128.Idx) : NZ (tiny p j) :=
  NZ_sel (cmpf .olt p (broadcast S16x128 (Scalar.ofBits .f32 0x04800000#32)) j)
    (NZ_bits 0x3F800000#32 (by decide) (by decide)) (NZ_mul (hp j) (NZ_bits 0x3C000000#32 (by decide) (by decide)))

theorem NZ_ladder (m : FVec Ideal S16x128 .f32) (j : S16x128.Idx) : NZ (ladder m j) := by
  revert j
  unfold ladder
  iterate 8 refine NZ_rung _ _ _ (by decide) (by decide) ?_
  exact fun j => NZ_bits 0x00800000#32 (by decide) (by decide)

theorem NZ_scale (m : FVec Ideal S16x128 .f32) (j : S16x128.Idx) : NZ (scaleOf m j) :=
  NZ_tiny _ (NZ_last m _ (NZ_ladder m)) j

theorem one_bits : Ideal.ofBits .f32 0x3F800000#32 = 1 := by
  simp [Ideal.ofBits, Ideal.ieee, -EReal.coe_mul]
  norm_num

theorem scaled_at (s : FVec Ideal S16x128 .f32) (hs : ∀ j, NZ (s j)) (x : FVec Ideal S16x128 .bf16) (j : S16x128.Idx)
    (hx : x j ≠ (⊤ : EReal) ∧ x j ≠ (⊥ : EReal)) : scaled s x j = x j := by
  unfold scaled
  rw [shapeCast_self]
  show x j * Ideal.div (Ideal.ofBits .f32 0x3F800000#32) (s j) * s j = x j
  rw [one_bits]
  exact undo (hs j) hx

/-- The quantiser gives a finite entry back. -/
theorem quant_at (m : FVec Ideal S16x128 .f32) (x : FVec Ideal S16x128 .bf16) (j : S16x128.Idx) (hx : x j ≠ (⊤ : EReal) ∧ x j ≠ (⊥ : EReal)) :
    quant m x j = x j := scaled_at _ (NZ_scale m) x j hx

end Cert.KernelIdeal.Gen
-- ==== Proof.ChunksIdeal.lean ====
module

public import proofs.«01_k».proof.Proof.QuantIdeal

/-! The sixteen stores of one trip of the loop that fills the buffer of scaled rows, each seen as the
quantiser applied to the rows it read. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

theorem quant10 (arg5 : Memref sig .tc .vmem S512x2048 .bf16) (X : BufTy.Contents (Elt Ideal) arg5.view.ty) (k : Fin k0_t3_loop.trips) :
    k0_pay14 (trip_k0_t3.sl.r arg5 X k) (trip_k0_t3.sl.r_3 arg5 X k) (trip_k0_t3.sl.r_4 arg5 X k) = quant (F := Ideal) (k0_pay10 k0_pay3 (arg5.view.readAt (Elt Ideal) (Rect.unit (s := S512x2048) (k0_off10 k) S16x128.size (k0_off10_inb k)).toLoadRect X)) (arg5.view.readAt (Elt Ideal) (Rect.unit (s := S512x2048) (k0_off10 k) S16x128.size (k0_off10_inb k)).toLoadRect X) := rfl

theorem quant11 (arg5 : Memref sig .tc .vmem S512x2048 .bf16) (X : BufTy.Contents (Elt Ideal) arg5.view.ty) (k : Fin k0_t3_loop.trips) :
    k0_pay19 (trip_k0_t3.sl.r_5 arg5 X k) (trip_k0_t3.sl.r_8 arg5 X k) (trip_k0_t3.sl.r_9 arg5 X k) trip_k0_t3.sl.cst_61 = quant (F := Ideal) (k0_pay10 k0_pay3 (arg5.view.readAt (Elt Ideal) (Rect.unit (s := S512x2048) (k0_off11 k) S16x128.size (k0_off11_inb k)).toLoadRect X)) (arg5.view.readAt (Elt Ideal) (Rect.unit (s := S512x2048) (k0_off11 k) S16x128.size (k0_off11_inb k)).toLoadRect X) := rfl

theorem quant12 (arg5 : Memref sig .tc .vmem S512x2048 .bf16) (X : BufTy.Contents (Elt Ideal) arg5.view.ty) (k : Fin k0_t3_loop.trips) :
    k0_pay24 (trip_k0_t3.sl.r_10 arg5 X k) (trip_k0_t3.sl.r_13 arg5 X k) (trip_k0_t3.sl.r_14 arg5 X k) = quant (F := Ideal) (k0_pay10 k0_pay3 (arg5.view.readAt (Elt Ideal) (Rect.unit (s := S512x2048) (k0_off12 k) S16x128.size (k0_off12_inb k)).toLoadRect X)) (arg5.view.readAt (Elt Ideal) (Rect.unit (s := S512x2048) (k0_off12 k) S16x128.size (k0_off12_inb k)).toLoadRect X) := rfl

theorem quant13 (arg5 : Memref sig .tc .vmem S512x2048 .bf16) (X : BufTy.Contents (Elt Ideal) arg5.view.ty) (k : Fin k0_t3_loop.trips) :
    k0_pay29 (trip_k0_t3.sl.r_15 arg5 X k) (trip_k0_t3.sl.r_16 arg5 X k) (trip_k0_t3.sl.r_17 arg5 X k) (trip_k0_t3.sl.r_18 arg5 X k) = quant (F := Ideal) (k0_pay10 k0_pay3 (arg5.view.readAt (Elt Ideal) (Rect.unit (s := S512x2048) (k0_off13 k) S16x128.size (k0_off13_inb k)).toLoadRect X)) (arg5.view.readAt (Elt Ideal) (Rect.unit (s := S512x2048) (k0_off13 k) S16x128.size (k0_off13_inb k)).toLoadRect X) := rfl

theorem quant14 (arg5 : Memref sig .tc .vmem S512x2048 .bf16) (X : BufTy.Contents (Elt Ideal) arg5.view.ty) (k : Fin k0_t3_loop.trips) :
    k0_pay35 (trip_k0_t3.sl.r_19 arg5 X k) (trip_k0_t3.sl.r_21 arg5 X k) (trip_k0_t3.sl.r_22 arg5 X k) (trip_k0_t3.sl.r_23 arg5 X k) = quant (F := Ideal) (k0_pay10 k0_pay3 (arg5.view.readAt (Elt Ideal) (Rect.unit (s := S512x2048) (k0_off14 k) S16x128.size (k0_off14_inb k)).toLoadRect X)) (arg5.view.readAt (Elt Ideal) (Rect.unit (s := S512x2048) (k0_off14 k) S16x128.size (k0_off14_inb k)).toLoadRect X) := rfl

theorem quant15 (arg5 : Memref sig .tc .vmem S512x2048 .bf16) (X : BufTy.Contents (Elt Ideal) arg5.view.ty) (k : Fin k0_t3_loop.trips) :
    k0_pay41 (trip_k0_t3.sl.r_24 arg5 X k) (trip_k0_t3.sl.r_27 arg5 X k) (trip_k0_t3.sl.r_28 arg5 X k) (trip_k0_t3.sl.r_29 arg5 X k) = quant (F := Ideal) (k0_pay10 k0_pay3 (arg5.view.readAt (Elt Ideal) (Rect.unit (s := S512x2048) (k0_off15 k) S16x128.size (k0_off15_inb k)).toLoadRect X)) (arg5.view.readAt (Elt Ideal) (Rect.unit (s := S512x2048) (k0_off15 k) S16x128.size (k0_off15_inb k)).toLoadRect X) := rfl

theorem quant16 (arg5 : Memref sig .tc .vmem S512x2048 .bf16) (X : BufTy.Contents (Elt Ideal) arg5.view.ty) (k : Fin k0_t3_loop.trips) :
    k0_pay46 (trip_k0_t3.sl.r_30 arg5 X k) (trip_k0_t3.sl.r_32 arg5 X k) (trip_k0_t3.sl.r_33 arg5 X k) (trip_k0_t3.sl.r_34 arg5 X k) = quant (F := Ideal) (k0_pay10 k0_pay3 (arg5.view.readAt (Elt Ideal) (Rect.unit (s := S512x2048) (k0_off16 k) S16x128.size (k0_off16_inb k)).toLoadRect X)) (arg5.view.readAt (Elt Ideal) (Rect.unit (s := S512x2048) (k0_off16 k) S16x128.size (k0_off16_inb k)).toLoadRect X) := rfl

theorem quant17 (arg5 : Memref sig .tc .vmem S512x2048 .bf16) (X : BufTy.Contents (Elt Ideal) arg5.view.ty) (k : Fin k0_t3_loop.trips) :
    k0_pay53 (trip_k0_t3.sl.r_39 arg5 X k) (trip_k0_t3.sl.r_40 arg5 X k) = quant (F := Ideal) (k0_pay10 k0_pay3 (arg5.view.readAt (Elt Ideal) (Rect.unit (s := S512x2048) (k0_off17 k) S16x128.size (k0_off17_inb k)).toLoadRect X)) (arg5.view.readAt (Elt Ideal) (Rect.unit (s := S512x2048) (k0_off17 k) S16x128.size (k0_off17_inb k)).toLoadRect X) := rfl

theorem quant18 (arg5 : Memref sig .tc .vmem S512x2048 .bf16) (X : BufTy.Contents (Elt Ideal) arg5.view.ty) (k : Fin k0_t3_loop.trips) :
    k0_pay61 (trip_k0_t3.sl.r_41 arg5 X k) (trip_k0_t3.sl.r_45 arg5 X k) (trip_k0_t3.sl.r_46 arg5 X k) k0_pay60 = quant (F := Ideal) (k0_pay10 k0_pay3 (arg5.view.readAt (Elt Ideal) (Rect.unit (s := S512x2048) (k0_off18 k) S16x128.size (k0_off18_inb k)).toLoadRect X)) (arg5.view.readAt (Elt Ideal) (Rect.unit (s := S512x2048) (k0_off18 k) S16x128.size (k0_off18_inb k)).toLoadRect X) := rfl

theorem quant19 (arg5 : Memref sig .tc .vmem S512x2048 .bf16) (X : BufTy.Contents (Elt Ideal) arg5.view.ty) (k : Fin k0_t3_loop.trips) :
    k0_pay66 (trip_k0_t3.sl.r_47 arg5 X k) (trip_k0_t3.sl.r_51 arg5 X k) = quant (F := Ideal) (k0_pay10 k0_pay3 (arg5.view.readAt (Elt Ideal) (Rect.unit (s := S512x2048) (k0_off19 k) S16x128.size (k0_off19_inb k)).toLoadRect X)) (arg5.view.readAt (Elt Ideal) (Rect.unit (s := S512x2048) (k0_off19 k) S16x128.size (k0_off19_inb k)).toLoadRect X) := rfl

theorem quant20 (arg5 : Memref sig .tc .vmem S512x2048 .bf16) (X : BufTy.Contents (Elt Ideal) arg5.view.ty) (k : Fin k0_t3_loop.trips) :
    k0_pay71 (trip_k0_t3.sl.r_52 arg5 X k) (trip_k0_t3.sl.r_53 arg5 X k) (trip_k0_t3.sl.r_55 arg5 X k) = quant (F := Ideal) (k0_pay10 k0_pay3 (arg5.view.readAt (Elt Ideal) (Rect.unit (s := S512x2048) (k0_off20 k) S16x128.size (k0_off20_inb k)).toLoadRect X)) (arg5.view.readAt (Elt Ideal) (Rect.unit (s := S512x2048) (k0_off20 k) S16x128.size (k0_off20_inb k)).toLoadRect X) := rfl

theorem quant21 (arg5 : Memref sig .tc .vmem S512x2048 .bf16) (X : BufTy.Contents (Elt Ideal) arg5.view.ty) (k : Fin k0_t3_loop.trips) :
    k0_pay76 (trip_k0_t3.sl.r_56 arg5 X k) (trip_k0_t3.sl.r_58 arg5 X k) (trip_k0_t3.sl.r_59 arg5 X k) = quant (F := Ideal) (k0_pay10 k0_pay3 (arg5.view.readAt (Elt Ideal) (Rect.unit (s := S512x2048) (k0_off21 k) S16x128.size (k0_off21_inb k)).toLoadRect X)) (arg5.view.readAt (Elt Ideal) (Rect.unit (s := S512x2048) (k0_off21 k) S16x128.size (k0_off21_inb k)).toLoadRect X) := rfl

theorem quant22 (arg5 : Memref sig .tc .vmem S512x2048 .bf16) (X : BufTy.Contents (Elt Ideal) arg5.view.ty) (k : Fin k0_t3_loop.trips) :
    k0_pay80 (trip_k0_t3.sl.r_60 arg5 X k) (trip_k0_t3.sl.r_62 arg5 X k) (trip_k0_t3.sl.r_63 arg5 X k) = quant (F := Ideal) (k0_pay10 k0_pay3 (arg5.view.readAt (Elt Ideal) (Rect.unit (s := S512x2048) (k0_off22 k) S16x128.size (k0_off22_inb k)).toLoadRect X)) (arg5.view.readAt (Elt Ideal) (Rect.unit (s := S512x2048) (k0_off22 k) S16x128.size (k0_off22_inb k)).toLoadRect X) := rfl

theorem quant23 (arg5 : Memref sig .tc .vmem S512x2048 .bf16) (X : BufTy.Contents (Elt Ideal) arg5.view.ty) (k : Fin k0_t3_loop.trips) :
    k0_pay84 (trip_k0_t3.sl.r_64 arg5 X k) (trip_k0_t3.sl.r_66 arg5 X k) (trip_k0_t3.sl.r_67 arg5 X k) = quant (F := Ideal) (k0_pay10 k0_pay3 (arg5.view.readAt (Elt Ideal) (Rect.unit (s := S512x2048) (k0_off23 k) S16x128.size (k0_off23_inb k)).toLoadRect X)) (arg5.view.readAt (Elt Ideal) (Rect.unit (s := S512x2048) (k0_off23 k) S16x128.size (k0_off23_inb k)).toLoadRect X) := rfl

theorem quant24 (arg5 : Memref sig .tc .vmem S512x2048 .bf16) (X : BufTy.Contents (Elt Ideal) arg5.view.ty) (k : Fin k0_t3_loop.trips) :
    k0_pay89 (trip_k0_t3.sl.r_72 arg5 X k) = quant (F := Ideal) (k0_pay10 k0_pay3 (arg5.view.readAt (Elt Ideal) (Rect.unit (s := S512x2048) (k0_off24 k) S16x128.size (k0_off24_inb k)).toLoadRect X)) (arg5.view.readAt (Elt Ideal) (Rect.unit (s := S512x2048) (k0_off24 k) S16x128.size (k0_off24_inb k)).toLoadRect X) := rfl

theorem quant25 (arg5 : Memref sig .tc .vmem S512x2048 .bf16) (X : BufTy.Contents (Elt Ideal) arg5.view.ty) (k : Fin k0_t3_loop.trips) :
    k0_pay4 (trip_k0_t3.sl.r_73 arg5 X k) (trip_k0_t3.sl.r_76 arg5 X k) (trip_k0_t3.sl.r_77 arg5 X k) = quant (F := Ideal) (k0_pay10 k0_pay3 (arg5.view.readAt (Elt Ideal) (Rect.unit (s := S512x2048) (k0_off25 k) S16x128.size (k0_off25_inb k)).toLoadRect X)) (arg5.view.readAt (Elt Ideal) (Rect.unit (s := S512x2048) (k0_off25 k) S16x128.size (k0_off25_inb k)).toLoadRect X) := rfl

end Cert.KernelIdeal.Gen
-- ==== Proof.RowsIdeal.lean ====
module

public import proofs.«01_k».proof.Proof.ChunksIdeal
public import proofs.«01_k».proof.Proof.BodyIdeal

/-! The loop that fills the buffer of scaled rows, over the exact reals: its sixteen stores a trip cover
sixteen rows, its thirty-two trips the block, and what it stores is the row block itself. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

/-- What holds of every piece of every trip holds of every piece of the loop. -/
theorem pb3_all (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg5.view.ty)
    (P : View.Piece (Elt Ideal) S512x2048 .bf16 → Prop) (hP : ∀ k, ∀ p ∈ tripL_k0_t3 (F := Ideal) 𝒱 c bd i arg1 harg1 arg2 harg2 arg3 harg3 arg4 harg4 arg5 harg5 arg6 harg6 arg7 harg7 arg8 harg8 arg9 harg9 arg10 harg10 arg11 harg11 X k, P p) :
    ∀ n, n ≤ k0_t3_loop.trips → ∀ p ∈ pb_k0_t3 (F := Ideal) 𝒱 c bd i arg1 harg1 arg2 harg2 arg3 harg3 arg4 harg4 arg5 harg5 arg6 harg6 arg7 harg7 arg8 harg8 arg9 harg9 arg10 harg10 arg11 harg11 X n, P p
  | 0, _, p, hp => by rw [pb_k0_t3.eq_1] at hp; exact absurd hp List.not_mem_nil
  | n + 1, hn, p, hp => by
    rw [pb_k0_t3_succ (F := Ideal) 𝒱 c bd i arg1 harg1 arg2 harg2 arg3 harg3 arg4 harg4 arg5 harg5 arg6 harg6 arg7 harg7 arg8 harg8 arg9 harg9 arg10 harg10 arg11 harg11 X ⟨n, hn⟩] at hp
    rcases List.mem_append.1 hp with h | h
    · exact hP ⟨n, hn⟩ p h
    · exact pb3_all 𝒱 c bd i arg1 harg1 arg2 harg2 arg3 harg3 arg4 harg4 arg5 harg5 arg6 harg6 arg7 harg7 arg8 harg8 arg9 harg9 arg10 harg10 arg11 harg11 X P hP n (Nat.le_of_succ_le hn) p h

/-- Every piece of a trip below `n` is among the pieces of the first `n` trips. -/
theorem pb3_mem (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg5.view.ty)
    (k : Fin k0_t3_loop.trips) (p : View.Piece (Elt Ideal) S512x2048 .bf16) (hp : p ∈ tripL_k0_t3 (F := Ideal) 𝒱 c bd i arg1 harg1 arg2 harg2 arg3 harg3 arg4 harg4 arg5 harg5 arg6 harg6 arg7 harg7 arg8 harg8 arg9 harg9 arg10 harg10 arg11 harg11 X k) :
    ∀ n, n ≤ k0_t3_loop.trips → k.val < n → p ∈ pb_k0_t3 (F := Ideal) 𝒱 c bd i arg1 harg1 arg2 harg2 arg3 harg3 arg4 harg4 arg5 harg5 arg6 harg6 arg7 harg7 arg8 harg8 arg9 harg9 arg10 harg10 arg11 harg11 X n
  | 0, _, h => absurd h (Nat.not_lt_zero _)
  | n + 1, hn, h => by
    rw [pb_k0_t3_succ (F := Ideal) 𝒱 c bd i arg1 harg1 arg2 harg2 arg3 harg3 arg4 harg4 arg5 harg5 arg6 harg6 arg7 harg7 arg8 harg8 arg9 harg9 arg10 harg10 arg11 harg11 X ⟨n, hn⟩]
    rcases Nat.lt_succ_iff_lt_or_eq.1 h with h | h
    · exact List.mem_append_right _ (pb3_mem 𝒱 c bd i arg1 harg1 arg2 harg2 arg3 harg3 arg4 harg4 arg5 harg5 arg6 harg6 arg7 harg7 arg8 harg8 arg9 harg9 arg10 harg10 arg11 harg11 X k p hp n (Nat.le_of_succ_le hn) h)
    · obtain rfl : k = ⟨n, hn⟩ := Fin.ext h
      exact List.mem_append_left _ hp

/-- Every piece one trip writes is the row block over the piece's rectangle. -/
theorem tripX (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg5.view.ty)
    (hfin : ∀ y, arg5.view.read (Elt Ideal) X y ≠ (⊤ : EReal) ∧ arg5.view.read (Elt Ideal) X y ≠ (⊥ : EReal)) (k : Fin k0_t3_loop.trips) :
    ∀ p ∈ tripL_k0_t3 (F := Ideal) 𝒱 c bd i arg1 harg1 arg2 harg2 arg3 harg3 arg4 harg4 arg5 harg5 arg6 harg6 arg7 harg7 arg8 harg8 arg9 harg9 arg10 harg10 arg11 harg11 X k, ∀ x : p.1.shape.Idx, p.2 x = arg5.view.read (Elt Ideal) X (p.1.emb x) := by
  unfold tripL_k0_t3 trip_k0_t3
  dsimp only
  refine List.forall_mem_cons.2 ⟨fun x => (congrFun (quant25 arg5 X k) x).trans (quant_at _ _ x (hfin _)), ?_⟩
  refine List.forall_mem_cons.2 ⟨fun x => (congrFun (quant24 arg5 X k) x).trans (quant_at _ _ x (hfin _)), ?_⟩
  refine List.forall_mem_cons.2 ⟨fun x => (congrFun (quant23 arg5 X k) x).trans (quant_at _ _ x (hfin _)), ?_⟩
  refine List.forall_mem_cons.2 ⟨fun x => (congrFun (quant22 arg5 X k) x).trans (quant_at _ _ x (hfin _)), ?_⟩
  refine List.forall_mem_cons.2 ⟨fun x => (congrFun (quant21 arg5 X k) x).trans (quant_at _ _ x (hfin _)), ?_⟩
  refine List.forall_mem_cons.2 ⟨fun x => (congrFun (quant20 arg5 X k) x).trans (quant_at _ _ x (hfin _)), ?_⟩
  refine List.forall_mem_cons.2 ⟨fun x => (congrFun (quant19 arg5 X k) x).trans (quant_at _ _ x (hfin _)), ?_⟩
  refine List.forall_mem_cons.2 ⟨fun x => (congrFun (quant18 arg5 X k) x).trans (quant_at _ _ x (hfin _)), ?_⟩
  refine List.forall_mem_cons.2 ⟨fun x => (congrFun (quant17 arg5 X k) x).trans (quant_at _ _ x (hfin _)), ?_⟩
  refine List.forall_mem_cons.2 ⟨fun x => (congrFun (quant16 arg5 X k) x).trans (quant_at _ _ x (hfin _)), ?_⟩
  refine List.forall_mem_cons.2 ⟨fun x => (congrFun (quant15 arg5 X k) x).trans (quant_at _ _ x (hfin _)), ?_⟩
  refine List.forall_mem_cons.2 ⟨fun x => (congrFun (quant14 arg5 X k) x).trans (quant_at _ _ x (hfin _)), ?_⟩
  refine List.forall_mem_cons.2 ⟨fun x => (congrFun (quant13 arg5 X k) x).trans (quant_at _ _ x (hfin _)), ?_⟩
  refine List.forall_mem_cons.2 ⟨fun x => (congrFun (quant12 arg5 X k) x).trans (quant_at _ _ x (hfin _)), ?_⟩
  refine List.forall_mem_cons.2 ⟨fun x => (congrFun (quant11 arg5 X k) x).trans (quant_at _ _ x (hfin _)), ?_⟩
  refine List.forall_mem_cons.2 ⟨fun x => (congrFun (quant10 arg5 X k) x).trans (quant_at _ _ x (hfin _)), ?_⟩
  intro p hp; exact absurd hp List.not_mem_nil

/-- The sixteen pieces of a trip cover its sixteen rows. -/
theorem tripX_cover (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg5.view.ty) (k : Fin k0_t3_loop.trips) (y : S512x2048.Idx)
    (hy : (y 0).val / 16 = k.val) : ∃ p ∈ tripL_k0_t3 (F := Ideal) 𝒱 c bd i arg1 harg1 arg2 harg2 arg3 harg3 arg4 harg4 arg5 harg5 arg6 harg6 arg7 harg7 arg8 harg8 arg9 harg9 arg10 harg10 arg11 harg11 X k, y ∈ p.1.set := by
  have h1 : (y 1).val < 2048 := (y 1).isLt
  have key : ∀ (off : Fin 2 → ℕ) (inb : ∀ a, off a + S16x128.size a ≤ S512x2048.size a) (c : ℕ), off = ![16 * k.val, 128 * c] → (y 1).val / 128 = c →
      y ∈ (Rect.unit (s := S512x2048) off S16x128.size inb).set := by
    rintro off inb c rfl hc
    rw [Rect.mem_set_unit]
    intro a
    match a with
    | ⟨0, _⟩ => show 16 * k.val ≤ (y 0).val ∧ (y 0).val < 16 * k.val + 16; omega
    | ⟨1, _⟩ => show 128 * c ≤ (y 1).val ∧ (y 1).val < 128 * c + 128; omega
  have hc : (y 1).val / 128 < 16 := by omega
  unfold tripL_k0_t3 trip_k0_t3
  dsimp only
  generalize hg : (y 1).val / 128 = c at hc key
  interval_cases c
  · exact ⟨_, .tail _ (.tail _ (.tail _ (.tail _ (.tail _ (.tail _ (.tail _ (.tail _ (.tail _ (.tail _ (.tail _ (.tail _ (.tail _ (.tail _ (.tail _ (.head _))))))))))))))), key (k0_off10 k) (k0_off10_inb k) 0 (k0_off10_eq k) rfl⟩
  · exact ⟨_, .tail _ (.tail _ (.tail _ (.tail _ (.tail _ (.tail _ (.tail _ (.tail _ (.tail _ (.tail _ (.tail _ (.tail _ (.tail _ (.tail _ (.head _)))))))))))))), key (k0_off11 k) (k0_off11_inb k) 1 (k0_off11_eq k) rfl⟩
  · exact ⟨_, .tail _ (.tail _ (.tail _ (.tail _ (.tail _ (.tail _ (.tail _ (.tail _ (.tail _ (.tail _ (.tail _ (.tail _ (.tail _ (.head _))))))))))))), key (k0_off12 k) (k0_off12_inb k) 2 (k0_off12_eq k) rfl⟩
  · exact ⟨_, .tail _ (.tail _ (.tail _ (.tail _ (.tail _ (.tail _ (.tail _ (.tail _ (.tail _ (.tail _ (.tail _ (.tail _ (.head _)))))))))))), key (k0_off13 k) (k0_off13_inb k) 3 (k0_off13_eq k) rfl⟩
  · exact ⟨_, .tail _ (.tail _ (.tail _ (.tail _ (.tail _ (.tail _ (.tail _ (.tail _ (.tail _ (.tail _ (.tail _ (.head _))))))))))), key (k0_off14 k) (k0_off14_inb k) 4 (k0_off14_eq k) rfl⟩
  · exact ⟨_, .tail _ (.tail _ (.tail _ (.tail _ (.tail _ (.tail _ (.tail _ (.tail _ (.tail _ (.tail _ (.head _)))))))))), key (k0_off15 k) (k0_off15_inb k) 5 (k0_off15_eq k) rfl⟩
  · exact ⟨_, .tail _ (.tail _ (.tail _ (.tail _ (.tail _ (.tail _ (.tail _ (.tail _ (.tail _ (.head _))))))))), key (k0_off16 k) (k0_off16_inb k) 6 (k0_off16_eq k) rfl⟩
  · exact ⟨_, .tail _ (.tail _ (.tail _ (.tail _ (.tail _ (.tail _ (.tail _ (.tail _ (.head _)))))))), key (k0_off17 k) (k0_off17_inb k) 7 (k0_off17_eq k) rfl⟩
  · exact ⟨_, .tail _ (.tail _ (.tail _ (.tail _ (.tail _ (.tail _ (.tail _ (.head _))))))), key (k0_off18 k) (k0_off18_inb k) 8 (k0_off18_eq k) rfl⟩
  · exact ⟨_, .tail _ (.tail _ (.tail _ (.tail _ (.tail _ (.tail _ (.head _)))))), key (k0_off19 k) (k0_off19_inb k) 9 (k0_off19_eq k) rfl⟩
  · exact ⟨_, .tail _ (.tail _ (.tail _ (.tail _ (.tail _ (.head _))))), key (k0_off20 k) (k0_off20_inb k) 10 (k0_off20_eq k) rfl⟩
  · exact ⟨_, .tail _ (.tail _ (.tail _ (.tail _ (.head _)))), key (k0_off21 k) (k0_off21_inb k) 11 (k0_off21_eq k) rfl⟩
  · exact ⟨_, .tail _ (.tail _ (.tail _ (.head _))), key (k0_off22 k) (k0_off22_inb k) 12 (k0_off22_eq k) rfl⟩
  · exact ⟨_, .tail _ (.tail _ (.head _)), key (k0_off23 k) (k0_off23_inb k) 13 (k0_off23_eq k) rfl⟩
  · exact ⟨_, .tail _ (.head _), key (k0_off24 k) (k0_off24_inb k) 14 (k0_off24_eq k) rfl⟩
  · exact ⟨_, .head _, key (k0_off25 k) (k0_off25_inb k) 15 (k0_off25_eq k) rfl⟩

theorem trips3 : k0_t3_loop.trips = 32 := by decide +kernel

/-- The buffer of scaled rows after the loop is the row block. -/
theorem newX_read (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X : BufTy.Contents (Elt Ideal) arg5.view.ty) (X10 : BufTy.Contents (Elt Ideal) arg10.view.ty)
    (hfin : ∀ y, arg5.view.read (Elt Ideal) X y ≠ (⊤ : EReal) ∧ arg5.view.read (Elt Ideal) X y ≠ (⊥ : EReal)) :
    arg10.view.read (Elt Ideal) (newX (F := Ideal) 𝒱 c bd i arg1 harg1 arg2 harg2 arg3 harg3 arg4 harg4 arg5 harg5 arg6 harg6 arg7 harg7 arg8 harg8 arg9 harg9 arg10 harg10 arg11 harg11 X X10) = arg5.view.read (Elt Ideal) X := by
  funext y
  have hy0 : (y 0).val < 512 := (y 0).isLt
  have hk : (y 0).val / 16 < k0_t3_loop.trips := by rw [trips3]; omega
  obtain ⟨p, hp, hm⟩ := tripX_cover 𝒱 c bd i arg1 harg1 arg2 harg2 arg3 harg3 arg4 harg4 arg5 harg5 arg6 harg6 arg7 harg7 arg8 harg8 arg9 harg9 arg10 harg10 arg11 harg11 X ⟨(y 0).val / 16, hk⟩ y rfl
  have hcov : ∃ p ∈ pb_k0_t3 (F := Ideal) 𝒱 c bd i arg1 harg1 arg2 harg2 arg3 harg3 arg4 harg4 arg5 harg5 arg6 harg6 arg7 harg7 arg8 harg8 arg9 harg9 arg10 harg10 arg11 harg11 X k0_t3_loop.trips, y ∈ p.1.set :=
    ⟨p, pb3_mem 𝒱 c bd i arg1 harg1 arg2 harg2 arg3 harg3 arg4 harg4 arg5 harg5 arg6 harg6 arg7 harg7 arg8 harg8 arg9 harg9 arg10 harg10 arg11 harg11 X _ p hp _ le_rfl hk, hm⟩
  refine (View.read_writes_apply_eq_canon arg10.view X10 y _ hcov).trans ?_
  exact View.canon_apply_of_pieces (arg5.view.read (Elt Ideal) X) _
    (pb3_all 𝒱 c bd i arg1 harg1 arg2 harg2 arg3 harg3 arg4 harg4 arg5 harg5 arg6 harg6 arg7 harg7 arg8 harg8 arg9 harg9 arg10 harg10 arg11 harg11 X (fun p => ∀ x : p.1.shape.Idx, p.2 x = arg5.view.read (Elt Ideal) X (p.1.emb x)) (tripX 𝒱 c bd i arg1 harg1 arg2 harg2 arg3 harg3 arg4 harg4 arg5 harg5 arg6 harg6 arg7 harg7 arg8 harg8 arg9 harg9 arg10 harg10 arg11 harg11 X hfin) _ le_rfl) y hcov

end Cert.KernelIdeal.Gen
-- ==== Proof.VisitIdeal.lean ====
module

public import proofs.«01_k».proof.Proof.StoreIdeal
public import proofs.«01_k».proof.Proof.RowsIdeal
public import proofs.«01_k».proof.Proof.Visits

/-! One visit of the grid. Between visits the scratch buffers hold the last visit's expert's decoded weights and
the last visit's tile of rows; a tile's output block holds, up to the last visited expert's end, the product
of each row with its own expert's weights. A visit keeps both facts. -/

@[expose] public section

set_option maxRecDepth 100000
noncomputable section
namespace Cert.KernelIdeal.Gen

open Idealize.ShloMosaic Idealize.ShloMosaic.TcCoe Idealize.ShloMosaic.ValueIdx
open Idealize.SL Idealize.SL.Sem
open Cert.KernelIdeal Facts₀ Facts

section
variable (G : ℕ → ℕ) (x : S32768x2048.Idx → EReal) (w : S8x1024x6144.Idx → BitVec 8) (s : S8x64x6144.Idx → BitVec 8)

/-- Expert `e`'s decoded weight at row `k`, column `n`. -/
def wt (e : Fin 8) (k : Fin 2048) (n : Fin 6144) : EReal :=
  weight (fun y => w (ix3 e (y 1) (y 2))) (fun y => s (ix3 e (y 1) (y 2))) k n

/-- A row's product with expert `e`'s weights. -/
def prod (e : Fin 8) (row : Fin 32768) (n : Fin 6144) : EReal := ∑ k : Fin 2048, x (ix2 row k) * wt w s e k n

/-- What the scratch buffers hold before visit `p`: the last visit's weights and rows. -/
def Held (p : ℕ) (X9 : S2048x6144.Idx → EReal) (X10 : S512x2048.Idx → EReal) : Prop :=
  1 ≤ p → (∀ (e : Fin 8) k n, e.val = Visits.ex G (p - 1) → X9 (ix2 k n) = wt w s e k n)
    ∧ ∀ (r : Fin 512) k (row : Fin 32768), row.val = 512 * Visits.ti G (p - 1) + r.val → X10 (ix2 r k) = x (ix2 row k)

/-- What a tile's output block holds after visit `p`: the products of every row before the visited expert's end. -/
def Done (p : ℕ) (X : S512x6144.Idx → EReal) : Prop :=
  ∀ (r : Fin 512) n (e : Fin 8) (row : Fin 32768), row.val = 512 * Visits.ti G p + r.val → row.val < Visits.E G (Visits.ex G p) →
    Visits.S G e.val ≤ row.val → row.val < Visits.E G e.val → X (ix2 r n) = prod x w s e row n
end

/-- A row belongs to one expert. -/
theorem expert_unique {G : ℕ → ℕ} {a b row : ℕ} (ha1 : Visits.S G a ≤ row) (ha2 : row < Visits.E G a) (hb1 : Visits.S G b ≤ row) (hb2 : row < Visits.E G b) : a = b := by
  rcases Nat.lt_trichotomy a b with h | h | h
  · exfalso
    obtain ⟨k, rfl⟩ := Nat.exists_eq_add_of_lt h
    have h1 : Visits.S G (a + k + 1) = Visits.E G (a + k) := Visits.S_succ _
    have h2 := Visits.E_mono (G := G) (show a ≤ a + k by omega)
    omega
  · exact h
  · exfalso
    obtain ⟨k, rfl⟩ := Nat.exists_eq_add_of_lt h
    have h1 : Visits.S G (b + k + 1) = Visits.E G (b + k) := Visits.S_succ _
    have h2 := Visits.E_mono (G := G) (show b ≤ b + k by omega)
    omega

theorem and_bit (a b : BitVec 1) : Scalar.andi a b = 1#1 ↔ a = 1#1 ∧ b = 1#1 := by revert a b; decide
theorem or_bit (a b : BitVec 1) : Scalar.ori a b = 1#1 ↔ a = 1#1 ∨ b = 1#1 := by revert a b; decide
theorem ne_word (a b : ℕ) (ha : a < 2147483648) (hb : b < 2147483648) : Scalar.cmpi .ne (BitVec.ofNat 32 a) (BitVec.ofNat 32 b) = 1#1 ↔ a ≠ b := by
  show BitVec.ofBool (BitVec.ofNat 32 a != BitVec.ofNat 32 b) = 1#1 ↔ _
  have h : BitVec.ofNat 32 a = BitVec.ofNat 32 b ↔ a = b := ⟨fun h => by
    have h := congrArg BitVec.toInt h
    rw [toInt_small a ha, toInt_small b hb] at h; omega, fun h => by rw [h]⟩
  by_cases e : a = b
  · subst e; simp
  · have e' : ¬ BitVec.ofNat 32 a = BitVec.ofNat 32 b := fun hh => e (h.1 hh)
    simp only [bne, beq_eq_false_iff_ne.2 e']
    simpa using e
theorem eq_word (a b : ℕ) (ha : a < 2147483648) (hb : b < 2147483648) : Scalar.cmpi .eq (BitVec.ofNat 32 a) (BitVec.ofNat 32 b) = 1#1 ↔ a = b := by
  show BitVec.ofBool (BitVec.ofNat 32 a == BitVec.ofNat 32 b) = 1#1 ↔ _
  have h : BitVec.ofNat 32 a = BitVec.ofNat 32 b ↔ a = b := ⟨fun h => by
    have h := congrArg BitVec.toInt h
    rw [toInt_small a ha, toInt_small b hb] at h; omega, fun h => by rw [h]⟩
  by_cases e : a = b
  · subst e; simp
  · have e' : ¬ BitVec.ofNat 32 a = BitVec.ofNat 32 b := fun hh => e (h.1 hh)
    rw [beq_eq_false_iff_ne.2 e']
    simpa using e
theorem sgt_word (a b : ℕ) (ha : a < 2147483648) (hb : b < 2147483648) : Scalar.cmpi .sgt (BitVec.ofNat 32 a) (BitVec.ofNat 32 b) = 1#1 ↔ b < a := by
  show BitVec.ofBool ((BitVec.ofNat 32 b).slt (BitVec.ofNat 32 a)) = 1#1 ↔ _
  unfold BitVec.slt
  rw [toInt_small a ha, toInt_small b hb]
  by_cases e : b < a
  · simp [e]
  · simp [e]

/-- The conditions of a visit, over the tables' numbers. -/
theorem condV_iff {G : ℕ → ℕ} (hG : Visits.E G 7 = 32768) (i : grid0.Coords) (arg3 arg4 : Memref sig .tc .smem S71 .i32) (X3 : BufTy.Contents (Elt Ideal) arg3.view.ty) (X4 : BufTy.Contents (Elt Ideal) arg4.view.ty)
    (h3 : wordAt arg3 X3 (k0_off1 i) (k0_off1_inb i) = BitVec.ofNat 32 (Visits.lo G (i 0).val)) (h4 : wordAt arg4 X4 (k0_off1 i) (k0_off1_inb i) = BitVec.ofNat 32 (Visits.hi G (i 0).val))
    (hlo : Visits.lo G (i 0).val ≤ 32768) (hhi : Visits.hi G (i 0).val ≤ 32768) :
    condV (F := Ideal) i arg3 arg4 X3 X4 = 1#1 ↔ (i 0).val < Visits.tot G := by
  unfold condV
  rw [h3, h4, sgt_word _ _ (by omega) (by omega)]
  refine ⟨fun h => ?_, fun h => Visits.lo_lt_hi hG h⟩
  by_contra hn
  rw [Visits.hi_eq_lo hn] at h
  exact lt_irrefl _ h

theorem condN_iff {G : ℕ → ℕ} (hG : Visits.E G 7 = 32768) (i : grid0.Coords) (arg2 arg3 arg4 : Memref sig .tc .smem S71 .i32) (X2 : BufTy.Contents (Elt Ideal) arg2.view.ty) (X3 : BufTy.Contents (Elt Ideal) arg3.view.ty) (X4 : BufTy.Contents (Elt Ideal) arg4.view.ty)
    (h3 : wordAt arg3 X3 (k0_off1 i) (k0_off1_inb i) = BitVec.ofNat 32 (Visits.lo G (i 0).val)) (h4 : wordAt arg4 X4 (k0_off1 i) (k0_off1_inb i) = BitVec.ofNat 32 (Visits.hi G (i 0).val))
    (hlo : Visits.lo G (i 0).val ≤ 32768) (hhi : Visits.hi G (i 0).val ≤ 32768) (a b : ℕ) (ha : a < 64) (hb : b < 64)
    (h1 : wordAt arg2 X2 (k0_off1 i) (k0_off1_inb i) = BitVec.ofNat 32 a) (h2 : wordAt arg2 X2 (k0_off2 i) (k0_off2_inb i) = BitVec.ofNat 32 b) :
    condN (F := Ideal) i arg2 arg3 arg4 X2 X3 X4 = 1#1 ↔ (i 0).val < Visits.tot G ∧ ((i 0).val = 0 ∨ a ≠ b) := by
  have hi : (i 0).val < 71 := (i 0).isLt
  unfold condN
  rw [and_bit, condV_iff hG i arg3 arg4 X3 X4 h3 h4 hlo hhi, or_bit, h1, h2, ne_word _ _ (by omega) (by omega)]
  exact and_congr Iff.rfl (or_congr (eq_word (i 0).val 0 (by omega) (by omega)) Iff.rfl)

/-- One visit keeps what the scratch buffers and the output block hold. -/
theorem visit_ok {G : ℕ → ℕ} (hG : Visits.E G 7 = 32768) (x : S32768x2048.Idx → EReal) (hx : ∀ j, x j ≠ ⊤ ∧ x j ≠ ⊥) (w : S8x1024x6144.Idx → BitVec 8) (s : S8x64x6144.Idx → BitVec 8)
    (𝒱 : Variants) (c : Dev nD) (bd : Option 𝒱.V) (i : grid0.Coords) (arg1 : Memref sig .tc .smem S71 .i32) (harg1 : arg1.IsWhole) (arg2 : Memref sig .tc .smem S71 .i32) (harg2 : arg2.IsWhole) (arg3 : Memref sig .tc .smem S71 .i32) (harg3 : arg3.IsWhole) (arg4 : Memref sig .tc .smem S71 .i32) (harg4 : arg4.IsWhole) (arg5 : Memref sig .tc .vmem S512x2048 .bf16) (harg5 : arg5.IsWhole) (arg6 : Memref sig .tc .vmem S1x1024x6144 .i8) (harg6 : arg6.IsWhole) (arg7 : Memref sig .tc .vmem S1x64x6144 .i8) (harg7 : arg7.IsWhole) (arg8 : Memref sig .tc .vmem S512x6144 .bf16) (harg8 : arg8.IsWhole) (arg9 : Memref sig .tc .vmem S2048x6144 .bf16) (harg9 : arg9.IsWhole) (arg10 : Memref sig .tc .vmem S512x2048 .bf16) (harg10 : arg10.IsWhole) (arg11 : Memref sig .tc .vmem S64x6144 .i32) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (W8 : BufTy.Contents (Elt Ideal) arg8.view.ty) (W9 : BufTy.Contents (Elt Ideal) arg9.view.ty) (W10 : BufTy.Contents (Elt Ideal) arg10.view.ty) (W11 : BufTy.Contents (Elt Ideal) arg11.view.ty)
    (hT1 : wordAt arg1 X1 (k0_off1 i) (k0_off1_inb i) = BitVec.ofNat 32 (Visits.ti G (i 0).val)) (hT2 : wordAt arg1 X1 (k0_off2 i) (k0_off2_inb i) = BitVec.ofNat 32 (Visits.ti G ((i 0).val - 1)))
    (hT3 : wordAt arg1 X1 (k0_off26 i) (k0_off26_inb i) = BitVec.ofNat 32 (Visits.ti G (i 0).val))
    (hE1 : wordAt arg2 X2 (k0_off1 i) (k0_off1_inb i) = BitVec.ofNat 32 (Visits.ex G (i 0).val)) (hE2 : wordAt arg2 X2 (k0_off2 i) (k0_off2_inb i) = BitVec.ofNat 32 (Visits.ex G ((i 0).val - 1)))
    (hL : wordAt arg3 X3 (k0_off1 i) (k0_off1_inb i) = BitVec.ofNat 32 (Visits.lo G (i 0).val)) (hH : wordAt arg4 X4 (k0_off1 i) (k0_off1_inb i) = BitVec.ofNat 32 (Visits.hi G (i 0).val))
    (hF5 : (i 0).val = 0 ∨ Visits.ti G (i 0).val ≠ Visits.ti G ((i 0).val - 1) → ∀ (r : Fin 512) k (row : Fin 32768), row.val = 512 * Visits.ti G (i 0).val + r.val → arg5.view.read (Elt Ideal) X5 (ix2 r k) = x (ix2 row k))
    (hF6 : (i 0).val = 0 ∨ Visits.ex G (i 0).val ≠ Visits.ex G ((i 0).val - 1) → ∀ (e : Fin 8), e.val = Visits.ex G (i 0).val → arg6.view.read (Elt Ideal) X6 = fun y => w (ix3 e (y 1) (y 2)))
    (hF7 : (i 0).val = 0 ∨ Visits.ex G (i 0).val ≠ Visits.ex G ((i 0).val - 1) → ∀ (e : Fin 8), e.val = Visits.ex G (i 0).val → arg7.view.read (Elt Ideal) X7 = fun y => s (ix3 e (y 1) (y 2)))
    (hF8 : ¬ ((i 0).val = 0 ∨ Visits.ti G (i 0).val ≠ Visits.ti G ((i 0).val - 1)) → Done G x w s ((i 0).val - 1) (arg8.view.read (Elt Ideal) X8))
    (hJ : Held G x w s (i 0).val (arg9.view.read (Elt Ideal) X9) (arg10.view.read (Elt Ideal) X10))
    (hB : BodyRel (F := Ideal) 𝒱 c bd i arg1 harg1 arg2 harg2 arg3 harg3 arg4 harg4 arg5 harg5 arg6 harg6 arg7 harg7 arg8 harg8 arg9 harg9 arg10 harg10 arg11 harg11 X1 X2 X3 X4 X5 X6 X7 X8 X9 X10 X11 W8 W9 W10 W11) :
    Held G x w s ((i 0).val + 1) (arg9.view.read (Elt Ideal) W9) (arg10.view.read (Elt Ideal) W10)
      ∧ Done G x w s (i 0).val (arg8.view.read (Elt Ideal) W8) := by
  obtain ⟨b1, b2, -, -, b5, b6, b7, b8⟩ := hB
  have hi : (i 0).val < 71 := (i 0).isLt
  generalize hp : (i 0).val = p at *
  have hex := (Visits.ex_spec hG p).1
  have hex' := (Visits.ex_spec hG (p - 1)).1
  have hti := Visits.ti_lt hG p
  have hti' := Visits.ti_lt hG (p - 1)
  have hSE := Visits.E_eq (G := G) (Visits.ex G p)
  have hEl := Visits.E_le (G := G) hex hG
  have hlo : Visits.lo G p ≤ 32768 := by unfold Visits.lo; omega
  have hhi : Visits.hi G p ≤ 32768 := by unfold Visits.hi; split; exact hEl; exact hlo
  have cV := condV_iff hG i arg3 arg4 X3 X4 (by rw [hp]; exact hL) (by rw [hp]; exact hH) (by rw [hp]; exact hlo) (by rw [hp]; exact hhi)
  have cE := condN_iff hG i arg2 arg3 arg4 X2 X3 X4 (by rw [hp]; exact hL) (by rw [hp]; exact hH) (by rw [hp]; exact hlo) (by rw [hp]; exact hhi) _ _ (by omega) (by omega) hE1 hE2
  have cT := condN_iff hG i arg1 arg3 arg4 X1 X3 X4 (by rw [hp]; exact hL) (by rw [hp]; exact hH) (by rw [hp]; exact hlo) (by rw [hp]; exact hhi) _ _ hti hti' hT1 hT2
  rw [hp] at cV cE cT
  by_cases hv : p < Visits.tot G
  · have hA : ∀ (e : Fin 8) k n, e.val = Visits.ex G p → arg9.view.read (Elt Ideal) W9 (ix2 k n) = wt w s e k n := by
      intro e k n he
      by_cases hn : p = 0 ∨ Visits.ex G p ≠ Visits.ex G (p - 1)
      · rw [b1 (cE.2 ⟨hv, hn⟩)]
        have h1 := newS_read 𝒱 c bd i arg1 harg1 arg2 harg2 arg3 harg3 arg4 harg4 arg5 harg5 arg6 harg6 arg7 harg7 arg8 harg8 arg9 harg9 arg10 harg10 arg11 harg11 X7 X11
        have h2 := newW_read 𝒱 c bd i arg1 harg1 arg2 harg2 arg3 harg3 arg4 harg4 arg5 harg5 arg6 harg6 arg7 harg7 arg8 harg8 arg9 harg9 arg10 harg10 arg11 harg11 X6 (newS (F := Ideal) 𝒱 c bd i arg1 harg1 arg2 harg2 arg3 harg3 arg4 harg4 arg5 harg5 arg6 harg6 arg7 harg7 arg8 harg8 arg9 harg9 arg10 harg10 arg11 harg11 X7 X11) X9 _ h1
        rw [h2, hF6 hn e he, hF7 hn e he]
        rfl
      · rw [b2 (fun h => hn (cE.1 h).2)]
        push Not at hn
        exact (hJ (by omega)).1 e k n (he.trans hn.2)
    have hR : ∀ (r : Fin 512) k (row : Fin 32768), row.val = 512 * Visits.ti G p + r.val → arg10.view.read (Elt Ideal) W10 (ix2 r k) = x (ix2 row k) := by
      intro r k row hrow
      by_cases hn : p = 0 ∨ Visits.ti G p ≠ Visits.ti G (p - 1)
      · rw [b5 (cT.2 ⟨hv, hn⟩), newX_read 𝒱 c bd i arg1 harg1 arg2 harg2 arg3 harg3 arg4 harg4 arg5 harg5 arg6 harg6 arg7 harg7 arg8 harg8 arg9 harg9 arg10 harg10 arg11 harg11 X5 X10 (fun y => ?_)]
        · exact hF5 hn r k row hrow
        · obtain ⟨r', k', rfl⟩ : ∃ (r' : Fin 512) (k' : Fin 2048), y = ix2 r' k' := ⟨y 0, y 1, eq_ix2 y⟩
          rw [hF5 hn r' k' ⟨512 * Visits.ti G p + r'.val, by omega⟩ rfl]
          exact hx _
      · rw [b6 (fun h => hn (cT.1 h).2)]
        push Not at hn
        exact (hJ (by omega)).2 r k row (by rw [hrow, hn.2])
    refine ⟨fun _ => ⟨hA, hR⟩, ?_⟩
    intro r n e row hrow hlt he1 he2
    rw [b7 (cV.2 hv), outL_read (Visits.lo G p) (Visits.hi G p) (Visits.ti G p) hti hlo hhi i arg1 arg3 arg4 arg8 arg9 arg10 X1 X3 X4 X8 W9 W10 hT3 hL hH]
    have hhi' : Visits.hi G p = Visits.E G (Visits.ex G p) := by unfold Visits.hi; rw [if_pos hv]
    unfold visited
    by_cases hin : Visits.S G (Visits.ex G p) ≤ row.val
    · have hee : e.val = Visits.ex G p := expert_unique he1 he2 hin hlt
      rw [if_pos ⟨by unfold Visits.lo; show _ ≤ 512 * Visits.ti G p + r.val; omega, by rw [hhi']; show 512 * Visits.ti G p + r.val < _; omega⟩]
      exact Finset.sum_congr rfl fun k _ => congrArg₂ (fun a b : EReal => a * b) (hR r k row hrow) (hA e k n hee)
    · rw [if_neg (fun h => hin (by have := h.1; unfold Visits.lo at this; change _ ≤ 512 * Visits.ti G p + r.val at this; omega))]
      have hnf : ¬ (p = 0 ∨ Visits.ti G p ≠ Visits.ti G (p - 1)) := fun h => hin (by have := Visits.first_visit hG h; omega)
      have h8 := hF8 hnf
      push Not at hnf
      have hst := Visits.same_tile hG hv (by omega) hnf.2
      exact h8 r n e row (by rw [hrow, hnf.2]) (by omega) he1 he2
  · have h1 := Visits.past_pos hG hv
    have he := Visits.ex_past hv h1
    have ht := Visits.ti_past hv h1
    rw [b2 (fun h => hv (cE.1 h).1), b6 (fun h => hv (cT.1 h).1), b8 (fun h => hv (cV.1 h))]
    refine ⟨fun _ => ?_, ?_⟩
    · rw [Nat.add_sub_cancel, he, ht]; exact hJ h1
    · have h8 := hF8 (by rintro (h | h); omega; exact h ht)
      unfold Done
      rw [he, ht]; exact h8

end Cert.KernelIdeal.Gen
-- ==== Proof.LaunchIdeal.lean ====
module
public import proofs.«01_k».proof.Proof.VisitIdeal
public import proofs.«01_k».proof.Proof.FrameIdeal
public import Idealize.ShloMosaic.Lib.Pipeline.ArrRel
public import Idealize.ShloMosaic.Lib.Pipeline.Covers
/-! The whole launch. The tables' words are the visit's numbers, the staged blocks are the blocks of the
arguments, and so each visit keeps what VisitIdeal states; the blocks written back cover the result, and every
element of it is its row's product with the weights of the row's own expert. -/
@[expose] public section
noncomputable section
namespace Cert.KernelIdeal.Gen
open Idealize.ShloMosaic Idealize.ShloMosaic.TcCoe Idealize.ShloMosaic.ValueIdx
open Idealize.SL Idealize.SL.Sem
open Cert.KernelIdeal Facts₀ Facts

theorem coords_val : ∀ t : Fin grid0.N, (grid0.coords t 0).val = t.val := by decide +kernel
theorem off2_eq : ∀ i : grid0.Coords, k0_off2 i = ![(i 0).val - 1] := by decide +kernel

/-- The previous visit's entry of a table. -/
theorem prev_idx (i : grid0.Coords) (p : Fin 71) (hp : p.val = (i 0).val - 1) :
    (Rect.unit (s := S71) (k0_off2 i) S1.size (k0_off2_inb i)).toLoadRect.idx (Shape.Idx.first numel1_S1.ge) = ix1 p := by
  refine (emb_unit_at (sh := S71) (k0_off2 i) S1.size (k0_off2_inb i) _ (ix1 p) fun a => ?_)
  obtain rfl : a = 0 := Subsingleton.elim _ _
  refine Eq.trans ?_ (congrArg (fun z => z + _) (congrFun (off2_eq i) 0).symm)
  show p.val = ((i 0).val - 1) + ((Shape.Idx.first numel1_S1.ge : S1.Idx) 0).val
  have e2 : ((Shape.Idx.first numel1_S1.ge : S1.Idx) 0).val = 0 := Nat.lt_one_iff.1 (Fin.isLt _)
  rw [e2, hp, Nat.add_zero]

/-- An input window fetches at the first point and where its block index changes. -/
theorem fetch_true {G : Pipeline.Grid} (w : Pipeline.Window sig G) (ho : w.isOut = false) (t : Fin G.N)
    (h : t.val = 0 ∨ ∃ h : 0 < t.val, w.index t ≠ w.index ⟨t.val - 1, by omega⟩) : w.fetch t = true := by
  unfold Pipeline.Window.fetch
  rw [ho, Bool.not_false, Bool.true_and, Bool.or_eq_true]
  exact h.imp (fun h => decide_eq_true h) (fun h => decide_eq_true h)

section
variable {gs : IVec S8 32} {G : Nat → Nat} (hg : ∀ i : Fin 8, gs (ix1 i) = BitVec.ofNat 32 (G i.val)) (hG : Visits.E G 7 = 32768)

/-- The launch's pipeline at the tables of the group sizes. -/
abbrev CF (hok : ok0 (pfOf (F := Ideal) gs)) := Pipeline.pin pcfgs (adm (pfOf (F := Ideal) gs) hok) 0

variable (hok : ok0 (pfOf (F := Ideal) gs))
include hg hG

theorem idx0 (t : Fin grid0.N) : ((CF hok).win 0).index t = ![Visits.ti G t.val, 0] := (tr0 hg hG (grid0.coords t)).trans (by rw [coords_val])
theorem idx1 (t : Fin grid0.N) : ((CF hok).win 1).index t = ![Visits.ex G t.val, 0, 0] := (tr1 hg hG (grid0.coords t)).trans (by rw [coords_val])
theorem idx2 (t : Fin grid0.N) : ((CF hok).win 2).index t = ![Visits.ex G t.val, 0, 0] := (tr2 hg hG (grid0.coords t)).trans (by rw [coords_val])
theorem idx3 (t : Fin grid0.N) : ((CF hok).win 3).index t = ![Visits.ti G t.val, 0] := (tr3 hg hG (grid0.coords t)).trans (by rw [coords_val])

theorem blk0 (t : Fin grid0.N) (A : S32768x2048.Idx → EReal) (r : Fin 512) (k : Fin 2048) (row : Fin 32768) (h : row.val = 512 * Visits.ti G t.val + r.val) :
    ((((CF hok).win 0).blk t).view.read (Elt Ideal) A : S512x2048.Idx → EReal) (ix2 r k) = A (ix2 row k) := by
  refine congrArg A (funext fun a => Fin.ext ?_)
  have hi := idx0 hg hG hok t
  refine (Pipeline.Window.rect_emb_val _ _ _ _).trans ?_
  rw [hi]
  match a with
  | ⟨0, _⟩ => show Visits.ti G t.val * 512 + r.val = row.val; omega
  | ⟨1, _⟩ => show 0 * 2048 + k.val = k.val; omega

theorem blk1 (t : Fin grid0.N) (A : S8x1024x6144.Idx → BitVec 8) (e : Fin 8) (he : e.val = Visits.ex G t.val) :
    ((((CF hok).win 1).blk t).view.read (Elt Ideal) A : S1x1024x6144.Idx → BitVec 8) = fun (y : S1x1024x6144.Idx) => A (ix3 e (y 1) (y 2)) := by
  refine funext fun (y : S1x1024x6144.Idx) => ?_
  refine congrArg A (funext fun a => Fin.ext ?_)
  have hi := idx1 hg hG hok t
  refine (Pipeline.Window.rect_emb_val _ _ _ _).trans ?_
  rw [hi]
  match a with
  | ⟨0, _⟩ => show Visits.ex G t.val * 1 + (y 0).val = e.val; have : (y 0).val < 1 := (y 0).isLt; omega
  | ⟨1, _⟩ => show 0 * 1024 + (y 1).val = (y 1).val; omega
  | ⟨2, _⟩ => show 0 * 6144 + (y 2).val = (y 2).val; omega

theorem blk2 (t : Fin grid0.N) (A : S8x64x6144.Idx → BitVec 8) (e : Fin 8) (he : e.val = Visits.ex G t.val) :
    ((((CF hok).win 2).blk t).view.read (Elt Ideal) A : S1x64x6144.Idx → BitVec 8) = fun (y : S1x64x6144.Idx) => A (ix3 e (y 1) (y 2)) := by
  refine funext fun (y : S1x64x6144.Idx) => ?_
  refine congrArg A (funext fun a => Fin.ext ?_)
  have hi := idx2 hg hG hok t
  refine (Pipeline.Window.rect_emb_val _ _ _ _).trans ?_
  rw [hi]
  match a with
  | ⟨0, _⟩ => show Visits.ex G t.val * 1 + (y 0).val = e.val; have : (y 0).val < 1 := (y 0).isLt; omega
  | ⟨1, _⟩ => show 0 * 64 + (y 1).val = (y 1).val; omega
  | ⟨2, _⟩ => show 0 * 6144 + (y 2).val = (y 2).val; omega

theorem emb3 (t : Fin grid0.N) (y : S512x6144.Idx) (row : Fin 32768) (h : row.val = 512 * Visits.ti G t.val + (y 0).val) :
    ((((CF hok).win 3).blk t).view.emb y : S32768x6144.Idx) = ix2 row (y 1) := by
  refine funext fun a => Fin.ext ?_
  have hi := idx3 hg hG hok t
  refine (Pipeline.Window.rect_emb_val _ _ _ _).trans ?_
  rw [hi]
  match a with
  | ⟨0, _⟩ => show Visits.ti G t.val * 512 + (y 0).val = row.val; omega
  | ⟨1, _⟩ => show 0 * 6144 + (y 1).val = (y 1).val; omega

/-- What the scratch buffers hold before visit `t`, as the launch's invariant. -/
def JV (G : ℕ → ℕ) (x : S32768x2048.Idx → EReal) (w : S8x1024x6144.Idx → BitVec 8) (s : S8x64x6144.Idx → BitVec 8) (t : Fin (grid0.N + 1)) (X9 : C9 Ideal) (X10 : C10 Ideal) (_ : C11 Ideal) : Prop :=
  Held G x w s t.val ((Memref.whole cc0_scratch0 : Memref sig .tc .vmem S2048x6144 .bf16).view.read (Elt Ideal) X9) ((Memref.whole cc0_scratch1 : Memref sig .tc .vmem S512x2048 .bf16).view.read (Elt Ideal) X10)

/-- What visit `t` leaves in the output block, as the launch's relation. -/
def RV (G : ℕ → ℕ) (x : S32768x2048.Idx → EReal) (w : S8x1024x6144.Idx → BitVec 8) (s : S8x64x6144.Idx → BitVec 8) (t : Fin grid0.N) (_ X : S512x6144.Idx → Elt Ideal .bf16) : Prop := Done G x w s t.val X

/-- The blocks written back cover the result. -/
theorem cover3 (i : S32768x6144.Idx) : ∃ t : Fin grid0.N, ((CF hok).win 3).flush t = true ∧ i ∈ (((CF hok).win 3).blk t).view.set := by
  have hi : (i 0).val < 32768 := (i 0).isLt
  obtain ⟨p, hp, -, hT⟩ := Visits.visited hG (show (i 0).val / 512 < 64 by omega)
  obtain ⟨t, -, hf, hix⟩ := Pipeline.Window.exists_flush_same_index ((CF hok).win 3) rfl ⟨p, hp⟩
  refine ⟨t, hf, ?_⟩
  have hix' : (![Visits.ti G t.val, 0] : Fin 2 → ℕ) = ![Visits.ti G p, 0] := (idx3 hg hG hok t).symm.trans (hix.trans (idx3 hg hG hok ⟨p, hp⟩))
  have hti : Visits.ti G t.val = (i 0).val / 512 := (congrFun hix' 0).trans hT
  obtain ⟨y, hy0, hy1⟩ : ∃ y : S512x6144.Idx, (y 0).val = (i 0).val % 512 ∧ y 1 = i 1 := ⟨ix2 ⟨(i 0).val % 512, by omega⟩ (i 1), rfl, rfl⟩
  have hem := emb3 hg hG hok t y (i 0) (by rw [hti, hy0]; omega)
  rw [hy1] at hem
  exact Finset.mem_map.2 ⟨y, Finset.mem_univ _, hem.trans (eq_ix2 i).symm⟩

/-- Every visit keeps what the scratch buffers and the output block hold. -/
theorem step_ok (c : Dev nD) (x : S32768x2048.Idx → EReal) (hx : ∀ j, x j ≠ ⊤ ∧ x j ≠ ⊥) (w : S8x1024x6144.Idx → BitVec 8) (s : S8x64x6144.Idx → BitVec 8)
    (A : (w : Fin 4) → Buf (Elt Ideal) ((((cfg0 ⟨pfOf (F := Ideal) gs, hok⟩).win w).arr.view.loc (c.tc : Thread nD τ))))
    (hA0 : A 0 = x) (hA1 : A 1 = w) (hA2 : A 2 = s) :
    let D := rdat (pfOf (F := Ideal) gs) hok c A (JV G x w s) (RV G x w s)
    StepOK Variants.none c (pfOf (F := Ideal) gs) (JV G x w s) (RV G x w s) (fun t X => D.Finds 0 t X) (fun t X => D.Finds 1 t X) (fun t X => D.Finds 2 t X) (fun t X => D.Finds 3 t X) := by
  intro D
  unfold StepOK
  intro t M5 h5 M6 h6 M7 h7 M8 h8 X5 X6 X7 X8 W8 X9 W9 X10 W10 X11 W11 f0 f1 f2 f3 hJ hB
  have ht : t.val < 71 := t.isLt
  have hc := coords_val t
  have e26 : k0_off26 (grid0.coords t) = k0_off1 (grid0.coords t) := rfl
  have hc0 : (grid0.coords t 0) = (⟨t.val, ht⟩ : Fin 71) := Fin.ext hc
  have p1 : ∀ f : IVec S71 32, f ((Rect.unit (s := S71) (k0_off1 (grid0.coords t)) S1.size (k0_off1_inb _)).toLoadRect.idx (Shape.Idx.first numel1_S1.ge)) = f (ix1 ⟨t.val, ht⟩) := fun f =>
    congrArg f ((at_idx (grid0.coords t)).trans (congrArg ix1 hc0))
  have p2 : ∀ f : IVec S71 32, f ((Rect.unit (s := S71) (k0_off2 (grid0.coords t)) S1.size (k0_off2_inb _)).toLoadRect.idx (Shape.Idx.first numel1_S1.ge)) = f (ix1 ⟨t.val - 1, by omega⟩) := fun f =>
    congrArg f (prev_idx (grid0.coords t) ⟨t.val - 1, by omega⟩ (by rw [hc]))
  have key := visit_ok hG x hx w s Variants.none c none (grid0.coords t) (Memref.whole main_v41) (Memref.isWhole_whole _) (Memref.whole main_v24) (Memref.isWhole_whole _) (Memref.whole main_v48) (Memref.isWhole_whole _) (Memref.whole main_v58) (Memref.isWhole_whole _)
      M5 h5 M6 h6 M7 h7 M8 h8 (Memref.whole cc0_scratch0) (Memref.isWhole_whole _) (Memref.whole cc0_scratch1) (Memref.isWhole_whole _) (Memref.whole cc0_scratch2) (Memref.isWhole_whole _)
      (pfOf (F := Ideal) gs 0) (pfOf (F := Ideal) gs 1) (pfOf (F := Ideal) gs 2) (pfOf (F := Ideal) gs 3) X5 X6 X7 X8 X9 X10 X11 W8 W9 W10 W11
  rw [hc] at key
  refine key ((p1 _).trans (Terms.tTile_ap hg hG _)) ((p2 _).trans (Terms.tTile_ap hg hG _)) ((p1 _).trans (Terms.tTile_ap hg hG _))
    ((p1 _).trans (Terms.tEx_ap hg hG _)) ((p2 _).trans (Terms.tEx_ap hg hG _)) ((p1 _).trans (Terms.tLo_ap hg hG _)) ((p1 _).trans (Terms.tHi_ap hg hG _))
    ?_ ?_ ?_ ?_ hJ hB
  · intro hn r k row hrow
    have hf : ((CF hok).win 0).fetch t = true := fetch_true _ rfl t (by
      by_cases h0 : t.val = 0
      · exact .inl h0
      · refine .inr ⟨by omega, fun h => ?_⟩
        rw [idx0 hg hG, idx0 hg hG] at h
        exact (hn.resolve_left h0) (congrFun h 0))
    obtain ⟨d, hd⟩ := (D.finds_of_fetch hf _).1 f0
    rw [hd]
    refine Eq.trans (((CF hok).win 0).fill_xinj _ _ _ (ix2 r k)) ?_
    refine Eq.trans (blk0 hg hG hok t (A 0) r k row hrow) ?_
    rw [hA0]
  · intro hn e he
    have hf : ((CF hok).win 1).fetch t = true := fetch_true _ rfl t (by
      by_cases h0 : t.val = 0
      · exact .inl h0
      · refine .inr ⟨by omega, fun h => ?_⟩
        rw [idx1 hg hG, idx1 hg hG] at h
        exact (hn.resolve_left h0) (congrFun h 0))
    obtain ⟨d, hd⟩ := (D.finds_of_fetch hf _).1 f1
    rw [hd]
    funext y
    refine Eq.trans (((CF hok).win 1).fill_xinj _ _ _ y) ?_
    refine Eq.trans (congrFun (blk1 hg hG hok t (A 1) e he) y) ?_
    rw [hA1]
  · intro hn e he
    have hf : ((CF hok).win 2).fetch t = true := fetch_true _ rfl t (by
      by_cases h0 : t.val = 0
      · exact .inl h0
      · refine .inr ⟨by omega, fun h => ?_⟩
        rw [idx2 hg hG, idx2 hg hG] at h
        exact (hn.resolve_left h0) (congrFun h 0))
    obtain ⟨d, hd⟩ := (D.finds_of_fetch hf _).1 f2
    rw [hd]
    funext y
    refine Eq.trans (((CF hok).win 2).fill_xinj _ _ _ y) ?_
    refine Eq.trans (congrFun (blk2 hg hG hok t (A 2) e he) y) ?_
    rw [hA2]
  · intro hn
    push Not at hn
    have hff : ((CF hok).win 3).fetch t = false := rfl
    rcases (D.finds_of_pos hff hn.1 _).1 f3 with hfl | ⟨Y, -, hY⟩
    · exfalso
      unfold Pipeline.Window.flush at hfl
      rw [Bool.and_eq_true, Bool.or_eq_true, decide_eq_true_eq, decide_eq_true_eq] at hfl
      rcases hfl.2 with h | ⟨h, hne⟩
      · change t.val - 1 + 1 = 71 at h
        omega
      · rw [idx3 hg hG, idx3 hg hG] at hne
        have e1 : t.val - 1 + 1 = t.val := by omega
        refine hne ?_
        show ![Visits.ti G (t.val - 1 + 1), 0] = ![Visits.ti G (t.val - 1), 0]
        rw [e1, hn.2]
    · exact hY
end

variable (m : (ℓ : Loc nD τ sig) → Buf (Elt Ideal) ℓ)

set_option maxHeartbeats 1000000 in
attribute [local irreducible] V in
/-- What the kernel's result holds: at every row, the row's product with its own expert's weights; the arguments are
unchanged. -/
theorem value (g : Dev nD → PrngReg) (hE : ∀ c : Dev nD, Visits.E (PreDecode.sizes (gsOf m c)) 7 = 32768)
    (hx : ∀ (c : Dev nD) (j : S32768x2048.Idx), m ((c.tc : Thread nD τ).loc main_arg0) j ≠ (⊤ : EReal) ∧ m ((c.tc : Thread nD τ).loc main_arg0) j ≠ (⊥ : EReal)) :
    θ_run (Pipeline.defs (pcfgs (F := Ideal)) defs₀) (onTc main) ⟨m, fun _ => 0, g⟩ fun r => ∀ c : Dev nD,
      (∀ (row : Fin 32768) (n : Fin 6144) (e : Fin 8), Visits.S (PreDecode.sizes (gsOf m c)) e.val ≤ row.val → row.val < Visits.E (PreDecode.sizes (gsOf m c)) e.val →
        (r.2.mem ((c.tc : Thread nD τ).loc main_v59) : S32768x6144.Idx → EReal) (ix2 row n)
          = prod (m ((c.tc : Thread nD τ).loc main_arg0)) (m ((c.tc : Thread nD τ).loc main_arg2)) (m ((c.tc : Thread nD τ).loc main_arg3)) e row n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  let c₀ : Dev nD := 0
  have hok : ok0 (pfOf (F := Ideal) (gsOf m c₀)) := ok_pf (PreDecode.sizes_word _) (hE c₀)
  have hpf : ∀ c k, V m c (pre0.ref k) = pfOf (gsOf m c₀) k := fun c k => by
    obtain rfl : c = c₀ := Subsingleton.elim _ _
    exact V_tables m c₀ k
  have h := run_launch Variants.none m g (pfOf (gsOf m c₀)) hok hpf
    (JV (PreDecode.sizes (gsOf m c₀)) (m ((c₀.tc : Thread nD τ).loc main_arg0)) (m ((c₀.tc : Thread nD τ).loc main_arg2)) (m ((c₀.tc : Thread nD τ).loc main_arg3)))
    (fun X9 X10 X11 h => absurd h (by decide))
    (RV (PreDecode.sizes (gsOf m c₀)) (m ((c₀.tc : Thread nD τ).loc main_arg0)) (m ((c₀.tc : Thread nD τ).loc main_arg2)) (m ((c₀.tc : Thread nD τ).loc main_arg3)))
    (fun c => by
      obtain rfl : c = c₀ := Subsingleton.elim _ _
      exact step_ok (PreDecode.sizes_word _) (hE c₀) hok c₀ _ (hx c₀) _ _ (fun w => V m c₀ (Pipeline.arrRef spec0 w)) (V_arg0 m c₀) (V_arg2 m c₀) (V_arg3 m c₀))
  refine (θ_run _ _ _).mono (fun r hr => ?_) h
  intro c
  obtain rfl : c = c₀ := Subsingleton.elim _ _
  refine ⟨?_, args_of_post m hr.1 c₀⟩
  obtain ⟨after, hL, hA⟩ := hr.1.exists_exact c₀
  have hA3 : r.2.mem ((c₀.tc : Thread nD τ).loc main_v59) = _ := hA 3
  have hg := PreDecode.sizes_word (gsOf m c₀)
  have hG := hE c₀
  intro row n e he1 he2
  rw [hA3]
  have fin := Pipeline.Dat.arrAt_forall_of_cover ((rdat (pfOf (F := Ideal) (gsOf m c₀)) hok c₀ (fun w => V m c₀ (Pipeline.arrRef spec0 w))
    (JV (PreDecode.sizes (gsOf m c₀)) (m ((c₀.tc : Thread nD τ).loc main_arg0)) (m ((c₀.tc : Thread nD τ).loc main_arg2)) (m ((c₀.tc : Thread nD τ).loc main_arg3)))
    (RV (PreDecode.sizes (gsOf m c₀)) (m ((c₀.tc : Thread nD τ).loc main_arg0)) (m ((c₀.tc : Thread nD τ).loc main_arg2)) (m ((c₀.tc : Thread nD τ).loc main_arg3)))).withAfter after) (3 : Fin 4) (fun (i : S32768x6144.Idx) (v : EReal) => ∀ e : Fin 8,
    Visits.S (PreDecode.sizes (gsOf m c₀)) e.val ≤ (i 0).val → (i 0).val < Visits.E (PreDecode.sizes (gsOf m c₀)) e.val → v = prod (m ((c₀.tc : Thread nD τ).loc main_arg0)) (m ((c₀.tc : Thread nD τ).loc main_arg2)) (m ((c₀.tc : Thread nD τ).loc main_arg3)) e (i 0) (i 1)) ?_ ?_
  · exact fin (ix2 row n) e he1 he2
  · intro t hf y e he1 he2
    obtain ⟨Y, -, hD⟩ := hL 3 t hf
    have ht : t.val < 71 := t.isLt
    have hti := Visits.ti_lt hG t.val
    have hy : (y 0).val < 512 := (y 0).isLt
    have hem := emb3 hg hG hok t y ⟨512 * Visits.ti (PreDecode.sizes (gsOf m c₀)) t.val + (y 0).val, by omega⟩ rfl
    have hlast : 512 * (Visits.ti (PreDecode.sizes (gsOf m c₀)) t.val + 1) ≤ Visits.E (PreDecode.sizes (gsOf m c₀)) (Visits.ex (PreDecode.sizes (gsOf m c₀)) t.val) := by
      refine Visits.last_visit hG ?_
      unfold Pipeline.Window.flush at hf
      rw [Bool.and_eq_true, Bool.or_eq_true, decide_eq_true_eq, decide_eq_true_eq] at hf
      rcases hf.2 with h | ⟨h, hne⟩
      · change t.val + 1 = 71 at h
        exact .inl (by omega)
      · refine .inr fun heq => hne ?_
        rw [idx3 hg hG, idx3 hg hG]
        exact congrArg (fun z : ℕ => (![z, 0] : Fin 2 → ℕ)) heq
    have H : ∀ i : S32768x6144.Idx, i = ix2 ⟨512 * Visits.ti (PreDecode.sizes (gsOf m c₀)) t.val + (y 0).val, by omega⟩ (y 1) → ∀ e : Fin 8,
        Visits.S (PreDecode.sizes (gsOf m c₀)) e.val ≤ (i 0).val → (i 0).val < Visits.E (PreDecode.sizes (gsOf m c₀)) e.val →
        (after 3 t y : EReal) = prod (m ((c₀.tc : Thread nD τ).loc main_arg0)) (m ((c₀.tc : Thread nD τ).loc main_arg2)) (m ((c₀.tc : Thread nD τ).loc main_arg3)) e (i 0) (i 1) := by
      rintro i rfl e he1 he2
      refine Eq.trans (congrArg (after 3 t) (eq_ix2 (y : S512x6144.Idx))) ?_
      exact hD (y 0) (y 1) e ⟨512 * Visits.ti (PreDecode.sizes (gsOf m c₀)) t.val + (y 0).val, by omega⟩ rfl (by show 512 * _ + (y 0).val < _; omega) he1 he2
    exact H _ hem e he1 he2
  · exact fun i => cover3 hg hG hok i

end Cert.KernelIdeal.Gen
-- ==== Proof.RefRows.lean ====
module

public import Idealize.ShloMosaic.Lib.ValueIdx
public import Idealize.ShloMosaic.Lib.WordCmp
public import Idealize.ShloMosaic.Lib.Pipeline.Value
public import Idealize.ShloMosaic.PureOps.Ideal.Laws
public import proofs.«01_k».proof.Proof.Gen.ReferenceIdeal.Run

/-! The reference's quantised activations over the exact reals. A group of 32 entries is multiplied by the
inverse of a power of two, clipped to ±448 and multiplied by the power again. The power is larger than the
group's largest magnitude over 448, so nothing is clipped, and a finite entry comes back as it was. -/

@[expose] public section

set_option maxRecDepth 100000
noncomputable section
namespace Cert.RefRows

open Idealize.ShloMosaic Idealize.ShloMosaic.TcCoe Idealize.ShloMosaic.ValueIdx
open Cert.ReferenceIdeal Cert.ReferenceIdeal.Gen Cert.ReferenceIdeal.Value

theorem two_bits : Ideal.ofBits .f32 0x40000000#32 = ((2 : ℝ) : EReal) := by
  simp [Ideal.ofBits, Ideal.ieee, -EReal.coe_mul]; norm_num
theorem one_bits : Ideal.ofBits .f32 0x3F800000#32 = ((1 : ℝ) : EReal) := by
  simp [Ideal.ofBits, Ideal.ieee, -EReal.coe_mul]; norm_num
theorem zero_bits : Ideal.ofBits .f32 0x00000000#32 = 0 := by
  simp [Ideal.ofBits, Ideal.ieee, -EReal.coe_mul]
theorem top_bits : Ideal.ofBits .f32 0x43E00000#32 = ((448 : ℝ) : EReal) := by
  simp [Ideal.ofBits, Ideal.ieee, -EReal.coe_mul]; norm_num
theorem bot_bits : Ideal.ofBits .f32 0xC3E00000#32 = ((-448 : ℝ) : EReal) := by
  simp [Ideal.ofBits, Ideal.ieee, -EReal.coe_mul]; norm_num
theorem neg_inf_bits : Ideal.ofBits .f32 0xFF800000#32 = (⊥ : EReal) := by
  simp [Ideal.ofBits, Ideal.ieee, -EReal.coe_mul]
/-- The constant the group maximum is multiplied by is a little more than 1/448. -/
theorem inv_bits : ∃ c : ℝ, 1 / 448 ≤ c ∧ Ideal.ofBits .f32 0x3B124925#32 = (c : EReal) := by
  refine ⟨(9586981 : ℝ) * (2 : ℝ) ^ (-32 : ℤ), by norm_num, ?_⟩
  simp [Ideal.ofBits, Ideal.ieee, -EReal.coe_mul]
  try norm_num

/-- The power `2 ^ (⌊log₂ (a c)⌋ + 1)` exceeds `a c`. -/
theorem pow_gt {y : ℝ} (hy : 0 < y) : y < (2 : ℝ) ^ (((⌊Real.log y * (Real.log 2)⁻¹⌋ : ℤ) : ℝ) + 1) := by
  have h2 : 0 < Real.log 2 := Real.log_pos (by norm_num)
  rw [Real.rpow_def_of_pos (by norm_num)]
  refine (Real.log_lt_iff_lt_exp hy).1 ?_
  have h := Int.lt_floor_add_one (Real.log y * (Real.log 2)⁻¹)
  calc Real.log y = Real.log 2 * (Real.log y * (Real.log 2)⁻¹) := by field_simp
    _ < _ := mul_lt_mul_of_pos_left h h2

/-- The exponent of a group whose largest magnitude is `a`. -/
def expo (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) (Ideal.log (Ideal.ofBits .f32 0x40000000#32)))
      + Ideal.ofBits .f32 0x3F800000#32)

/-- The exponent is a real number, and its power of two carries the group into ±448. -/
theorem expo_spec {a : ℝ} (ha : 0 ≤ a) : ∃ e : ℝ, expo (a : EReal) = (e : EReal) ∧ a ≤ 448 * (2 : ℝ) ^ e := by
  obtain ⟨c, hc, hcb⟩ := inv_bits
  unfold expo
  rw [hcb, two_bits, one_bits, zero_bits]
  rcases ha.eq_or_lt with h | h
  · subst h
    exact ⟨0, by simp [Ideal.cmp, Scalar.select], by norm_num⟩
  · have hc0 : 0 < c := lt_of_lt_of_le (by norm_num) hc
    have hy : 0 < a * c := mul_pos h hc0
    have hne : Ideal.cmp .oeq (a : EReal) 0 = 0#1 := by
      have : ¬ (a : EReal) = 0 := by exact_mod_cast h.ne'
      simp [Ideal.cmp, this]
    refine ⟨((⌊Real.log (a * c) * (Real.log 2)⁻¹⌋ : ℤ) : ℝ) + 1, ?_, ?_⟩
    · have h2 : Real.log 2 ≠ 0 := (Real.log_pos (by norm_num)).ne'
      rw [hne, ← EReal.coe_mul, Ideal.log_coe, if_neg (not_le.2 hy), Ideal.log_coe, if_neg (by norm_num)]
      unfold Ideal.div
      rw [if_neg (by exact_mod_cast h2), ← EReal.coe_inv, ← EReal.coe_mul, Ideal.liftRound_coe, ← EReal.coe_add]
      simp [Scalar.select]
    · have h1 := (pow_gt hy).le
      have h3 : a ≤ 448 * (a * c) := by nlinarith
      linarith

/-- Scaled down, clipped, and scaled up again, a real whose magnitude the group maximum bounds is itself. -/
theorem undo {a x : ℝ} (h : |x| ≤ a) :
    min (Ideal.ofBits .f32 0x43E00000#32) (max (Ideal.ofBits .f32 0xC3E00000#32)
      ((x : EReal) * Ideal.pow (Ideal.ofBits .f32 0x40000000#32) (-expo (a : EReal))))
      * Ideal.pow (Ideal.ofBits .f32 0x40000000#32) (expo (a : EReal)) = (x : EReal) := by
  obtain ⟨e, he, hb⟩ := expo_spec (le_trans (abs_nonneg x) h)
  rw [he, two_bits, top_bits, bot_bits, ← EReal.coe_neg, Ideal.pow_coe_coe, Ideal.pow_coe_coe]
  show min ((448 : ℝ) : EReal) (max ((-448 : ℝ) : EReal) ((x : EReal) * (((2 : ℝ) ^ (-e) : ℝ) : EReal))) * (((2 : ℝ) ^ e : ℝ) : EReal) = _
  have hp : (0 : ℝ) < (2 : ℝ) ^ e := Real.rpow_pos_of_pos (by norm_num) e
  have hx : |x * (2 : ℝ) ^ (-e)| ≤ 448 := by
    rw [Real.rpow_neg (by norm_num), abs_mul, abs_of_pos (inv_pos.2 hp), ← div_eq_mul_inv, div_le_iff₀ hp]
    exact h.trans hb
  rw [← EReal.coe_mul, max_eq_right (EReal.coe_le_coe_iff.2 (abs_le.1 hx).1), min_eq_right (EReal.coe_le_coe_iff.2 (abs_le.1 hx).2),
    ← EReal.coe_mul, mul_assoc, ← Real.rpow_add (by norm_num)]
  simp

variable (V0 : Valuation τ sig (Elt Ideal))

/-- The activations, as the caller hands them over. -/
def xs : S32768x2048.Idx → EReal := V0 (Proc.devRef .tc main_arg0)
/-- The activations in groups of 32. -/
def xg : S32768x64x32.Idx → EReal := shapeCast S32768x64x32 (xs V0) shapeCasts_S32768x2048_S32768x64x32

theorem drop_ix (row : Fin 32768) (q : Fin 64) (l : Fin 32) :
    reducesTo_S32768x64x32_S32768x64_d2.drop (ix3 row q l) = ix2 row q := by
  funext b
  refine Fin.ext ?_
  rw [Shape.ReducesTo.drop_apply_val]
  fin_cases b <;> rfl

/-- The largest magnitude of a group of finite entries is a real number no entry exceeds. -/
theorem group_max (hx : ∀ i, xs V0 i ≠ ⊤ ∧ xs V0 i ≠ ⊥) (row : Fin 32768) (q : Fin 64) :
    ∃ a : ℝ, (res_main_v3 V0 : S32768x64.Idx → EReal) (ix2 row q) = (a : EReal)
      ∧ ∀ (l : Fin 32) (x : ℝ), xg V0 (ix3 row q l) = (x : EReal) → |x| ≤ a := by
  have hg : ∀ j, xg V0 j ≠ ⊤ ∧ xg V0 j ≠ ⊥ := fun j => hx _
  have hm : (res_main_v3 V0 : S32768x64.Idx → EReal) (ix2 row q)
      = (Finset.univ.filter fun i => reducesTo_S32768x64x32_S32768x64_d2.drop i = ix2 row q).fold max (⊥ : EReal)
          (fun i => max (xg V0 i) (-xg V0 i)) := by
    refine (Host.reduce_eq_fold (max : EReal → EReal → EReal) _ _ _ _ _).trans ?_
    exact congrArg (fun z => Finset.fold max z _ _) neg_inf_bits
  obtain ⟨M, hM⟩ : ∃ M : EReal, (res_main_v3 V0 : S32768x64.Idx → EReal) (ix2 row q) = M := ⟨_, rfl⟩
  rw [hM]
  rw [hM] at hm
  clear hM
  have hge : ∀ l : Fin 32, max (xg V0 (ix3 row q l)) (-xg V0 (ix3 row q l)) ≤ M := fun l => by
    rw [hm]
    exact (Finset.le_fold_max _).2 (Or.inr ⟨ix3 row q l, by simp [drop_ix], le_rfl⟩)
  have hlt : M < ⊤ := by
    rw [hm]
    refine (Finset.fold_max_lt _).2 ⟨bot_lt_top, fun i _ => max_lt (lt_top_iff_ne_top.2 (hg i).1) ?_⟩
    rw [lt_top_iff_ne_top, Ne, EReal.neg_eq_top_iff]
    exact (hg i).2
  have hgt : M ≠ ⊥ := fun h => by
    have h1 := (le_max_left _ _).trans (hge 0)
    rw [h, le_bot_iff] at h1
    exact (hg _).2 h1
  lift M to ℝ using ⟨hlt.ne, hgt⟩
  refine ⟨M, rfl, fun l x hxl => ?_⟩
  have h := hge l
  rw [hxl, ← EReal.coe_neg] at h
  exact abs_le'.2 ⟨EReal.coe_le_coe_iff.1 ((le_max_left _ _).trans h), EReal.coe_le_coe_iff.1 ((le_max_right _ _).trans h)⟩

theorem group_bcast {α : Type} (f : S32768x64.Idx → α) (row : Fin 32768) (q : Fin 64) (l : Fin 32) :
    broadcastInDim S32768x64x32 ![0, 1, 2] bcast_S32768x64x1_S32768x64x32_0_1_2
      (broadcastInDim S32768x64x1 ![0, 1] bcast_S32768x64_S32768x64x1_0_1 f) (ix3 row q l) = f (ix2 row q) := by
  refine congrArg f (funext fun a => Fin.ext ?_)
  fin_cases a <;> rfl

/-- Two to the powers `E`, one to a group. -/
def pw (E : FVec Ideal S32768x64 .f32) : FVec Ideal S32768x64 .f32 :=
  Host.powf (broadcastInDim S32768x64 ![] bcast_S_S32768x64 (constant S_ .f32 0x40000000#32)) E

/-- The groups `X` multiplied by the powers `P`, clipped, and multiplied by the powers `Q`. -/
def scaled (X : FVec Ideal S32768x64x32 .f32) (P Q : FVec Ideal S32768x64 .f32) : FVec Ideal S32768x64x32 .bf16 :=
  mulf (truncf .bf16 (minimumf (broadcastInDim S32768x64x32 ![] bcast_S_S32768x64x32 (id (constant S_ .f32 0x43E00000#32))) (maximumf (broadcastInDim S32768x64x32 ![] bcast_S_S32768x64x32 (id (constant S_ .f32 0xC3E00000#32))) (mulf X (broadcastInDim S32768x64x32 ![0, 1, 2] bcast_S32768x64x1_S32768x64x32_0_1_2 (broadcastInDim S32768x64x1 ![0, 1] bcast_S32768x64_S32768x64x1_0_1 P))))) bitsLt_bf16_f32) (broadcastInDim S32768x64x32 ![0, 1, 2] bcast_S32768x64x1_S32768x64x32_0_1_2 (broadcastInDim S32768x64x1 ![0, 1] bcast_S32768x64_S32768x64x1_0_1 (truncf .bf16 Q bitsLt_bf16_f32)))

theorem scaled_at (X : FVec Ideal S32768x64x32 .f32) (P Q : FVec Ideal S32768x64 .f32) (row : Fin 32768) (q : Fin 64) (l : Fin 32) :
    (scaled X P Q : S32768x64x32.Idx → EReal) (ix3 row q l)
      = min (Ideal.ofBits .f32 0x43E00000#32) (max (Ideal.ofBits .f32 0xC3E00000#32)
          ((X (ix3 row q l) : EReal) * P (ix2 row q))) * (Q (ix2 row q) : EReal) :=
  congrArg₂ (fun p r : EReal => min (Ideal.ofBits .f32 0x43E00000#32) (max (Ideal.ofBits .f32 0xC3E00000#32)
    ((X (ix3 row q l) : EReal) * p)) * r) (group_bcast P row q l) (group_bcast Q row q l)

/-- The exponents of the groups whose largest magnitudes are `A`. -/
def expos (A : FVec Ideal S32768x64 .f32) : FVec Ideal S32768x64 .f32 :=
  select (cmpf .oeq A (broadcastInDim S32768x64 ![] bcast_S_S32768x64 (constant S_ .f32 0x00000000#32))) (broadcastInDim S32768x64 ![] bcast_S_S32768x64 (id (constant S_ .f32 0x00000000#32))) (addf (Host.floor (Host.divf (Host.log (mulf A (broadcastInDim S32768x64 ![] bcast_S_S32768x64 (constant S_ .f32 0x3B124925#32)))) (broadcastInDim S32768x64 ![] bcast_S_S32768x64 (Host.log (constant S_ .f32 0x40000000#32))))) (broadcastInDim S32768x64 ![] bcast_S_S32768x64 (constant S_ .f32 0x3F800000#32)))

section
attribute [local irreducible] Ideal.ofBits Ideal.log Ideal.div Ideal.liftRound Ideal.cmp Ideal.pow
theorem expos_at (A : FVec Ideal S32768x64 .f32) (j : S32768x64.Idx) : (expos A : S32768x64.Idx → EReal) j = expo (A j) := by
  unfold expos expo
  simp only [select, cmpf, addf, Host.floor, Host.divf, Host.log, mulf, broadcastInDim, constant, id]
  rfl
end

theorem expos_eq : res_main_v15 V0 = expos (res_main_v3 V0) := by unfold res_main_v15 expos; rfl

/-- The reference's restored activations, in the words above. -/
theorem rows_eq : (res_main_v30 V0 : S32768x2048.Idx → EReal)
    = shapeCast S32768x2048 (scaled (res_main_v1 V0) (pw (Host.negf (expos (res_main_v3 V0)))) (pw (expos (res_main_v3 V0))))
        shapeCasts_S32768x64x32_S32768x2048 := by
  rw [← expos_eq]
  unfold res_main_v30 scaled pw
  rfl

/-- The quantised and restored activations are the activations. -/
theorem rows (hx : ∀ i, xs V0 i ≠ ⊤ ∧ xs V0 i ≠ ⊥) : (res_main_v30 V0 : S32768x2048.Idx → EReal) = xs V0 := by
  rw [rows_eq]
  refine Eq.trans ?_ (shapeCast_shapeCast (xs V0) shapeCasts_S32768x2048_S32768x64x32 shapeCasts_S32768x64x32_S32768x2048)
  refine congrArg (fun z => shapeCast S32768x2048 z shapeCasts_S32768x64x32_S32768x2048) (funext fun (j : S32768x64x32.Idx) => ?_)
  obtain ⟨row, q, l, rfl⟩ : ∃ row q l, j = ix3 row q l := ⟨j 0, j 1, j 2, eq_ix3 j⟩
  obtain ⟨a, ha, hle⟩ := group_max V0 hx row q
  obtain ⟨x, hxl⟩ : ∃ x : ℝ, xg V0 (ix3 row q l) = (x : EReal) :=
    ⟨(xg V0 (ix3 row q l)).toReal, (EReal.coe_toReal (hx _).1 (hx _).2).symm⟩
  have he : (expos (res_main_v3 V0) : S32768x64.Idx → EReal) (ix2 row q) = expo (a : EReal) := (expos_at _ _).trans (congrArg expo ha)
  refine (scaled_at _ _ _ row q l).trans (Eq.trans ?_ ((undo (hle l x hxl)).trans hxl.symm))
  have h1 : ∀ (E : FVec Ideal S32768x64 .f32) (j : S32768x64.Idx), (pw E : S32768x64.Idx → EReal) j = Ideal.pow (Ideal.ofBits .f32 0x40000000#32) (E j) :=
    fun _ _ => rfl
  have h2 : ∀ (E : FVec Ideal S32768x64 .f32) (j : S32768x64.Idx), (Host.negf E : S32768x64.Idx → EReal) j = -(E j : EReal) := fun _ _ => rfl
  rw [h1, h1, h2, he, ← hxl]
  rfl

end Cert.RefRows
-- ==== Proof.RefWeights.lean ====
module

public import Idealize.ShloMosaic.Lib.ValueIdx
public import Idealize.ShloMosaic.Lib.WordCmp
public import Idealize.ShloMosaic.Lib.Pipeline.Value
public import proofs.«01_k».proof.Proof.SlabIdeal
public import proofs.«01_k».proof.Proof.Gen.ReferenceIdeal.Run

/-! The reference's restored weights over the exact reals. A packed byte holds two four-bit floats, the low half
byte for the first 1024 rows and the high half byte for the last 1024. The reference picks the value by the
bits of the half byte, and multiplies by two to the scale byte less 127. Both are the values the kernel's
own decoding has. -/

@[expose] public section

set_option maxRecDepth 100000
noncomputable section
namespace Cert.RefWeights

open Idealize.ShloMosaic Idealize.ShloMosaic.TcCoe Idealize.ShloMosaic.ValueIdx
open Cert.ReferenceIdeal Cert.ReferenceIdeal.Gen Cert.ReferenceIdeal.Value
open Cert.KernelIdeal.Gen (dec scl nibByte)

/-- The half byte of `b`, low or high, as a word. -/
def nib (b : BitVec 8) (low : Bool) : BitVec 32 :=
  if low then IntOp.andi (b.setWidth 32) 15#32 else IntOp.shrsi .host (b.setWidth 32) 4#32

def bit0 (x : BitVec 32) : BitVec 1 := IntOp.cmpi .ne (IntOp.andi x 1#32) 0#32
def bitAt (x i : BitVec 32) : BitVec 1 := IntOp.cmpi .ne (IntOp.andi (IntOp.shrsi .host x i) 1#32) 0#32

theorem bits_all : ∀ (m : Fin 256) (low : Bool),
    bit0 (nib (BitVec.ofFin m) low) = BitVec.ofBool ((BitVec.ofFin m : BitVec 8).getLsbD (if low then 0 else 4))
    ∧ bitAt (nib (BitVec.ofFin m) low) 1#32 = BitVec.ofBool ((BitVec.ofFin m : BitVec 8).getLsbD ((if low then 0 else 4) + 1))
    ∧ bitAt (nib (BitVec.ofFin m) low) 2#32 = BitVec.ofBool ((BitVec.ofFin m : BitVec 8).getLsbD ((if low then 0 else 4) + 2))
    ∧ bitAt (nib (BitVec.ofFin m) low) 3#32 = BitVec.ofBool ((BitVec.ofFin m : BitVec 8).getLsbD ((if low then 0 else 4) + 3)) := by
  decide +kernel

/-- The value by the four bits. -/
def tree (b3 b2 b1 b0 : BitVec 1) : EReal :=
  let mag : EReal := Scalar.select b2
    (Scalar.select b1 (Scalar.select b0 (Ideal.ofBits .bf16 0x40C0#16) (Ideal.ofBits .bf16 0x4080#16)) (Scalar.select b0 (Ideal.ofBits .bf16 0x4040#16) (Ideal.ofBits .bf16 0x4000#16)))
    (Scalar.select b1 (Scalar.select b0 (Ideal.ofBits .bf16 0x3FC0#16) (Ideal.ofBits .bf16 0x3F80#16)) (Scalar.select b0 (Ideal.ofBits .bf16 0x3F00#16) (Ideal.ofBits .bf16 0x0000#16)))
  Scalar.select b3 (-mag) mag

/-- The kernel's eight-bit float times 64 is the value by the bits. -/
theorem tree_dec (b3 b2 b1 b0 : Bool) :
    tree (BitVec.ofBool b3) (BitVec.ofBool b2) (BitVec.ofBool b1) (BitVec.ofBool b0)
      = Ideal.ofBits .fp8e4m3 (nibByte b3 b2 b1 b0) * Ideal.ofBits .bf16 0x4280#16 := by
  cases b3 <;> cases b2 <;> cases b1 <;> cases b0 <;>
    simp [tree, nibByte, Scalar.select, Ideal.ofBits, Ideal.ieee, Ideal.e4m3fn, -EReal.coe_mul] <;>
    (try rw [← EReal.coe_mul]) <;> (try rw [← EReal.coe_neg]) <;> (try rw [EReal.coe_eq_coe_iff]) <;> norm_num

def refScl (b : BitVec 8) : EReal :=
  Ideal.pow (Ideal.ofBits .f32 0x40000000#32) (((IntOp.subi (b.setWidth 32) 127#32).toInt : ℝ) : EReal)

theorem scl_words : ∀ m : Fin 256, 1 ≤ m.val → m.val ≤ 254 →
    (IntOp.subi ((BitVec.ofFin m : BitVec 8).setWidth 32) 127#32).toInt = (m.val : ℤ) - 127
    ∧ (((BitVec.ofFin m : BitVec 8).setWidth 16 <<< 7).extractLsb' 15 1 == 1#1) = false
    ∧ (((BitVec.ofFin m : BitVec 8).setWidth 16 <<< 7).extractLsb' 7 8).toNat = m.val
    ∧ (((BitVec.ofFin m : BitVec 8).setWidth 16 <<< 7).extractLsb' 0 7).toNat = 0 := by
  decide +kernel

/-- A scale byte from 1 to 254 moved to the exponent of a sixteen-bit float is two to the byte less 127. -/
theorem refScl_eq (b : BitVec 8) (h1 : 1 ≤ b.toNat) (h2 : b.toNat ≤ 254) : refScl b = scl b := by
  obtain ⟨m, rfl⟩ : ∃ m : Fin 256, b = BitVec.ofFin m := ⟨b.toFin, rfl⟩
  obtain ⟨w1, w2, w3, w4⟩ := scl_words m h1 h2
  replace h1 : 1 ≤ m.val := h1
  replace h2 : m.val ≤ 254 := h2
  have e2 : Ideal.ofBits .f32 0x40000000#32 = ((2 : ℝ) : EReal) := by
    simp [Ideal.ofBits, Ideal.ieee, -EReal.coe_mul]; norm_num
  unfold refScl scl
  rw [w1, e2, Ideal.pow_coe_coe]
  show _ = Ideal.ieee 8 7 _
  unfold Ideal.ieee
  dsimp only
  rw [w2, w3, w4, if_neg (by norm_num; omega), if_neg (by omega)]
  congr 1
  show (2 : ℝ) ^ (((m.val : ℤ) - 127 : ℤ) : ℝ) = _
  rw [Real.rpow_intCast]
  simp only [Bool.false_eq_true, if_false, one_mul]
  rw [show ((2 ^ 7 + 0 : ℕ) : ℝ) = (2 : ℝ) ^ (7 : ℤ) by norm_num, ← zpow_add₀ (by norm_num)]
  congr 1
  norm_num

/-- The half bytes of the packed bytes `W`, row by row. -/
def nibs (W : IVec S8x1024x6144 8) : IVec S8x2048x6144 32 :=
  shapeCast S8x2048x6144 (concatenate S8x2x1024x6144 1 [⟨S8x1x1024x6144, (broadcastInDim S8x1x1024x6144 ![0, 2, 3] bcast_S8x1024x6144_S8x1x1024x6144_0_2_3 (andi (extui 32 W natLt_8_32) (broadcastInDim S8x1024x6144 ![] bcast_S_S8x1024x6144 (constantI S_ 32 15#32))))⟩, ⟨S8x1x1024x6144, (broadcastInDim S8x1x1024x6144 ![0, 2, 3] bcast_S8x1024x6144_S8x1x1024x6144_0_2_3 (Host.shrsi (extui 32 W natLt_8_32) (broadcastInDim S8x1024x6144 ![] bcast_S_S8x1024x6144 (constantI S_ 32 4#32))))⟩] concatenates_S8x1x1024x6144_S8x1x1024x6144_S8x2x1024x6144_d1) shapeCasts_S8x2x1024x6144_S8x2048x6144

/-- Whether the lowest bit is set, and the one above it. -/
def tb0 (X : IVec S8x2048x6144 32) : IVec S8x2048x6144 1 :=
  cmpi .ne (andi X (broadcastInDim S8x2048x6144 ![] bcast_S_S8x2048x6144 (constantI S_ 32 1#32))) (broadcastInDim S8x2048x6144 ![] bcast_S_S8x2048x6144 (constantI S_ 32 0#32))
def tb1 (X : IVec S8x2048x6144 32) : IVec S8x2048x6144 1 :=
  cmpi .ne (andi (Host.shrsi X (broadcastInDim S8x2048x6144 ![] bcast_S_S8x2048x6144 (constantI S_ 32 1#32))) (broadcastInDim S8x2048x6144 ![] bcast_S_S8x2048x6144 (constantI S_ 32 1#32))) (broadcastInDim S8x2048x6144 ![] bcast_S_S8x2048x6144 (constantI S_ 32 0#32))
/-- The magnitudes by the three low bits. -/
def mags (X : IVec S8x2048x6144 32) : FVec Ideal S8x2048x6144 .bf16 :=
  select (cmpi .ne (andi (Host.shrsi X (broadcastInDim S8x2048x6144 ![] bcast_S_S8x2048x6144 (constantI S_ 32 2#32))) (broadcastInDim S8x2048x6144 ![] bcast_S_S8x2048x6144 (constantI S_ 32 1#32))) (broadcastInDim S8x2048x6144 ![] bcast_S_S8x2048x6144 (constantI S_ 32 0#32))) (select (tb1 X) (select (tb0 X) (broadcastInDim S8x2048x6144 ![] bcast_S_S8x2048x6144 (constant S_ .bf16 0x40C0#16)) (broadcastInDim S8x2048x6144 ![] bcast_S_S8x2048x6144 (constant S_ .bf16 0x4080#16))) (select (tb0 X) (broadcastInDim S8x2048x6144 ![] bcast_S_S8x2048x6144 (constant S_ .bf16 0x4040#16)) (broadcastInDim S8x2048x6144 ![] bcast_S_S8x2048x6144 (constant S_ .bf16 0x4000#16)))) (select (tb1 X) (select (tb0 X) (broadcastInDim S8x2048x6144 ![] bcast_S_S8x2048x6144 (constant S_ .bf16 0x3FC0#16)) (broadcastInDim S8x2048x6144 ![] bcast_S_S8x2048x6144 (constant S_ .bf16 0x3F80#16))) (select (tb0 X) (broadcastInDim S8x2048x6144 ![] bcast_S_S8x2048x6144 (constant S_ .bf16 0x3F00#16)) (broadcastInDim S8x2048x6144 ![] bcast_S_S8x2048x6144 (constant S_ .bf16 0x0000#16))))
/-- The values, the sign bit applied. -/
def vals (X : IVec S8x2048x6144 32) : FVec Ideal S8x2048x6144 .bf16 :=
  select (cmpi .ne (andi (Host.shrsi X (broadcastInDim S8x2048x6144 ![] bcast_S_S8x2048x6144 (constantI S_ 32 3#32))) (broadcastInDim S8x2048x6144 ![] bcast_S_S8x2048x6144 (constantI S_ 32 1#32))) (broadcastInDim S8x2048x6144 ![] bcast_S_S8x2048x6144 (constantI S_ 32 0#32))) (Host.negf (mags X)) (mags X)
/-- The values `T` times their groups' scales `Z`. -/
def restored (T : FVec Ideal S8x2048x6144 .bf16) (Z : IVec S8x64x6144 8) : FVec Ideal S8x2048x6144 .bf16 :=
  shapeCast S8x2048x6144 (mulf (shapeCast S8x64x32x6144 T shapeCasts_S8x2048x6144_S8x64x32x6144) (broadcastInDim S8x64x32x6144 ![0, 1, 2, 3] bcast_S8x64x1x6144_S8x64x32x6144_0_1_2_3 (broadcastInDim S8x64x1x6144 ![0, 1, 3] bcast_S8x64x6144_S8x64x1x6144_0_1_3 (truncf .bf16 (Host.powf (broadcastInDim S8x64x6144 ![] bcast_S_S8x64x6144 (constant S_ .f32 0x40000000#32)) (sitofp .f32 (subi (extui 32 Z natLt_8_32) (broadcastInDim S8x64x6144 ![] bcast_S_S8x64x6144 (constantI S_ 32 127#32))))) bitsLt_bf16_f32)))) shapeCasts_S8x64x32x6144_S8x2048x6144

theorem nibs_at (W : IVec S8x1024x6144 8) (e : Fin 8) (k : Fin 2048) (n : Fin 6144) :
    nibs W (ix3 e k n) = nib (W (ix3 e ⟨k.val % 1024, Nat.mod_lt _ (by norm_num)⟩ n)) (decide (k.val < 1024)) := by
  unfold nibs
  refine (shapeCast_apply _ _ (ix3 e k n) (ix4 e (⟨k.val / 1024, by have := k.2; omega⟩ : Fin 2) (⟨k.val % 1024, Nat.mod_lt _ (by norm_num)⟩ : Fin 1024) n) ?_).trans ?_
  · rw [Shape.rowMajor_val_four, Shape.rowMajor_val_three]
    show ((e.val * 2 + k.val / 1024) * 1024 + k.val % 1024) * 6144 + n.val = (e.val * 2048 + k.val) * 6144 + n.val
    omega
  by_cases hk : k.val < 1024
  · refine (concatenate_pair_apply_left (t := S8x2x1024x6144) (s₁ := S8x1x1024x6144) (s₂ := S8x1x1024x6144) 1 _ _ concatenates_S8x1x1024x6144_S8x1x1024x6144_S8x2x1024x6144_d1 _ rfl (ix4 e (0 : Fin 1) (⟨k.val % 1024, Nat.mod_lt _ (by norm_num)⟩ : Fin 1024) n) ?_).trans ?_
    · intro b
      fin_cases b
      · rfl
      · show 0 = k.val / 1024
        omega
      · rfl
      · rfl
    rw [decide_eq_true hk]
    refine (broadcastInDim_apply _ _ _ _ (ix3 e ⟨k.val % 1024, Nat.mod_lt _ (by norm_num)⟩ n) ?_).trans rfl
    intro b
    fin_cases b <;> rfl
  · refine (concatenate_pair_apply_right (t := S8x2x1024x6144) (s₁ := S8x1x1024x6144) (s₂ := S8x1x1024x6144) 1 _ _ concatenates_S8x1x1024x6144_S8x1x1024x6144_S8x2x1024x6144_d1 _ rfl rfl (ix4 e (0 : Fin 1) (⟨k.val % 1024, Nat.mod_lt _ (by norm_num)⟩ : Fin 1024) n) ?_ ?_).trans ?_
    · intro b hb
      fin_cases b
      · rfl
      · exact absurd rfl hb
      · rfl
      · rfl
    · show 0 + 1 = k.val / 1024
      have := k.2
      omega
    rw [decide_eq_false hk]
    refine (broadcastInDim_apply _ _ _ _ (ix3 e ⟨k.val % 1024, Nat.mod_lt _ (by norm_num)⟩ n) ?_).trans rfl
    intro b
    fin_cases b <;> rfl

section
attribute [local irreducible] Ideal.ofBits
theorem vals_at (X : IVec S8x2048x6144 32) (j : S8x2048x6144.Idx) :
    (vals X : S8x2048x6144.Idx → EReal) j = tree (bitAt (X j) 3#32) (bitAt (X j) 2#32) (bitAt (X j) 1#32) (bit0 (X j)) := by
  unfold vals mags tb0 tb1 tree bitAt bit0
  simp only [select, cmpi, andi, Host.shrsi, Host.negf, broadcastInDim, constant, constantI]
  rfl
end

theorem scale_bcast {α : Type} (f : S8x64x6144.Idx → α) (e : Fin 8) (q : Fin 64) (l : Fin 32) (n : Fin 6144) :
    broadcastInDim S8x64x32x6144 ![0, 1, 2, 3] bcast_S8x64x1x6144_S8x64x32x6144_0_1_2_3
      (broadcastInDim S8x64x1x6144 ![0, 1, 3] bcast_S8x64x6144_S8x64x1x6144_0_1_3 f) (ix4 e q l n) = f (ix3 e q n) := by
  refine congrArg f (funext fun a => Fin.ext ?_)
  fin_cases a <;> rfl

theorem restored_at (T : FVec Ideal S8x2048x6144 .bf16) (Z : IVec S8x64x6144 8) (e : Fin 8) (k : Fin 2048) (n : Fin 6144) :
    (restored T Z : S8x2048x6144.Idx → EReal) (ix3 e k n)
      = (T (ix3 e k n) : EReal) * refScl (Z (ix3 e ⟨k.val / 32, by have := k.2; omega⟩ n)) := by
  have hrm : (S8x64x32x6144.rowMajor (ix4 e (⟨k.val / 32, by have := k.2; omega⟩ : Fin 64) (⟨k.val % 32, Nat.mod_lt _ (by norm_num)⟩ : Fin 32) n)).val
      = (S8x2048x6144.rowMajor (ix3 e k n)).val := by
    rw [Shape.rowMajor_val_four, Shape.rowMajor_val_three]
    show ((e.val * 64 + k.val / 32) * 32 + k.val % 32) * 6144 + n.val = (e.val * 2048 + k.val) * 6144 + n.val
    omega
  unfold restored
  refine (shapeCast_apply _ _ (ix3 e k n) _ hrm).trans ?_
  refine congrArg₂ (fun p r : EReal => p * r) ?_ ?_
  · exact shapeCast_apply T shapeCasts_S8x2048x6144_S8x64x32x6144 _ (ix3 e k n) hrm.symm
  · refine (scale_bcast _ e _ _ n).trans ?_
    unfold refScl
    rfl

variable (V0 : Valuation τ sig (Elt Ideal))

theorem v39_eq : res_main_v39 V0 = nibs (V0 (Proc.devRef .tc main_arg2)) := by unfold res_main_v39 res_main_v31 nibs; rfl
theorem v43_eq : res_main_v43 V0 = tb0 (res_main_v39 V0) := by unfold res_main_v43 tb0; rfl
theorem v49_eq : res_main_v49 V0 = tb1 (res_main_v39 V0) := by unfold res_main_v49 tb1; rfl
theorem v68_eq : res_main_v68 V0 = mags (res_main_v39 V0) := by unfold res_main_v68 mags; rw [v43_eq, v49_eq]
theorem v82_eq : res_main_v82 V0 = restored (vals (res_main_v39 V0)) (V0 (Proc.devRef .tc main_arg3)) := by
  unfold res_main_v82 restored vals; rw [v68_eq]; rfl

/-- The restored weight in row `k` and column `n` of expert `e`. -/
theorem weights (hs : ∀ i : S8x64x6144.Idx, 1 ≤ ((V0 (Proc.devRef .tc main_arg3) : S8x64x6144.Idx → BitVec 8) i).toNat
      ∧ ((V0 (Proc.devRef .tc main_arg3) : S8x64x6144.Idx → BitVec 8) i).toNat ≤ 254) (e : Fin 8) (k : Fin 2048) (n : Fin 6144) :
    (res_main_v82 V0 : S8x2048x6144.Idx → EReal) (ix3 e k n)
      = dec ((V0 (Proc.devRef .tc main_arg2) : S8x1024x6144.Idx → BitVec 8) (ix3 e ⟨k.val % 1024, Nat.mod_lt _ (by norm_num)⟩ n)) (if k.val < 1024 then 0 else 4)
        * scl ((V0 (Proc.devRef .tc main_arg3) : S8x64x6144.Idx → BitVec 8) (ix3 e ⟨k.val / 32, by have := k.2; omega⟩ n)) := by
  rw [v82_eq, restored_at, vals_at, v39_eq, nibs_at, refScl_eq _ (hs _).1 (hs _).2]
  generalize (V0 (Proc.devRef .tc main_arg2) : S8x1024x6144.Idx → BitVec 8) (ix3 e ⟨k.val % 1024, Nat.mod_lt _ (by norm_num)⟩ n) = b
  obtain ⟨m, rfl⟩ : ∃ m : Fin 256, b = BitVec.ofFin m := ⟨b.toFin, rfl⟩
  obtain ⟨h0, h1, h2, h3⟩ := bits_all m (decide (k.val < 1024))
  rw [h0, h1, h2, h3, tree_dec]
  simp only [decide_eq_true_eq]
  rfl

end Cert.RefWeights
-- ==== Proof.RefOut.lean ====
module

public import Idealize.ShloMosaic.Lib.ValueIdx
public import Idealize.ShloMosaic.Lib.WordCmp
public import Idealize.ShloMosaic.Lib.Affine
public import Idealize.ShloMosaic.Lib.StackMember
public import Idealize.ShloMosaic.Lib.Pipeline.Value
public import proofs.«01_k».proof.Proof.PreDecode
public import proofs.«01_k».proof.Proof.VisitIdeal
public import proofs.«01_k».proof.Proof.RefRows
public import proofs.«01_k».proof.Proof.RefWeights

/-! The reference's result over the exact reals. For each expert in turn the reference multiplies every row by
the expert's weights and keeps the product in the rows between the expert's start and its end. So a row of
expert `e` holds the product of the activations' row and the restored weights of `e`. -/

@[expose] public section

set_option maxRecDepth 100000
noncomputable section
namespace Cert.RefOut

open Idealize.ShloMosaic Idealize.ShloMosaic.TcCoe Idealize.ShloMosaic.ValueIdx Idealize.ShloMosaic.Routing Idealize.SL.Sem Idealize.ShloMosaic.StableHlo
open Cert.ReferenceIdeal Cert.ReferenceIdeal.Gen Cert.ReferenceIdeal.Value
open Cert.KernelIdeal.Gen (toInt_small)
open scoped BigOperators

/-- Which rows are expert `off`'s. -/
def mask (off : ℕ) (hs : S8.Slices ![off] S1) (gs E : IVec S8 32) (J : IVec S32768x1 32) : IVec S32768x1 1 :=
  andi (cmpi .sge J (broadcastInDim S32768x1 ![] bcast_S_S32768x1 (subi (shapeCast S_ (extractStridedSlice S1 ![off] E hs) shapeCasts_S1_S_) (shapeCast S_ (extractStridedSlice S1 ![off] gs hs) shapeCasts_S1_S_))))
    (cmpi .slt J (broadcastInDim S32768x1 ![] bcast_S_S32768x1 (shapeCast S_ (extractStridedSlice S1 ![off] E hs) shapeCasts_S1_S_)))

/-- Expert `off`'s product in its rows, `prev` in the others. -/
def layer (off : ℕ) (hs : S8.Slices ![off] S1) (hw : S8x2048x6144.Slices ![off, 0, 0] S1x2048x6144) (gs E : IVec S8 32) (J : IVec S32768x1 32)
    (Y : FVec Ideal S32768x2048 .bf16) (T : FVec Ideal S8x2048x6144 .bf16) (prev : FVec Ideal S32768x6144 .f32) : FVec Ideal S32768x6144 .f32 :=
  select (broadcastInDim S32768x6144 ![0, 1] bcast_S32768x1_S32768x6144_0_1 (mask off hs gs E J))
    (Host.dotGeneral dot_S32768x2048_S2048x6144_S32768x6144_1_0_0_1_n_n none Y (shapeCast S2048x6144 (extractStridedSlice S1x2048x6144 ![off, 0, 0] T hw) shapeCasts_S1x2048x6144_S2048x6144)) prev

theorem entry_at (x : IVec S8 32) (i : Fin 8) (hs : S8.Slices ![i.val] S1) (j : S_.Idx) :
    shapeCast S_ (extractStridedSlice S1 ![i.val] x hs) shapeCasts_S1_S_ j = x (ix1 i) := by
  have h1 : shapeCast S_ (extractStridedSlice S1 ![i.val] x hs) shapeCasts_S1_S_ j = extractStridedSlice S1 ![i.val] x hs (ix1 (0 : Fin 1)) := by
    unfold shapeCast
    refine congrArg _ ((eq_ix1 _).trans (congrArg ix1 (Subsingleton.elim (α := Fin 1) _ _)))
  refine h1.trans (extractStridedSlice_apply _ _ _ _ _ ?_)
  intro a
  fin_cases a
  rfl

theorem mask_at (i : Fin 8) (hs : S8.Slices ![i.val] S1) (gs E : IVec S8 32) (J : IVec S32768x1 32) (G : ℕ → ℕ)
    (hG : Visits.E G 7 = 32768) (hgs : ∀ i : Fin 8, gs (ix1 i) = BitVec.ofNat 32 (G i.val)) (hE : ∀ i : Fin 8, E (ix1 i) = BitVec.ofNat 32 (Visits.E G i.val))
    (row : Fin 32768) (hJ : J (ix2 row 0) = BitVec.ofNat 32 row.val) :
    mask i.val hs gs E J (ix2 row 0) = 1#1 ↔ Visits.S G i.val ≤ row.val ∧ row.val < Visits.E G i.val := by
  have hle : Visits.E G i.val ≤ 32768 := Visits.E_le i.isLt hG
  have hES : Visits.E G i.val = Visits.S G i.val + G i.val := Visits.E_eq _
  have hw : mask i.val hs gs E J (ix2 row 0)
      = IntOp.andi (IntOp.cmpi .sge (J (ix2 row 0)) (IntOp.subi (E (ix1 i)) (gs (ix1 i)))) (IntOp.cmpi .slt (J (ix2 row 0)) (E (ix1 i))) := by
    rw [← entry_at E i hs ix0, ← entry_at gs i hs ix0]
    refine congrArg₂ (fun p r => IntOp.andi (IntOp.cmpi .sge (J (ix2 row 0)) p) (IntOp.cmpi .slt (J (ix2 row 0)) r)) ?_ ?_
    · refine (broadcastInDim_apply _ _ _ _ ix0 ?_).trans rfl
      intro a; exact a.elim0
    · refine (broadcastInDim_apply _ _ _ _ ix0 ?_)
      intro a; exact a.elim0
  have hsub : IntOp.subi (E (ix1 i)) (gs (ix1 i)) = BitVec.ofNat 32 (Visits.S G i.val) := by
    rw [hE, hgs, hES]
    show BitVec.ofNat 32 (Visits.S G i.val + G i.val) - BitVec.ofNat 32 (G i.val) = _
    rw [BitVec.ofNat_add, BitVec.add_sub_cancel]
  have hr := row.isLt
  rw [hw, hsub, hE, hJ, IntOp.andi_eq_one, IntOp.cmpi_sge, IntOp.cmpi_slt, toInt_small _ (by omega), toInt_small _ (by omega), toInt_small _ (by omega)]
  omega

theorem member_at (T : FVec Ideal S8x2048x6144 .bf16) (i : Fin 8) (hw : S8x2048x6144.Slices ![i.val, 0, 0] S1x2048x6144) (k : Fin 2048) (n : Fin 6144) :
    shapeCast S2048x6144 (extractStridedSlice S1x2048x6144 ![i.val, 0, 0] T hw) shapeCasts_S1x2048x6144_S2048x6144 (ix2 k n) = T (ix3 i k n) := by
  refine (shapeCast_apply _ _ (ix2 k n) (ix3 (0 : Fin 1) k n) ?_).trans ?_
  · rw [Shape.rowMajor_val_three, Shape.rowMajor_val_two]
    show (0 * 2048 + k.val) * 6144 + n.val = k.val * 6144 + n.val
    omega
  · refine extractStridedSlice_apply _ _ _ _ _ ?_
    intro a
    fin_cases a
    · rfl
    · show k.val = 0 + k.val
      omega
    · show n.val = 0 + n.val
      omega

/-- One entry of the product of the rows `Y` and the weights `T` of an expert. -/
def dotRow (Y : S32768x2048.Idx → EReal) (T : S8x2048x6144.Idx → EReal) (row : Fin 32768) (n : Fin 6144) (i : Fin 8) : EReal :=
  ∑ k : Fin 2048, Y (ix2 row k) * T (ix3 i k n)

theorem layer_at (i : Fin 8) (hs : S8.Slices ![i.val] S1) (hw : S8x2048x6144.Slices ![i.val, 0, 0] S1x2048x6144) (gs E : IVec S8 32) (J : IVec S32768x1 32)
    (Y : FVec Ideal S32768x2048 .bf16) (T : FVec Ideal S8x2048x6144 .bf16) (prev : FVec Ideal S32768x6144 .f32) (G : ℕ → ℕ)
    (hG : Visits.E G 7 = 32768) (hgs : ∀ i : Fin 8, gs (ix1 i) = BitVec.ofNat 32 (G i.val)) (hE : ∀ i : Fin 8, E (ix1 i) = BitVec.ofNat 32 (Visits.E G i.val))
    (row : Fin 32768) (n : Fin 6144) (hJ : J (ix2 row 0) = BitVec.ofNat 32 row.val) [Decidable (Visits.S G i.val ≤ row.val ∧ row.val < Visits.E G i.val)] :
    (layer i.val hs hw gs E J Y T prev : S32768x6144.Idx → EReal) (ix2 row n)
      = if Visits.S G i.val ≤ row.val ∧ row.val < Visits.E G i.val then dotRow Y T row n i else prev (ix2 row n) := by
  have hm : broadcastInDim S32768x6144 ![0, 1] bcast_S32768x1_S32768x6144_0_1 (mask i.val hs gs E J) (ix2 row n) = mask i.val hs gs E J (ix2 row 0) := by
    refine broadcastInDim_apply _ _ _ _ _ ?_
    intro a
    fin_cases a <;> rfl
  have hd : (Host.dotGeneral dot_S32768x2048_S2048x6144_S32768x6144_1_0_0_1_n_n none Y (shapeCast S2048x6144 (extractStridedSlice S1x2048x6144 ![i.val, 0, 0] T hw) shapeCasts_S1x2048x6144_S2048x6144) : S32768x6144.Idx → EReal) (ix2 row n)
      = ∑ k : Fin 2048, (Y (ix2 row k) : EReal) * T (ix3 i k n) := by
    refine (Idealize.ShloMosaic.StackMember.dotGeneral_plain_apply (m := 32768) (k := 2048) (n := 6144) none Y _ row n).trans ?_
    exact Finset.sum_congr rfl fun k _ => congrArg (fun z : EReal => (Y (ix2 row k) : EReal) * z) (member_at T i hw k n)
  have hu : (layer i.val hs hw gs E J Y T prev : S32768x6144.Idx → EReal) (ix2 row n)
      = Scalar.select (broadcastInDim S32768x6144 ![0, 1] bcast_S32768x1_S32768x6144_0_1 (mask i.val hs gs E J) (ix2 row n))
          ((Host.dotGeneral dot_S32768x2048_S2048x6144_S32768x6144_1_0_0_1_n_n none Y (shapeCast S2048x6144 (extractStridedSlice S1x2048x6144 ![i.val, 0, 0] T hw) shapeCasts_S1x2048x6144_S2048x6144) : S32768x6144.Idx → EReal) (ix2 row n))
          (prev (ix2 row n) : EReal) := rfl
  rw [hu, hm, hd]
  have hk := mask_at i hs gs E J G hG hgs hE row hJ
  unfold Scalar.select
  by_cases h : Visits.S G i.val ≤ row.val ∧ row.val < Visits.E G i.val
  · rw [if_pos h]
    exact if_pos (hk.2 h)
  · rw [if_neg h]
    exact if_neg (fun h' => h (hk.1 h'))

variable (V0 : Valuation τ sig (Elt Ideal))

abbrev gsV : IVec S8 32 := V0 (Proc.devRef .tc main_arg1)

/-- One expert's layer of the reference. -/
abbrev lay (off : ℕ) (hs : S8.Slices ![off] S1) (hw : S8x2048x6144.Slices ![off, 0, 0] S1x2048x6144) (prev : FVec Ideal S32768x6144 .f32) : FVec Ideal S32768x6144 .f32 :=
  layer off hs hw (gsV V0) (res_main_v83 V0) (res_main_v85 V0) (res_main_v30 V0) (res_main_v82 V0) prev

/-- The reference's result: the eight layers over zero. -/
def layers : FVec Ideal S32768x6144 .f32 :=
  lay V0 7 slices_S8_S1_7 slices_S8x2048x6144_S1x2048x6144_7_0_0 <| lay V0 6 slices_S8_S1_6 slices_S8x2048x6144_S1x2048x6144_6_0_0 <|
  lay V0 5 slices_S8_S1_5 slices_S8x2048x6144_S1x2048x6144_5_0_0 <| lay V0 4 slices_S8_S1_4 slices_S8x2048x6144_S1x2048x6144_4_0_0 <|
  lay V0 3 slices_S8_S1_3 slices_S8x2048x6144_S1x2048x6144_3_0_0 <| lay V0 2 slices_S8_S1_2 slices_S8x2048x6144_S1x2048x6144_2_0_0 <|
  lay V0 1 slices_S8_S1_1 slices_S8x2048x6144_S1x2048x6144_1_0_0 <| lay V0 0 slices_S8_S1_0 slices_S8x2048x6144_S1x2048x6144_0_0_0 <|
  broadcastInDim S32768x6144 ![] bcast_S_S32768x6144 (constant S_ .f32 0x00000000#32)

theorem run_layers (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v215) = (truncf .bf16 (layers (launchContents m c)) bitsLt_bf16_f32 : FVec Ideal S32768x6144 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run (F := Ideal) m ρ)
  unfold res_main_v166 layers lay layer mask gsV
  rfl

/-- Of eight conditions of which exactly one holds, the chain picks that one. -/
theorem chain (P : ℕ → Prop) [DecidablePred P] (f : Fin 8 → EReal) (z : EReal) (e : Fin 8) (he : P e.val) (hne : ∀ i : Fin 8, i ≠ e → ¬P i.val) :
    (if P 7 then f 7 else if P 6 then f 6 else if P 5 then f 5 else if P 4 then f 4 else if P 3 then f 3 else if P 2 then f 2 else if P 1 then f 1 else if P 0 then f 0 else z) = f e := by
  have h (i : Fin 8) (c : ℕ) (hc : c = i.val) : P c ↔ i = e := by
    subst hc
    exact ⟨fun hp => by_contra fun hn => hne i hn hp, fun hp => hp ▸ he⟩
  simp only [h 7 7 rfl, h 6 6 rfl, h 5 5 rfl, h 4 4 rfl, h 3 3 rfl, h 2 2 rfl, h 1 1 rfl, h 0 0 rfl]
  fin_cases e <;> rfl

/-- The reference's result in a row of expert `e`. -/
theorem out_at (hG : Visits.E (PreDecode.sizes (gsV V0)) 7 = 32768) (row : Fin 32768) (n : Fin 6144) (e : Fin 8)
    (h1 : Visits.S (PreDecode.sizes (gsV V0)) e.val ≤ row.val) (h2 : row.val < Visits.E (PreDecode.sizes (gsV V0)) e.val) :
    (layers V0 : S32768x6144.Idx → EReal) (ix2 row n)
      = dotRow (res_main_v30 V0) (res_main_v82 V0) row n e := by
  classical
  have hgs : ∀ i : Fin 8, gsV V0 (ix1 i) = BitVec.ofNat 32 (PreDecode.sizes (gsV V0) i.val) := fun i => PreDecode.sizes_word _ i
  have hE : ∀ i : Fin 8, (res_main_v83 V0 : IVec S8 32) (ix1 i) = BitVec.ofNat 32 (Visits.E (PreDecode.sizes (gsV V0)) i.val) := fun i =>
    cumsum1 rfl (gsV V0) _ hgs _ (bc0 bcast_S_S_ _ _) reduceWindows_S8_S8_w8s1p7_0 h_S_ i
  have hJ : (res_main_v85 V0 : IVec S32768x1 32) (ix2 row 0) = BitVec.ofNat 32 row.val := by
    unfold res_main_v85
    refine (broadcastInDim_apply _ _ _ _ (ix1 row) ?_).trans rfl
    intro a
    fin_cases a
    rfl
  have L := fun (i : Fin 8) hs hw prev => layer_at i hs hw (gsV V0) (res_main_v83 V0) (res_main_v85 V0) (res_main_v30 V0) (res_main_v82 V0) prev
    (PreDecode.sizes (gsV V0)) hG hgs hE row n hJ
  refine Eq.trans ?_ (chain (fun i => Visits.S (PreDecode.sizes (gsV V0)) i ≤ row.val ∧ row.val < Visits.E (PreDecode.sizes (gsV V0)) i)
    (fun i => dotRow (res_main_v30 V0) (res_main_v82 V0) row n i)
    ((broadcastInDim S32768x6144 ![] bcast_S_S32768x6144 (constant (F := Ideal) S_ .f32 0x00000000#32) : S32768x6144.Idx → EReal) (ix2 row n)) e ⟨h1, h2⟩
    (fun i hi h => hi (Fin.ext (Cert.KernelIdeal.Gen.expert_unique h.1 h.2 h1 h2))))
  unfold layers lay
  refine (L 7 slices_S8_S1_7 slices_S8x2048x6144_S1x2048x6144_7_0_0 _).trans (if_congr Iff.rfl rfl ?_)
  refine (L 6 slices_S8_S1_6 slices_S8x2048x6144_S1x2048x6144_6_0_0 _).trans (if_congr Iff.rfl rfl ?_)
  refine (L 5 slices_S8_S1_5 slices_S8x2048x6144_S1x2048x6144_5_0_0 _).trans (if_congr Iff.rfl rfl ?_)
  refine (L 4 slices_S8_S1_4 slices_S8x2048x6144_S1x2048x6144_4_0_0 _).trans (if_congr Iff.rfl rfl ?_)
  refine (L 3 slices_S8_S1_3 slices_S8x2048x6144_S1x2048x6144_3_0_0 _).trans (if_congr Iff.rfl rfl ?_)
  refine (L 2 slices_S8_S1_2 slices_S8x2048x6144_S1x2048x6144_2_0_0 _).trans (if_congr Iff.rfl rfl ?_)
  refine (L 1 slices_S8_S1_1 slices_S8x2048x6144_S1x2048x6144_1_0_0 _).trans (if_congr Iff.rfl rfl ?_)
  exact L 0 slices_S8_S1_0 slices_S8x2048x6144_S1x2048x6144_0_0_0 _

end Cert.RefOut
-- ==== Proof.PreInputs.lean ====
module

public import proofs.«01_k».proof.Proof.Gen.Pre_inputs_ok
public import proofs.«01_k».proof.Proof.PreDecode

/-! What the value claim's precondition says of the arguments: the group sizes add to 32768, every weight scale byte
is between 1 and 254 and every entry of `x` is finite. -/

@[expose] public section

noncomputable section
namespace Cert.PreDecode

open Idealize.ShloMosaic Idealize.ShloMosaic.Routing Idealize.ShloMosaic.ValueIdx Idealize.ShloMosaic.WordCmp

theorem inputs_parts {F : FTy → Type} [FloatOps F] [Cert.Pre_inputs_ok.Facts] (a0 : FVec F Pre_inputs_ok.S32768x2048 .bf16) (gs : IVec S8 32)
    (a2 : IVec Pre_inputs_ok.S8x1024x6144 8) (a3 : IVec Pre_inputs_ok.S8x64x6144 8) (h : Pre_inputs_ok.fn (F := F) a0 gs a2 a3 = fun _ => 1#1) :
    Visits.E (sizes gs) 7 = 32768 ∧ (∀ i, 1 ≤ (a3 i).toNat ∧ (a3 i).toNat ≤ 254)
      ∧ ∀ i, FloatOps.cmpf .olt (FloatOps.hostAbsf (F := F) (FloatOps.extf .f32 Pre_inputs_ok.Facts.bitsLt_bf16_f32 (a0 i))) (FloatOps.ofBits .f32 0x7F800000#32) = 1#1 := by
  have h0 := congrFun h ix0
  dsimp only [Pre_inputs_ok.fn, Pre_inputs_ok.fn_part1] at h0
  obtain ⟨h1, h4⟩ := IntOp.andi_eq_one.1 h0
  obtain ⟨h2, h3⟩ := IntOp.andi_eq_one.1 h1
  obtain ⟨h5, h6⟩ := IntOp.andi_eq_one.1 h2
  refine ⟨sum_of gs _ _ _ h5 h6, fun i => ?_, fun i => ?_⟩
  · have h := Host.reduce_andi_all _ _ _ _ _ h3 i
    obtain ⟨ha, hc⟩ := IntOp.andi_eq_one.1 (show IntOp.andi (IntOp.cmpi .sge ((a3 i).setWidth 32) 1#32) (IntOp.cmpi .sle ((a3 i).setWidth 32) 254#32) = 1#1 from h)
    have ha := IntOp.cmpi_sge.1 ha
    have hc := IntOp.cmpi_sle.1 hc
    have e : ((a3 i).setWidth 32).toInt = (a3 i).toNat := by
      rw [BitVec.toInt_eq_toNat_cond, BitVec.toNat_setWidth]; have := (a3 i).isLt
      rw [if_pos (by omega)]; omega
    rw [e] at ha hc
    have e1 : (1#32).toInt = 1 := rfl
    have e2 : (254#32).toInt = 254 := rfl
    rw [e1] at ha; rw [e2] at hc
    omega
  · exact Host.reduce_andi_all _ _ _ _ _ h4 i
end Cert.PreDecode
-- ==== Proof.Match.lean ====
module

public import proofs.«01_k».proof.Proof.LaunchIdeal
public import proofs.«01_k».proof.Proof.RefOut
public import proofs.«01_k».proof.Proof.PreInputs

/-! Kernel and reference side by side over the exact reals. Every row belongs to one expert; there both hold the
product of the activations' row and the expert's restored weights. -/

@[expose] public section

set_option maxRecDepth 100000
noncomputable section
namespace Cert.Match

open Idealize.ShloMosaic Idealize.ShloMosaic.TcCoe Idealize.ShloMosaic.ValueIdx Idealize.SL.Sem Idealize.ShloMosaic.StableHlo
open Cert.ReferenceIdeal.Value
open Cert.KernelIdeal.Gen (prod wt weight dec scl)
open scoped BigOperators

/-- A number whose magnitude is below the infinity pattern is finite. -/
theorem finite_of {x : EReal} (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee, -EReal.coe_mul]
  rw [e] at h
  have hlt : max x (-x) < ⊤ := by
    by_contra hn
    simp [Ideal.cmp, hn] at h
  refine ⟨(lt_of_le_of_lt (le_max_left _ _) hlt).ne, fun hb => ?_⟩
  subst hb
  simp at hlt

/-- Every row below the last end lies in some group. -/
theorem expert_exists (G : ℕ → ℕ) (row : ℕ) : ∀ i : ℕ, row < Visits.E G i → ∃ e ≤ i, Visits.S G e ≤ row ∧ row < Visits.E G e
  | 0, h => ⟨0, le_rfl, by rw [Visits.S_zero]; exact Nat.zero_le _, h⟩
  | i + 1, h => by
    by_cases h' : row < Visits.E G i
    · obtain ⟨e, he, h1⟩ := expert_exists G row i h'
      exact ⟨e, by omega, h1⟩
    · exact ⟨i + 1, le_rfl, by rw [Visits.S_succ]; omega, h⟩

/-- The reference's product is the kernel's. -/
theorem dot_eq (V0 : Valuation ReferenceIdeal.τ ReferenceIdeal.sig (Elt Ideal)) (x : ReferenceIdeal.S32768x2048.Idx → EReal)
    (w : ReferenceIdeal.S8x1024x6144.Idx → BitVec 8) (s : ReferenceIdeal.S8x64x6144.Idx → BitVec 8)
    (hx0 : (V0 (Proc.devRef .tc ReferenceIdeal.main_arg0) : ReferenceIdeal.S32768x2048.Idx → EReal) = x)
    (hw0 : (V0 (Proc.devRef .tc ReferenceIdeal.main_arg2) : ReferenceIdeal.S8x1024x6144.Idx → BitVec 8) = w)
    (hs0 : (V0 (Proc.devRef .tc ReferenceIdeal.main_arg3) : ReferenceIdeal.S8x64x6144.Idx → BitVec 8) = s)
    (hx : ∀ i, x i ≠ ⊤ ∧ x i ≠ ⊥) (hs : ∀ i, 1 ≤ (s i).toNat ∧ (s i).toNat ≤ 254)
    (row : Fin 32768) (n : Fin 6144) (e : Fin 8) :
    RefOut.dotRow (res_main_v30 V0) (res_main_v82 V0) row n e = prod x w s e row n := by
  subst hx0 hw0 hs0
  unfold RefOut.dotRow prod wt weight
  refine Finset.sum_congr rfl fun k _ => ?_
  refine congrArg₂ (fun p r : EReal => p * r) (congrFun (RefRows.rows V0 hx) (ix2 row k)) ?_
  exact RefWeights.weights V0 hs e k n

end Cert.Match
-- ==== Proof.lean ====
/- The claims, assembled: the frames of the kernel and of its idealization, the reference's run, the ledger,
and the equality of the two results over the exact reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_groups_ok
public import proofs.«01_k».proof.Proof.Gen.Pre_inputs_ok
public import proofs.«01_k».proof.Proof.FrameIdeal
public import proofs.«01_k».proof.Proof.FrameBits
public import proofs.«01_k».proof.Proof.Match
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at words: it ends, its arguments unchanged, its counters at zero. -/
theorem frame_k : Cert.quiescent_Kernel (hKernel := Cert.Kernel.Gen.facts) (hPre_groups_ok := Cert.Pre_groups_ok.Gen.facts) := fun m g h =>
  letI := Cert.Pre_groups_ok.Gen.facts
  Cert.Kernel.Gen.frame m g fun c => PreDecode.groups_sum _ _ _ _ (h c)

/-- The same of the idealized kernel. -/
theorem frame_ki : Cert.quiescent_KernelIdeal (hKernelIdeal := Cert.KernelIdeal.Gen.facts) (hPre_groups_ok := Cert.Pre_groups_ok.Gen.facts) := fun m g h =>
  letI := Cert.Pre_groups_ok.Gen.facts
  Cert.KernelIdeal.Gen.frame m g fun c => PreDecode.groups_sum _ _ _ _ (h c)

/-- The reference runs from every memory. -/
theorem frame_ri : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run (F := Ideal) m g)

/-- The activations a device starts with. -/
abbrev xOf (m : (ℓ : Loc KernelIdeal.nD KernelIdeal.τ KernelIdeal.sig) → Buf (Elt Ideal) ℓ) (c : Dev KernelIdeal.nD) : KernelIdeal.S32768x2048.Idx → EReal :=
  m (c.tc.loc KernelIdeal.main_arg0)

/-- What the value claim's precondition says, in the proof's words. -/
theorem parts {m : (ℓ : Loc KernelIdeal.nD KernelIdeal.τ KernelIdeal.sig) → Buf (Elt Ideal) ℓ}
    (h : Cert.Pre_KernelIdeal_inputs_ok (hPre_inputs_ok := Cert.Pre_inputs_ok.Gen.facts) m) (c : Dev KernelIdeal.nD) :
    Visits.E (PreDecode.sizes (Cert.KernelIdeal.Gen.gsOf m c)) 7 = 32768
    ∧ (∀ i : KernelIdeal.S8x64x6144.Idx, 1 ≤ ((m (c.tc.loc KernelIdeal.main_arg3) : KernelIdeal.S8x64x6144.Idx → BitVec 8) i).toNat
        ∧ ((m (c.tc.loc KernelIdeal.main_arg3) : KernelIdeal.S8x64x6144.Idx → BitVec 8) i).toNat ≤ 254)
    ∧ ∀ i : KernelIdeal.S32768x2048.Idx, Ideal.cmp .olt (max (xOf m c i) (-xOf m c i)) (Ideal.ofBits .f32 0x7F800000#32) = 1#1 :=
  letI := Cert.Pre_inputs_ok.Gen.facts
  PreDecode.inputs_parts _ _ _ _ (h c)

theorem frame_ki' : Cert.quiescent_KernelIdeal_pre_inputs_ok (hKernelIdeal := Cert.KernelIdeal.Gen.facts) (hPre_inputs_ok := Cert.Pre_inputs_ok.Gen.facts) := fun m g h =>
  Cert.KernelIdeal.Gen.frame m g fun c => (parts h c).1

theorem frame_ri' : Cert.quiescent_ReferenceIdeal_pre_inputs_ok (hReferenceIdeal := Cert.ReferenceIdeal.Gen.facts) (hPre_inputs_ok := Cert.Pre_inputs_ok.Gen.facts) := fun m g _ =>
  (θ_run _ _ _).mono (fun r h => ⟨fun c => (h c).2, sem_eq_zero_of_no_sems rfl _⟩) (Cert.ReferenceIdeal.Value.run (F := Ideal) m g)

/-- Over the exact reals the kernel and the reference leave one result. -/
theorem same : Cert.algebraic_KernelIdeal_ReferenceIdeal_pre_inputs_ok (hKernelIdeal := Cert.KernelIdeal.Gen.facts)
    (hReferenceIdeal := Cert.ReferenceIdeal.Gen.facts) (hPre_inputs_ok := Cert.Pre_inputs_ok.Gen.facts) := by
  intro m g m' g' h hm
  refine ⟨fun c => RefOut.layers (StableHlo.launchContents m' c), ?_, ?_⟩
  · refine (θ_run _ _ _).mono (fun r hr c => ⟨?_, (hr c).2⟩) (Cert.KernelIdeal.Gen.value m g (fun c => (parts h c).1)
      fun c j => Match.finite_of ((parts h c).2.2 j))
    have hp := parts h c
    have hc := hm c
    have hgs : RefOut.gsV (StableHlo.launchContents m' c) = Cert.KernelIdeal.Gen.gsOf m c := hc.2.1
    refine funext fun (j : KernelIdeal.S32768x6144.Idx) => ?_
    obtain ⟨row, n, rfl⟩ : ∃ row n, j = ValueIdx.ix2 row n := ⟨j 0, j 1, ValueIdx.eq_ix2 j⟩
    obtain ⟨e, he, h1, h2⟩ := Match.expert_exists (PreDecode.sizes (Cert.KernelIdeal.Gen.gsOf m c)) row.val 7
      (lt_of_lt_of_eq row.isLt hp.1.symm)
    refine ((hr c).1 row n ⟨e, by omega⟩ h1 h2).trans ?_
    refine Eq.symm ((RefOut.out_at (StableHlo.launchContents m' c) ?_ row n ⟨e, by omega⟩ ?_ ?_).trans ?_)
    · rw [hgs]; exact hp.1
    · rw [hgs]; exact h1
    · rw [hgs]; exact h2
    · exact Match.dot_eq (StableHlo.launchContents m' c) _ _ _ hc.1 hc.2.2.1 hc.2.2.2 (fun j => Match.finite_of (hp.2.2 j)) hp.2.1 row n _
  · exact RefOut.run_layers m' g'

theorem claim : Cert.Claim := ⟨Cert.Kernel.Gen.facts, Cert.KernelIdeal.Gen.facts, Cert.ReferenceIdeal.Gen.facts, Cert.Pre_groups_ok.Gen.facts,
  Cert.Pre_inputs_ok.Gen.facts, frame_k, frame_ki, frame_ki', frame_ri, frame_ri', trivial, same⟩

end Cert.Proof

end
